-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 2048]⟩ ⟨2, ![1024, 65536]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 2048]⟩ ⟨2, ![1024, 65536]⟩ 1 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![2048, 1024]⟩ ⟨2, ![65536, 1024]⟩ 0 32 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x1024 : Shape := ⟨2, ![1024, 1024]⟩
abbrev S1024x2048 : Shape := ⟨2, ![1024, 2048]⟩
abbrev S2048x1024 : Shape := ⟨2, ![2048, 1024]⟩
abbrev S32x32x1024 : Shape := ⟨3, ![32, 32, 1024]⟩
abbrev S32 : Shape := ⟨1, ![32]⟩
abbrev S_ : Shape := ⟨0, ![]⟩
abbrev S256x2048 : Shape := ⟨2, ![256, 2048]⟩
abbrev S256x1024 : Shape := ⟨2, ![256, 1024]⟩
abbrev S1 : Shape := ⟨1, ![1]⟩
abbrev S1x32x1024 : Shape := ⟨3, ![1, 32, 1024]⟩
abbrev S32x1024 : Shape := ⟨2, ![32, 1024]⟩

abbrev nBuf : Space → Nat
  | .hbm => 5
  | .vmem => 7
  | .smem => 0
  | _ => 0

abbrev bufTy : (tb : Table) → Fin (tcTables nBuf tb) → BufTy
  | .hbm, ⟨0, _⟩ => ⟨S1024x1024, .bf16⟩
  | .hbm, ⟨1, _⟩ => ⟨S1024x2048, .bf16⟩
  | .hbm, ⟨2, _⟩ => ⟨S1024x2048, .bf16⟩
  | .hbm, ⟨3, _⟩ => ⟨S2048x1024, .bf16⟩
  | .hbm, ⟨4, _⟩ => ⟨S1024x1024, .bf16⟩
  | .local _ .vmem, ⟨0, _⟩ => ⟨S1024x1024, .bf16⟩
  | .local _ .vmem, ⟨1, _⟩ => ⟨S1024x2048, .bf16⟩
  | .local _ .vmem, ⟨2, _⟩ => ⟨S1024x2048, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S32x32x1024, .bf16⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 101 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | _ => false

abbrev sig : RefSig :=
  (ofTc nBuf bufTy 1 101 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let v5 : BitVec 32 := Scalar.remsi v4 c32_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v8 : BitVec 32 := Scalar.addi v2 c2_i32
  let c32_i32_4 : BitVec 32 := 32#32
  let v9 : BitVec 32 := Scalar.remsi v8 c32_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v12 : BitVec 32 := Scalar.addi v2 c3_i32
  let c32_i32_8 : BitVec 32 := 32#32
  let v13 : BitVec 32 := Scalar.remsi v12 c32_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 32 := Scalar.addi v2 c4_i32
  let c32_i32_12 : BitVec 32 := 32#32
  let v17 : BitVec 32 := Scalar.remsi v16 c32_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v20 : BitVec 32 := Scalar.addi v2 c5_i32
  let c32_i32_16 : BitVec 32 := 32#32
  let v21 : BitVec 32 := Scalar.remsi v20 c32_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v24 : BitVec 32 := Scalar.addi v2 c6_i32
  let c32_i32_20 : BitVec 32 := 32#32
  let v25 : BitVec 32 := Scalar.remsi v24 c32_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v28 : BitVec 32 := Scalar.addi v2 c7_i32
  let c32_i32_24 : BitVec 32 := 32#32
  let v29 : BitVec 32 := Scalar.remsi v28 c32_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v32 : BitVec 32 := Scalar.addi v2 c8_i32
  let c32_i32_28 : BitVec 32 := 32#32
  let v33 : BitVec 32 := Scalar.remsi v32 c32_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v36 : BitVec 32 := Scalar.addi v2 c9_i32
  let c32_i32_32 : BitVec 32 := 32#32
  let v37 : BitVec 32 := Scalar.remsi v36 c32_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v40 : BitVec 32 := Scalar.addi v2 c10_i32
  let c32_i32_36 : BitVec 32 := 32#32
  let v41 : BitVec 32 := Scalar.remsi v40 c32_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v44 : BitVec 32 := Scalar.addi v2 c11_i32
  let c32_i32_40 : BitVec 32 := 32#32
  let v45 : BitVec 32 := Scalar.remsi v44 c32_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v48 : BitVec 32 := Scalar.addi v2 c12_i32
  let c32_i32_44 : BitVec 32 := 32#32
  let v49 : BitVec 32 := Scalar.remsi v48 c32_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v52 : BitVec 32 := Scalar.addi v2 c13_i32
  let c32_i32_48 : BitVec 32 := 32#32
  let v53 : BitVec 32 := Scalar.remsi v52 c32_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v56 : BitVec 32 := Scalar.addi v2 c14_i32
  let c32_i32_52 : BitVec 32 := 32#32
  let v57 : BitVec 32 := Scalar.remsi v56 c32_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v60 : BitVec 32 := Scalar.addi v2 c15_i32
  let c32_i32_56 : BitVec 32 := 32#32
  let v61 : BitVec 32 := Scalar.remsi v60 c32_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v64 : BitVec 32 := Scalar.addi v2 c16_i32
  let c32_i32_60 : BitVec 32 := 32#32
  let v65 : BitVec 32 := Scalar.remsi v64 c32_i32_60
  let c1_i32_62 : BitVec 32 := 1#32
  let v66 : BitVec 32 := Scalar.muli v65 c1_i32_62
  let v67 : BitVec 32 := Scalar.addi c0_i32_63 v66
  v67.toNat
def k0_dev17 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v68 : BitVec 32 := Scalar.addi v2 c17_i32
  let c32_i32_64 : BitVec 32 := 32#32
  let v69 : BitVec 32 := Scalar.remsi v68 c32_i32_64
  let c1_i32_66 : BitVec 32 := 1#32
  let v70 : BitVec 32 := Scalar.muli v69 c1_i32_66
  let v71 : BitVec 32 := Scalar.addi c0_i32_67 v70
  v71.toNat
def k0_dev18 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v72 : BitVec 32 := Scalar.addi v2 c18_i32
  let c32_i32_68 : BitVec 32 := 32#32
  let v73 : BitVec 32 := Scalar.remsi v72 c32_i32_68
  let c1_i32_70 : BitVec 32 := 1#32
  let v74 : BitVec 32 := Scalar.muli v73 c1_i32_70
  let v75 : BitVec 32 := Scalar.addi c0_i32_71 v74
  v75.toNat
def k0_dev19 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v76 : BitVec 32 := Scalar.addi v2 c19_i32
  let c32_i32_72 : BitVec 32 := 32#32
  let v77 : BitVec 32 := Scalar.remsi v76 c32_i32_72
  let c1_i32_74 : BitVec 32 := 1#32
  let v78 : BitVec 32 := Scalar.muli v77 c1_i32_74
  let v79 : BitVec 32 := Scalar.addi c0_i32_75 v78
  v79.toNat
def k0_dev20 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v80 : BitVec 32 := Scalar.addi v2 c20_i32
  let c32_i32_76 : BitVec 32 := 32#32
  let v81 : BitVec 32 := Scalar.remsi v80 c32_i32_76
  let c1_i32_78 : BitVec 32 := 1#32
  let v82 : BitVec 32 := Scalar.muli v81 c1_i32_78
  let v83 : BitVec 32 := Scalar.addi c0_i32_79 v82
  v83.toNat
def k0_dev21 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v84 : BitVec 32 := Scalar.addi v2 c21_i32
  let c32_i32_80 : BitVec 32 := 32#32
  let v85 : BitVec 32 := Scalar.remsi v84 c32_i32_80
  let c1_i32_82 : BitVec 32 := 1#32
  let v86 : BitVec 32 := Scalar.muli v85 c1_i32_82
  let v87 : BitVec 32 := Scalar.addi c0_i32_83 v86
  v87.toNat
def k0_dev22 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v88 : BitVec 32 := Scalar.addi v2 c22_i32
  let c32_i32_84 : BitVec 32 := 32#32
  let v89 : BitVec 32 := Scalar.remsi v88 c32_i32_84
  let c1_i32_86 : BitVec 32 := 1#32
  let v90 : BitVec 32 := Scalar.muli v89 c1_i32_86
  let v91 : BitVec 32 := Scalar.addi c0_i32_87 v90
  v91.toNat
def k0_dev23 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v92 : BitVec 32 := Scalar.addi v2 c23_i32
  let c32_i32_88 : BitVec 32 := 32#32
  let v93 : BitVec 32 := Scalar.remsi v92 c32_i32_88
  let c1_i32_90 : BitVec 32 := 1#32
  let v94 : BitVec 32 := Scalar.muli v93 c1_i32_90
  let v95 : BitVec 32 := Scalar.addi c0_i32_91 v94
  v95.toNat
def k0_dev24 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v96 : BitVec 32 := Scalar.addi v2 c24_i32
  let c32_i32_92 : BitVec 32 := 32#32
  let v97 : BitVec 32 := Scalar.remsi v96 c32_i32_92
  let c1_i32_94 : BitVec 32 := 1#32
  let v98 : BitVec 32 := Scalar.muli v97 c1_i32_94
  let v99 : BitVec 32 := Scalar.addi c0_i32_95 v98
  v99.toNat
def k0_dev25 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v100 : BitVec 32 := Scalar.addi v2 c25_i32
  let c32_i32_96 : BitVec 32 := 32#32
  let v101 : BitVec 32 := Scalar.remsi v100 c32_i32_96
  let c1_i32_98 : BitVec 32 := 1#32
  let v102 : BitVec 32 := Scalar.muli v101 c1_i32_98
  let v103 : BitVec 32 := Scalar.addi c0_i32_99 v102
  v103.toNat
def k0_dev26 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v104 : BitVec 32 := Scalar.addi v2 c26_i32
  let c32_i32_100 : BitVec 32 := 32#32
  let v105 : BitVec 32 := Scalar.remsi v104 c32_i32_100
  let c1_i32_102 : BitVec 32 := 1#32
  let v106 : BitVec 32 := Scalar.muli v105 c1_i32_102
  let v107 : BitVec 32 := Scalar.addi c0_i32_103 v106
  v107.toNat
def k0_dev27 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v108 : BitVec 32 := Scalar.addi v2 c27_i32
  let c32_i32_104 : BitVec 32 := 32#32
  let v109 : BitVec 32 := Scalar.remsi v108 c32_i32_104
  let c1_i32_106 : BitVec 32 := 1#32
  let v110 : BitVec 32 := Scalar.muli v109 c1_i32_106
  let v111 : BitVec 32 := Scalar.addi c0_i32_107 v110
  v111.toNat
def k0_dev28 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v112 : BitVec 32 := Scalar.addi v2 c28_i32
  let c32_i32_108 : BitVec 32 := 32#32
  let v113 : BitVec 32 := Scalar.remsi v112 c32_i32_108
  let c1_i32_110 : BitVec 32 := 1#32
  let v114 : BitVec 32 := Scalar.muli v113 c1_i32_110
  let v115 : BitVec 32 := Scalar.addi c0_i32_111 v114
  v115.toNat
def k0_dev29 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v116 : BitVec 32 := Scalar.addi v2 c29_i32
  let c32_i32_112 : BitVec 32 := 32#32
  let v117 : BitVec 32 := Scalar.remsi v116 c32_i32_112
  let c1_i32_114 : BitVec 32 := 1#32
  let v118 : BitVec 32 := Scalar.muli v117 c1_i32_114
  let v119 : BitVec 32 := Scalar.addi c0_i32_115 v118
  v119.toNat
def k0_dev30 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v120 : BitVec 32 := Scalar.addi v2 c30_i32
  let c32_i32_116 : BitVec 32 := 32#32
  let v121 : BitVec 32 := Scalar.remsi v120 c32_i32_116
  let c1_i32_118 : BitVec 32 := 1#32
  let v122 : BitVec 32 := Scalar.muli v121 c1_i32_118
  let v123 : BitVec 32 := Scalar.addi c0_i32_119 v122
  v123.toNat
def k0_dev31 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v124 : BitVec 32 := Scalar.addi v2 c31_i32
  let c32_i32_120 : BitVec 32 := 32#32
  let v125 : BitVec 32 := Scalar.remsi v124 c32_i32_120
  let c1_i32_122 : BitVec 32 := 1#32
  let v126 : BitVec 32 := Scalar.muli v125 c1_i32_122
  let v127 : BitVec 32 := Scalar.addi c0_i32_123 v126
  v127.toNat
def k0_cond1 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_138 : BitVec 32 := 0#32
  let v150 : BitVec 1 := Scalar.cmpi .ne v2 c0_i32_138
  let v151 : BitVec 32 := Scalar.extui v150
  let c0_i32_139 : BitVec 32 := 0#32
  let v152 : BitVec 1 := Scalar.cmpi .ne v151 c0_i32_139
  v152

def k0_off1 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_544 : BitVec 32 := 0#32
  let c0_i32_545 : BitVec 32 := 0#32
  ![v2.toNat, 0, 0]
def k0_dev32 : Nat :=
  let c0_i32_543 : BitVec 32 := 0#32
  let c0_i32_541 : BitVec 32 := 0#32
  let c1_i32_542 : BitVec 32 := 1#32
  let v757 : BitVec 32 := Scalar.muli c0_i32_541 c1_i32_542
  let v758 : BitVec 32 := Scalar.addi c0_i32_543 v757
  v758.toNat
def k0_cond3 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_142 : BitVec 32 := 1#32
  let v156 : BitVec 1 := Scalar.cmpi .ne v2 c1_i32_142
  let v157 : BitVec 32 := Scalar.extui v156
  let c0_i32_143 : BitVec 32 := 0#32
  let v158 : BitVec 1 := Scalar.cmpi .ne v157 c0_i32_143
  v158

def k0_off3 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_544 : BitVec 32 := 0#32
  let c0_i32_545 : BitVec 32 := 0#32
  ![v2.toNat, 0, 0]
def k0_dev33 : Nat :=
  let c0_i32_543 : BitVec 32 := 0#32
  let c1_i32_541 : BitVec 32 := 1#32
  let c1_i32_542 : BitVec 32 := 1#32
  let v757 : BitVec 32 := Scalar.muli c1_i32_541 c1_i32_542
  let v758 : BitVec 32 := Scalar.addi c0_i32_543 v757
  v758.toNat
def k0_cond5 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_146 : BitVec 32 := 2#32
  let v162 : BitVec 1 := Scalar.cmpi .ne v2 c2_i32_146
  let v163 : BitVec 32 := Scalar.extui v162
  let c0_i32_147 : BitVec 32 := 0#32
  let v164 : BitVec 1 := Scalar.cmpi .ne v163 c0_i32_147
  v164

def k0_off5 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off6 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_544 : BitVec 32 := 0#32
  let c0_i32_545 : BitVec 32 := 0#32
  ![v2.toNat, 0, 0]
def k0_dev34 : Nat :=
  let c0_i32_543 : BitVec 32 := 0#32
  let c2_i32_541 : BitVec 32 := 2#32
  let c1_i32_542 : BitVec 32 := 1#32
  let v757 : BitVec 32 := Scalar.muli c2_i32_541 c1_i32_542
  let v758 : BitVec 32 := Scalar.addi c0_i32_543 v757
  v758.toNat
def k0_cond7 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_150 : BitVec 32 := 3#32
  let v168 : BitVec 1 := Scalar.cmpi .ne v2 c3_i32_150
  let v169 : BitVec 32 := Scalar.extui v168
  let c0_i32_151 : BitVec 32 := 0#32
  let v170 : BitVec 1 := Scalar.cmpi .ne v169 c0_i32_151
  v170

def k0_off7 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off8 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_544 : BitVec 32 := 0#32
  let c0_i32_545 : BitVec 32 := 0#32
  ![v2.toNat, 0, 0]
def k0_dev35 : Nat :=
  let c0_i32_543 : BitVec 32 := 0#32
  let c3_i32_541 : BitVec 32 := 3#32
  let c1_i32_542 : BitVec 32 := 1#32
  let v757 : BitVec 32 := Scalar.muli c3_i32_541 c1_i32_542
  let v758 : BitVec 32 := Scalar.addi c0_i32_543 v757
  v758.toNat
def k0_cond9 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_154 : BitVec 32 := 4#32
  let v174 : BitVec 1 := Scalar.cmpi .ne v2 c4_i32_154
  let v175 : BitVec 32 := Scalar.extui v174
  let c0_i32_155 : BitVec 32 := 0#32
  let v176 : BitVec 1 := Scalar.cmpi .ne v175 c0_i32_155
  v176

def k0_off9 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off10 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_544 : BitVec 32 := 0#32
  let c0_i32_545 : BitVec 32 := 0#32
  ![v2.toNat, 0, 0]
def k0_dev36 : Nat :=
  let c0_i32_543 : BitVec 32 := 0#32
  let c4_i32_541 : BitVec 32 := 4#32
  let c1_i32_542 : BitVec 32 := 1#32
  let v757 : BitVec 32 := Scalar.muli c4_i32_541 c1_i32_542
  let v758 : BitVec 32 := Scalar.addi c0_i32_543 v757
  v758.toNat
def k0_cond11 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_158 : BitVec 32 := 5#32
  let v180 : BitVec 1 := Scalar.cmpi .ne v2 c5_i32_158
  let v181 : BitVec 32 := Scalar.extui v180
  let c0_i32_159 : BitVec 32 := 0#32
  let v182 : BitVec 1 := Scalar.cmpi .ne v181 c0_i32_159
  v182

def k0_off11 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off12 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_544 : BitVec 32 := 0#32
  let c0_i32_545 : BitVec 32 := 0#32
  ![v2.toNat, 0, 0]
def k0_dev37 : Nat :=
  let c0_i32_543 : BitVec 32 := 0#32
  let c5_i32_541 : BitVec 32 := 5#32
  let c1_i32_542 : BitVec 32 := 1#32
  let v757 : BitVec 32 := Scalar.muli c5_i32_541 c1_i32_542
  let v758 : BitVec 32 := Scalar.addi c0_i32_543 v757
  v758.toNat
def k0_cond13 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_162 : BitVec 32 := 6#32
  let v186 : BitVec 1 := Scalar.cmpi .ne v2 c6_i32_162
  let v187 : BitVec 32 := Scalar.extui v186
  let c0_i32_163 : BitVec 32 := 0#32
  let v188 : BitVec 1 := Scalar.cmpi .ne v187 c0_i32_163
  v188

def k0_off13 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off14 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_544 : BitVec 32 := 0#32
  let c0_i32_545 : BitVec 32 := 0#32
  ![v2.toNat, 0, 0]
def k0_dev38 : Nat :=
  let c0_i32_543 : BitVec 32 := 0#32
  let c6_i32_541 : BitVec 32 := 6#32
  let c1_i32_542 : BitVec 32 := 1#32
  let v757 : BitVec 32 := Scalar.muli c6_i32_541 c1_i32_542
  let v758 : BitVec 32 := Scalar.addi c0_i32_543 v757
  v758.toNat
def k0_cond15 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_166 : BitVec 32 := 7#32
  let v192 : BitVec 1 := Scalar.cmpi .ne v2 c7_i32_166
  let v193 : BitVec 32 := Scalar.extui v192
  let c0_i32_167 : BitVec 32 := 0#32
  let v194 : BitVec 1 := Scalar.cmpi .ne v193 c0_i32_167
  v194

def k0_off15 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off16 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_544 : BitVec 32 := 0#32
  let c0_i32_545 : BitVec 32 := 0#32
  ![v2.toNat, 0, 0]
def k0_dev39 : Nat :=
  let c0_i32_543 : BitVec 32 := 0#32
  let c7_i32_541 : BitVec 32 := 7#32
  let c1_i32_542 : BitVec 32 := 1#32
  let v757 : BitVec 32 := Scalar.muli c7_i32_541 c1_i32_542
  let v758 : BitVec 32 := Scalar.addi c0_i32_543 v757
  v758.toNat
def k0_cond17 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_174 : BitVec 32 := 8#32
  let v206 : BitVec 1 := Scalar.cmpi .ne v2 c8_i32_174
  let v207 : BitVec 32 := Scalar.extui v206
  let c0_i32_175 : BitVec 32 := 0#32
  let v208 : BitVec 1 := Scalar.cmpi .ne v207 c0_i32_175
  v208

def k0_off17 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off18 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_544 : BitVec 32 := 0#32
  let c0_i32_545 : BitVec 32 := 0#32
  ![v2.toNat, 0, 0]
def k0_dev40 : Nat :=
  let c0_i32_543 : BitVec 32 := 0#32
  let c8_i32_541 : BitVec 32 := 8#32
  let c1_i32_542 : BitVec 32 := 1#32
  let v757 : BitVec 32 := Scalar.muli c8_i32_541 c1_i32_542
  let v758 : BitVec 32 := Scalar.addi c0_i32_543 v757
  v758.toNat
def k0_cond19 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_178 : BitVec 32 := 9#32
  let v212 : BitVec 1 := Scalar.cmpi .ne v2 c9_i32_178
  let v213 : BitVec 32 := Scalar.extui v212
  let c0_i32_179 : BitVec 32 := 0#32
  let v214 : BitVec 1 := Scalar.cmpi .ne v213 c0_i32_179
  v214

def k0_off19 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off20 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_544 : BitVec 32 := 0#32
  let c0_i32_545 : BitVec 32 := 0#32
  ![v2.toNat, 0, 0]
def k0_dev41 : Nat :=
  let c0_i32_543 : BitVec 32 := 0#32
  let c9_i32_541 : BitVec 32 := 9#32
  let c1_i32_542 : BitVec 32 := 1#32
  let v757 : BitVec 32 := Scalar.muli c9_i32_541 c1_i32_542
  let v758 : BitVec 32 := Scalar.addi c0_i32_543 v757
  v758.toNat
def k0_cond21 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_182 : BitVec 32 := 10#32
  let v218 : BitVec 1 := Scalar.cmpi .ne v2 c10_i32_182
  let v219 : BitVec 32 := Scalar.extui v218
  let c0_i32_183 : BitVec 32 := 0#32
  let v220 : BitVec 1 := Scalar.cmpi .ne v219 c0_i32_183
  v220

def k0_off21 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off22 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_544 : BitVec 32 := 0#32
  let c0_i32_545 : BitVec 32 := 0#32
  ![v2.toNat, 0, 0]
def k0_dev42 : Nat :=
  let c0_i32_543 : BitVec 32 := 0#32
  let c10_i32_541 : BitVec 32 := 10#32
  let c1_i32_542 : BitVec 32 := 1#32
  let v757 : BitVec 32 := Scalar.muli c10_i32_541 c1_i32_542
  let v758 : BitVec 32 := Scalar.addi c0_i32_543 v757
  v758.toNat
def k0_cond23 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_186 : BitVec 32 := 11#32
  let v224 : BitVec 1 := Scalar.cmpi .ne v2 c11_i32_186
  let v225 : BitVec 32 := Scalar.extui v224
  let c0_i32_187 : BitVec 32 := 0#32
  let v226 : BitVec 1 := Scalar.cmpi .ne v225 c0_i32_187
  v226

def k0_off23 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off24 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_544 : BitVec 32 := 0#32
  let c0_i32_545 : BitVec 32 := 0#32
  ![v2.toNat, 0, 0]
def k0_dev43 : Nat :=
  let c0_i32_543 : BitVec 32 := 0#32
  let c11_i32_541 : BitVec 32 := 11#32
  let c1_i32_542 : BitVec 32 := 1#32
  let v757 : BitVec 32 := Scalar.muli c11_i32_541 c1_i32_542
  let v758 : BitVec 32 := Scalar.addi c0_i32_543 v757
  v758.toNat
def k0_cond25 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_190 : BitVec 32 := 12#32
  let v230 : BitVec 1 := Scalar.cmpi .ne v2 c12_i32_190
  let v231 : BitVec 32 := Scalar.extui v230
  let c0_i32_191 : BitVec 32 := 0#32
  let v232 : BitVec 1 := Scalar.cmpi .ne v231 c0_i32_191
  v232

def k0_off25 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off26 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_544 : BitVec 32 := 0#32
  let c0_i32_545 : BitVec 32 := 0#32
  ![v2.toNat, 0, 0]
def k0_dev44 : Nat :=
  let c0_i32_543 : BitVec 32 := 0#32
  let c12_i32_541 : BitVec 32 := 12#32
  let c1_i32_542 : BitVec 32 := 1#32
  let v757 : BitVec 32 := Scalar.muli c12_i32_541 c1_i32_542
  let v758 : BitVec 32 := Scalar.addi c0_i32_543 v757
  v758.toNat
def k0_cond27 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_194 : BitVec 32 := 13#32
  let v236 : BitVec 1 := Scalar.cmpi .ne v2 c13_i32_194
  let v237 : BitVec 32 := Scalar.extui v236
  let c0_i32_195 : BitVec 32 := 0#32
  let v238 : BitVec 1 := Scalar.cmpi .ne v237 c0_i32_195
  v238

def k0_off27 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off28 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_544 : BitVec 32 := 0#32
  let c0_i32_545 : BitVec 32 := 0#32
  ![v2.toNat, 0, 0]
def k0_dev45 : Nat :=
  let c0_i32_543 : BitVec 32 := 0#32
  let c13_i32_541 : BitVec 32 := 13#32
  let c1_i32_542 : BitVec 32 := 1#32
  let v757 : BitVec 32 := Scalar.muli c13_i32_541 c1_i32_542
  let v758 : BitVec 32 := Scalar.addi c0_i32_543 v757
  v758.toNat
def k0_cond29 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_198 : BitVec 32 := 14#32
  let v242 : BitVec 1 := Scalar.cmpi .ne v2 c14_i32_198
  let v243 : BitVec 32 := Scalar.extui v242
  let c0_i32_199 : BitVec 32 := 0#32
  let v244 : BitVec 1 := Scalar.cmpi .ne v243 c0_i32_199
  v244

def k0_off29 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off30 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_544 : BitVec 32 := 0#32
  let c0_i32_545 : BitVec 32 := 0#32
  ![v2.toNat, 0, 0]
def k0_dev46 : Nat :=
  let c0_i32_543 : BitVec 32 := 0#32
  let c14_i32_541 : BitVec 32 := 14#32
  let c1_i32_542 : BitVec 32 := 1#32
  let v757 : BitVec 32 := Scalar.muli c14_i32_541 c1_i32_542
  let v758 : BitVec 32 := Scalar.addi c0_i32_543 v757
  v758.toNat
def k0_cond31 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_202 : BitVec 32 := 15#32
  let v248 : BitVec 1 := Scalar.cmpi .ne v2 c15_i32_202
  let v249 : BitVec 32 := Scalar.extui v248
  let c0_i32_203 : BitVec 32 := 0#32
  let v250 : BitVec 1 := Scalar.cmpi .ne v249 c0_i32_203
  v250

def k0_off31 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off32 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_544 : BitVec 32 := 0#32
  let c0_i32_545 : BitVec 32 := 0#32
  ![v2.toNat, 0, 0]
def k0_dev47 : Nat :=
  let c0_i32_543 : BitVec 32 := 0#32
  let c15_i32_541 : BitVec 32 := 15#32
  let c1_i32_542 : BitVec 32 := 1#32
  let v757 : BitVec 32 := Scalar.muli c15_i32_541 c1_i32_542
  let v758 : BitVec 32 := Scalar.addi c0_i32_543 v757
  v758.toNat
def k0_cond33 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_210 : BitVec 32 := 16#32
  let v262 : BitVec 1 := Scalar.cmpi .ne v2 c16_i32_210
  let v263 : BitVec 32 := Scalar.extui v262
  let c0_i32_211 : BitVec 32 := 0#32
  let v264 : BitVec 1 := Scalar.cmpi .ne v263 c0_i32_211
  v264

def k0_off33 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off34 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_544 : BitVec 32 := 0#32
  let c0_i32_545 : BitVec 32 := 0#32
  ![v2.toNat, 0, 0]
def k0_dev48 : Nat :=
  let c0_i32_543 : BitVec 32 := 0#32
  let c16_i32_541 : BitVec 32 := 16#32
  let c1_i32_542 : BitVec 32 := 1#32
  let v757 : BitVec 32 := Scalar.muli c16_i32_541 c1_i32_542
  let v758 : BitVec 32 := Scalar.addi c0_i32_543 v757
  v758.toNat
def k0_cond35 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_214 : BitVec 32 := 17#32
  let v268 : BitVec 1 := Scalar.cmpi .ne v2 c17_i32_214
  let v269 : BitVec 32 := Scalar.extui v268
  let c0_i32_215 : BitVec 32 := 0#32
  let v270 : BitVec 1 := Scalar.cmpi .ne v269 c0_i32_215
  v270

def k0_off35 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off36 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_544 : BitVec 32 := 0#32
  let c0_i32_545 : BitVec 32 := 0#32
  ![v2.toNat, 0, 0]
def k0_dev49 : Nat :=
  let c0_i32_543 : BitVec 32 := 0#32
  let c17_i32_541 : BitVec 32 := 17#32
  let c1_i32_542 : BitVec 32 := 1#32
  let v757 : BitVec 32 := Scalar.muli c17_i32_541 c1_i32_542
  let v758 : BitVec 32 := Scalar.addi c0_i32_543 v757
  v758.toNat
def k0_cond37 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_218 : BitVec 32 := 18#32
  let v274 : BitVec 1 := Scalar.cmpi .ne v2 c18_i32_218
  let v275 : BitVec 32 := Scalar.extui v274
  let c0_i32_219 : BitVec 32 := 0#32
  let v276 : BitVec 1 := Scalar.cmpi .ne v275 c0_i32_219
  v276

def k0_off37 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off38 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_544 : BitVec 32 := 0#32
  let c0_i32_545 : BitVec 32 := 0#32
  ![v2.toNat, 0, 0]
def k0_dev50 : Nat :=
  let c0_i32_543 : BitVec 32 := 0#32
  let c18_i32_541 : BitVec 32 := 18#32
  let c1_i32_542 : BitVec 32 := 1#32
  let v757 : BitVec 32 := Scalar.muli c18_i32_541 c1_i32_542
  let v758 : BitVec 32 := Scalar.addi c0_i32_543 v757
  v758.toNat
def k0_cond39 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_222 : BitVec 32 := 19#32
  let v280 : BitVec 1 := Scalar.cmpi .ne v2 c19_i32_222
  let v281 : BitVec 32 := Scalar.extui v280
  let c0_i32_223 : BitVec 32 := 0#32
  let v282 : BitVec 1 := Scalar.cmpi .ne v281 c0_i32_223
  v282

def k0_off39 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off40 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_544 : BitVec 32 := 0#32
  let c0_i32_545 : BitVec 32 := 0#32
  ![v2.toNat, 0, 0]
def k0_dev51 : Nat :=
  let c0_i32_543 : BitVec 32 := 0#32
  let c19_i32_541 : BitVec 32 := 19#32
  let c1_i32_542 : BitVec 32 := 1#32
  let v757 : BitVec 32 := Scalar.muli c19_i32_541 c1_i32_542
  let v758 : BitVec 32 := Scalar.addi c0_i32_543 v757
  v758.toNat
def k0_cond41 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_226 : BitVec 32 := 20#32
  let v286 : BitVec 1 := Scalar.cmpi .ne v2 c20_i32_226
  let v287 : BitVec 32 := Scalar.extui v286
  let c0_i32_227 : BitVec 32 := 0#32
  let v288 : BitVec 1 := Scalar.cmpi .ne v287 c0_i32_227
  v288

def k0_off41 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off42 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_544 : BitVec 32 := 0#32
  let c0_i32_545 : BitVec 32 := 0#32
  ![v2.toNat, 0, 0]
def k0_dev52 : Nat :=
  let c0_i32_543 : BitVec 32 := 0#32
  let c20_i32_541 : BitVec 32 := 20#32
  let c1_i32_542 : BitVec 32 := 1#32
  let v757 : BitVec 32 := Scalar.muli c20_i32_541 c1_i32_542
  let v758 : BitVec 32 := Scalar.addi c0_i32_543 v757
  v758.toNat
def k0_cond43 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_230 : BitVec 32 := 21#32
  let v292 : BitVec 1 := Scalar.cmpi .ne v2 c21_i32_230
  let v293 : BitVec 32 := Scalar.extui v292
  let c0_i32_231 : BitVec 32 := 0#32
  let v294 : BitVec 1 := Scalar.cmpi .ne v293 c0_i32_231
  v294

def k0_off43 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off44 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_544 : BitVec 32 := 0#32
  let c0_i32_545 : BitVec 32 := 0#32
  ![v2.toNat, 0, 0]
def k0_dev53 : Nat :=
  let c0_i32_543 : BitVec 32 := 0#32
  let c21_i32_541 : BitVec 32 := 21#32
  let c1_i32_542 : BitVec 32 := 1#32
  let v757 : BitVec 32 := Scalar.muli c21_i32_541 c1_i32_542
  let v758 : BitVec 32 := Scalar.addi c0_i32_543 v757
  v758.toNat
def k0_cond45 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_234 : BitVec 32 := 22#32
  let v298 : BitVec 1 := Scalar.cmpi .ne v2 c22_i32_234
  let v299 : BitVec 32 := Scalar.extui v298
  let c0_i32_235 : BitVec 32 := 0#32
  let v300 : BitVec 1 := Scalar.cmpi .ne v299 c0_i32_235
  v300

def k0_off45 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off46 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_544 : BitVec 32 := 0#32
  let c0_i32_545 : BitVec 32 := 0#32
  ![v2.toNat, 0, 0]
def k0_dev54 : Nat :=
  let c0_i32_543 : BitVec 32 := 0#32
  let c22_i32_541 : BitVec 32 := 22#32
  let c1_i32_542 : BitVec 32 := 1#32
  let v757 : BitVec 32 := Scalar.muli c22_i32_541 c1_i32_542
  let v758 : BitVec 32 := Scalar.addi c0_i32_543 v757
  v758.toNat
def k0_cond47 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_238 : BitVec 32 := 23#32
  let v304 : BitVec 1 := Scalar.cmpi .ne v2 c23_i32_238
  let v305 : BitVec 32 := Scalar.extui v304
  let c0_i32_239 : BitVec 32 := 0#32
  let v306 : BitVec 1 := Scalar.cmpi .ne v305 c0_i32_239
  v306

def k0_off47 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off48 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_544 : BitVec 32 := 0#32
  let c0_i32_545 : BitVec 32 := 0#32
  ![v2.toNat, 0, 0]
def k0_dev55 : Nat :=
  let c0_i32_543 : BitVec 32 := 0#32
  let c23_i32_541 : BitVec 32 := 23#32
  let c1_i32_542 : BitVec 32 := 1#32
  let v757 : BitVec 32 := Scalar.muli c23_i32_541 c1_i32_542
  let v758 : BitVec 32 := Scalar.addi c0_i32_543 v757
  v758.toNat
def k0_cond49 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_246 : BitVec 32 := 24#32
  let v318 : BitVec 1 := Scalar.cmpi .ne v2 c24_i32_246
  let v319 : BitVec 32 := Scalar.extui v318
  let c0_i32_247 : BitVec 32 := 0#32
  let v320 : BitVec 1 := Scalar.cmpi .ne v319 c0_i32_247
  v320

def k0_off49 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off50 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_544 : BitVec 32 := 0#32
  let c0_i32_545 : BitVec 32 := 0#32
  ![v2.toNat, 0, 0]
def k0_dev56 : Nat :=
  let c0_i32_543 : BitVec 32 := 0#32
  let c24_i32_541 : BitVec 32 := 24#32
  let c1_i32_542 : BitVec 32 := 1#32
  let v757 : BitVec 32 := Scalar.muli c24_i32_541 c1_i32_542
  let v758 : BitVec 32 := Scalar.addi c0_i32_543 v757
  v758.toNat
def k0_cond51 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_250 : BitVec 32 := 25#32
  let v324 : BitVec 1 := Scalar.cmpi .ne v2 c25_i32_250
  let v325 : BitVec 32 := Scalar.extui v324
  let c0_i32_251 : BitVec 32 := 0#32
  let v326 : BitVec 1 := Scalar.cmpi .ne v325 c0_i32_251
  v326

def k0_off51 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off52 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_544 : BitVec 32 := 0#32
  let c0_i32_545 : BitVec 32 := 0#32
  ![v2.toNat, 0, 0]
def k0_dev57 : Nat :=
  let c0_i32_543 : BitVec 32 := 0#32
  let c25_i32_541 : BitVec 32 := 25#32
  let c1_i32_542 : BitVec 32 := 1#32
  let v757 : BitVec 32 := Scalar.muli c25_i32_541 c1_i32_542
  let v758 : BitVec 32 := Scalar.addi c0_i32_543 v757
  v758.toNat
def k0_cond53 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_254 : BitVec 32 := 26#32
  let v330 : BitVec 1 := Scalar.cmpi .ne v2 c26_i32_254
  let v331 : BitVec 32 := Scalar.extui v330
  let c0_i32_255 : BitVec 32 := 0#32
  let v332 : BitVec 1 := Scalar.cmpi .ne v331 c0_i32_255
  v332

def k0_off53 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off54 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_544 : BitVec 32 := 0#32
  let c0_i32_545 : BitVec 32 := 0#32
  ![v2.toNat, 0, 0]
def k0_dev58 : Nat :=
  let c0_i32_543 : BitVec 32 := 0#32
  let c26_i32_541 : BitVec 32 := 26#32
  let c1_i32_542 : BitVec 32 := 1#32
  let v757 : BitVec 32 := Scalar.muli c26_i32_541 c1_i32_542
  let v758 : BitVec 32 := Scalar.addi c0_i32_543 v757
  v758.toNat
def k0_cond55 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_258 : BitVec 32 := 27#32
  let v336 : BitVec 1 := Scalar.cmpi .ne v2 c27_i32_258
  let v337 : BitVec 32 := Scalar.extui v336
  let c0_i32_259 : BitVec 32 := 0#32
  let v338 : BitVec 1 := Scalar.cmpi .ne v337 c0_i32_259
  v338

def k0_off55 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off56 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_544 : BitVec 32 := 0#32
  let c0_i32_545 : BitVec 32 := 0#32
  ![v2.toNat, 0, 0]
def k0_dev59 : Nat :=
  let c0_i32_543 : BitVec 32 := 0#32
  let c27_i32_541 : BitVec 32 := 27#32
  let c1_i32_542 : BitVec 32 := 1#32
  let v757 : BitVec 32 := Scalar.muli c27_i32_541 c1_i32_542
  let v758 : BitVec 32 := Scalar.addi c0_i32_543 v757
  v758.toNat
def k0_cond57 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_262 : BitVec 32 := 28#32
  let v342 : BitVec 1 := Scalar.cmpi .ne v2 c28_i32_262
  let v343 : BitVec 32 := Scalar.extui v342
  let c0_i32_263 : BitVec 32 := 0#32
  let v344 : BitVec 1 := Scalar.cmpi .ne v343 c0_i32_263
  v344

def k0_off57 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off58 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_544 : BitVec 32 := 0#32
  let c0_i32_545 : BitVec 32 := 0#32
  ![v2.toNat, 0, 0]
def k0_dev60 : Nat :=
  let c0_i32_543 : BitVec 32 := 0#32
  let c28_i32_541 : BitVec 32 := 28#32
  let c1_i32_542 : BitVec 32 := 1#32
  let v757 : BitVec 32 := Scalar.muli c28_i32_541 c1_i32_542
  let v758 : BitVec 32 := Scalar.addi c0_i32_543 v757
  v758.toNat
def k0_cond59 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_266 : BitVec 32 := 29#32
  let v348 : BitVec 1 := Scalar.cmpi .ne v2 c29_i32_266
  let v349 : BitVec 32 := Scalar.extui v348
  let c0_i32_267 : BitVec 32 := 0#32
  let v350 : BitVec 1 := Scalar.cmpi .ne v349 c0_i32_267
  v350

def k0_off59 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off60 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_544 : BitVec 32 := 0#32
  let c0_i32_545 : BitVec 32 := 0#32
  ![v2.toNat, 0, 0]
def k0_dev61 : Nat :=
  let c0_i32_543 : BitVec 32 := 0#32
  let c29_i32_541 : BitVec 32 := 29#32
  let c1_i32_542 : BitVec 32 := 1#32
  let v757 : BitVec 32 := Scalar.muli c29_i32_541 c1_i32_542
  let v758 : BitVec 32 := Scalar.addi c0_i32_543 v757
  v758.toNat
def k0_cond61 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_270 : BitVec 32 := 30#32
  let v354 : BitVec 1 := Scalar.cmpi .ne v2 c30_i32_270
  let v355 : BitVec 32 := Scalar.extui v354
  let c0_i32_271 : BitVec 32 := 0#32
  let v356 : BitVec 1 := Scalar.cmpi .ne v355 c0_i32_271
  v356

def k0_off61 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off62 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_544 : BitVec 32 := 0#32
  let c0_i32_545 : BitVec 32 := 0#32
  ![v2.toNat, 0, 0]
def k0_dev62 : Nat :=
  let c0_i32_543 : BitVec 32 := 0#32
  let c30_i32_541 : BitVec 32 := 30#32
  let c1_i32_542 : BitVec 32 := 1#32
  let v757 : BitVec 32 := Scalar.muli c30_i32_541 c1_i32_542
  let v758 : BitVec 32 := Scalar.addi c0_i32_543 v757
  v758.toNat
def k0_cond63 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_274 : BitVec 32 := 31#32
  let v360 : BitVec 1 := Scalar.cmpi .ne v2 c31_i32_274
  let v361 : BitVec 32 := Scalar.extui v360
  let c0_i32_275 : BitVec 32 := 0#32
  let v362 : BitVec 1 := Scalar.cmpi .ne v361 c0_i32_275
  v362

def k0_off63 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off64 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_544 : BitVec 32 := 0#32
  let c0_i32_545 : BitVec 32 := 0#32
  ![v2.toNat, 0, 0]
def k0_dev63 : Nat :=
  let c0_i32_543 : BitVec 32 := 0#32
  let c31_i32_541 : BitVec 32 := 31#32
  let c1_i32_542 : BitVec 32 := 1#32
  let v757 : BitVec 32 := Scalar.muli c31_i32_541 c1_i32_542
  let v758 : BitVec 32 := Scalar.addi c0_i32_543 v757
  v758.toNat
def k0_off65 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_346 : BitVec 32 := 32#32
  let v465 : BitVec 32 := Scalar.muli v2 c32_i32_346
  let v467 : Index := Scalar.indexCast v465
  let c0_347 : Index := 0#32
  ![v467.toNat, 0]
def k0_cond97 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_348 : BitVec 32 := 0#32
  let v469 : BitVec 1 := Scalar.cmpi .ne v2 c0_i32_348
  let v470 : BitVec 32 := Scalar.extui v469
  let c0_i32_349 : BitVec 32 := 0#32
  let v471 : BitVec 1 := Scalar.cmpi .ne v470 c0_i32_349
  v471

def k0_off66 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_545 : BitVec 32 := 0#32
  let c0_i32_546 : BitVec 32 := 0#32
  ![v2.toNat, 0, 0]
def k0_off67 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off68 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_346 : BitVec 32 := 32#32
  let v465 : BitVec 32 := Scalar.muli v2 c32_i32_346
  let c0_i32_551 : BitVec 32 := 0#32
  ![v465.toNat, 0]
def k0_dev64 : Nat :=
  let c0_i32_550 : BitVec 32 := 0#32
  let c0_i32_548 : BitVec 32 := 0#32
  let c1_i32_549 : BitVec 32 := 1#32
  let v762 : BitVec 32 := Scalar.muli c0_i32_548 c1_i32_549
  let v763 : BitVec 32 := Scalar.addi c0_i32_550 v762
  v763.toNat
def k0_cond98 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_350 : BitVec 32 := 1#32
  let v472 : BitVec 1 := Scalar.cmpi .ne v2 c1_i32_350
  let v473 : BitVec 32 := Scalar.extui v472
  let c0_i32_351 : BitVec 32 := 0#32
  let v474 : BitVec 1 := Scalar.cmpi .ne v473 c0_i32_351
  v474

def k0_off69 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_545 : BitVec 32 := 0#32
  let c0_i32_546 : BitVec 32 := 0#32
  ![v2.toNat, 0, 0]
def k0_off70 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off71 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_346 : BitVec 32 := 32#32
  let v465 : BitVec 32 := Scalar.muli v2 c32_i32_346
  let c0_i32_551 : BitVec 32 := 0#32
  ![v465.toNat, 0]
def k0_dev65 : Nat :=
  let c0_i32_550 : BitVec 32 := 0#32
  let c1_i32_548 : BitVec 32 := 1#32
  let c1_i32_549 : BitVec 32 := 1#32
  let v762 : BitVec 32 := Scalar.muli c1_i32_548 c1_i32_549
  let v763 : BitVec 32 := Scalar.addi c0_i32_550 v762
  v763.toNat
def k0_cond99 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_352 : BitVec 32 := 2#32
  let v475 : BitVec 1 := Scalar.cmpi .ne v2 c2_i32_352
  let v476 : BitVec 32 := Scalar.extui v475
  let c0_i32_353 : BitVec 32 := 0#32
  let v477 : BitVec 1 := Scalar.cmpi .ne v476 c0_i32_353
  v477

def k0_off72 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_544 : BitVec 32 := 0#32
  let c0_i32_545 : BitVec 32 := 0#32
  ![v2.toNat, 0, 0]
def k0_off73 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off74 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_346 : BitVec 32 := 32#32
  let v465 : BitVec 32 := Scalar.muli v2 c32_i32_346
  let c0_i32_550 : BitVec 32 := 0#32
  ![v465.toNat, 0]
def k0_dev66 : Nat :=
  let c0_i32_549 : BitVec 32 := 0#32
  let c2_i32_547 : BitVec 32 := 2#32
  let c1_i32_548 : BitVec 32 := 1#32
  let v762 : BitVec 32 := Scalar.muli c2_i32_547 c1_i32_548
  let v763 : BitVec 32 := Scalar.addi c0_i32_549 v762
  v763.toNat
def k0_cond100 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_354 : BitVec 32 := 3#32
  let v478 : BitVec 1 := Scalar.cmpi .ne v2 c3_i32_354
  let v479 : BitVec 32 := Scalar.extui v478
  let c0_i32_355 : BitVec 32 := 0#32
  let v480 : BitVec 1 := Scalar.cmpi .ne v479 c0_i32_355
  v480

def k0_off75 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_544 : BitVec 32 := 0#32
  let c0_i32_545 : BitVec 32 := 0#32
  ![v2.toNat, 0, 0]
def k0_off76 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off77 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_346 : BitVec 32 := 32#32
  let v465 : BitVec 32 := Scalar.muli v2 c32_i32_346
  let c0_i32_550 : BitVec 32 := 0#32
  ![v465.toNat, 0]
def k0_dev67 : Nat :=
  let c0_i32_549 : BitVec 32 := 0#32
  let c3_i32_547 : BitVec 32 := 3#32
  let c1_i32_548 : BitVec 32 := 1#32
  let v762 : BitVec 32 := Scalar.muli c3_i32_547 c1_i32_548
  let v763 : BitVec 32 := Scalar.addi c0_i32_549 v762
  v763.toNat
def k0_cond101 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_356 : BitVec 32 := 4#32
  let v481 : BitVec 1 := Scalar.cmpi .ne v2 c4_i32_356
  let v482 : BitVec 32 := Scalar.extui v481
  let c0_i32_357 : BitVec 32 := 0#32
  let v483 : BitVec 1 := Scalar.cmpi .ne v482 c0_i32_357
  v483

def k0_off78 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_544 : BitVec 32 := 0#32
  let c0_i32_545 : BitVec 32 := 0#32
  ![v2.toNat, 0, 0]
def k0_off79 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off80 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_346 : BitVec 32 := 32#32
  let v465 : BitVec 32 := Scalar.muli v2 c32_i32_346
  let c0_i32_550 : BitVec 32 := 0#32
  ![v465.toNat, 0]
def k0_dev68 : Nat :=
  let c0_i32_549 : BitVec 32 := 0#32
  let c4_i32_547 : BitVec 32 := 4#32
  let c1_i32_548 : BitVec 32 := 1#32
  let v762 : BitVec 32 := Scalar.muli c4_i32_547 c1_i32_548
  let v763 : BitVec 32 := Scalar.addi c0_i32_549 v762
  v763.toNat
def k0_cond102 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_358 : BitVec 32 := 5#32
  let v484 : BitVec 1 := Scalar.cmpi .ne v2 c5_i32_358
  let v485 : BitVec 32 := Scalar.extui v484
  let c0_i32_359 : BitVec 32 := 0#32
  let v486 : BitVec 1 := Scalar.cmpi .ne v485 c0_i32_359
  v486

def k0_off81 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_544 : BitVec 32 := 0#32
  let c0_i32_545 : BitVec 32 := 0#32
  ![v2.toNat, 0, 0]
def k0_off82 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off83 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_346 : BitVec 32 := 32#32
  let v465 : BitVec 32 := Scalar.muli v2 c32_i32_346
  let c0_i32_550 : BitVec 32 := 0#32
  ![v465.toNat, 0]
def k0_dev69 : Nat :=
  let c0_i32_549 : BitVec 32 := 0#32
  let c5_i32_547 : BitVec 32 := 5#32
  let c1_i32_548 : BitVec 32 := 1#32
  let v762 : BitVec 32 := Scalar.muli c5_i32_547 c1_i32_548
  let v763 : BitVec 32 := Scalar.addi c0_i32_549 v762
  v763.toNat
def k0_cond103 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_360 : BitVec 32 := 6#32
  let v487 : BitVec 1 := Scalar.cmpi .ne v2 c6_i32_360
  let v488 : BitVec 32 := Scalar.extui v487
  let c0_i32_361 : BitVec 32 := 0#32
  let v489 : BitVec 1 := Scalar.cmpi .ne v488 c0_i32_361
  v489

def k0_off84 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_544 : BitVec 32 := 0#32
  let c0_i32_545 : BitVec 32 := 0#32
  ![v2.toNat, 0, 0]
def k0_off85 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off86 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_346 : BitVec 32 := 32#32
  let v465 : BitVec 32 := Scalar.muli v2 c32_i32_346
  let c0_i32_550 : BitVec 32 := 0#32
  ![v465.toNat, 0]
def k0_dev70 : Nat :=
  let c0_i32_549 : BitVec 32 := 0#32
  let c6_i32_547 : BitVec 32 := 6#32
  let c1_i32_548 : BitVec 32 := 1#32
  let v762 : BitVec 32 := Scalar.muli c6_i32_547 c1_i32_548
  let v763 : BitVec 32 := Scalar.addi c0_i32_549 v762
  v763.toNat
def k0_cond104 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_362 : BitVec 32 := 7#32
  let v490 : BitVec 1 := Scalar.cmpi .ne v2 c7_i32_362
  let v491 : BitVec 32 := Scalar.extui v490
  let c0_i32_363 : BitVec 32 := 0#32
  let v492 : BitVec 1 := Scalar.cmpi .ne v491 c0_i32_363
  v492

def k0_off87 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_544 : BitVec 32 := 0#32
  let c0_i32_545 : BitVec 32 := 0#32
  ![v2.toNat, 0, 0]
def k0_off88 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off89 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_346 : BitVec 32 := 32#32
  let v465 : BitVec 32 := Scalar.muli v2 c32_i32_346
  let c0_i32_550 : BitVec 32 := 0#32
  ![v465.toNat, 0]
def k0_dev71 : Nat :=
  let c0_i32_549 : BitVec 32 := 0#32
  let c7_i32_547 : BitVec 32 := 7#32
  let c1_i32_548 : BitVec 32 := 1#32
  let v762 : BitVec 32 := Scalar.muli c7_i32_547 c1_i32_548
  let v763 : BitVec 32 := Scalar.addi c0_i32_549 v762
  v763.toNat
def k0_cond105 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_364 : BitVec 32 := 8#32
  let v493 : BitVec 1 := Scalar.cmpi .ne v2 c8_i32_364
  let v494 : BitVec 32 := Scalar.extui v493
  let c0_i32_365 : BitVec 32 := 0#32
  let v495 : BitVec 1 := Scalar.cmpi .ne v494 c0_i32_365
  v495

def k0_off90 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_544 : BitVec 32 := 0#32
  let c0_i32_545 : BitVec 32 := 0#32
  ![v2.toNat, 0, 0]
def k0_off91 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off92 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_346 : BitVec 32 := 32#32
  let v465 : BitVec 32 := Scalar.muli v2 c32_i32_346
  let c0_i32_550 : BitVec 32 := 0#32
  ![v465.toNat, 0]
def k0_dev72 : Nat :=
  let c0_i32_549 : BitVec 32 := 0#32
  let c8_i32_547 : BitVec 32 := 8#32
  let c1_i32_548 : BitVec 32 := 1#32
  let v762 : BitVec 32 := Scalar.muli c8_i32_547 c1_i32_548
  let v763 : BitVec 32 := Scalar.addi c0_i32_549 v762
  v763.toNat
def k0_cond106 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_366 : BitVec 32 := 9#32
  let v496 : BitVec 1 := Scalar.cmpi .ne v2 c9_i32_366
  let v497 : BitVec 32 := Scalar.extui v496
  let c0_i32_367 : BitVec 32 := 0#32
  let v498 : BitVec 1 := Scalar.cmpi .ne v497 c0_i32_367
  v498

def k0_off93 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_544 : BitVec 32 := 0#32
  let c0_i32_545 : BitVec 32 := 0#32
  ![v2.toNat, 0, 0]
def k0_off94 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off95 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_346 : BitVec 32 := 32#32
  let v465 : BitVec 32 := Scalar.muli v2 c32_i32_346
  let c0_i32_550 : BitVec 32 := 0#32
  ![v465.toNat, 0]
def k0_dev73 : Nat :=
  let c0_i32_549 : BitVec 32 := 0#32
  let c9_i32_547 : BitVec 32 := 9#32
  let c1_i32_548 : BitVec 32 := 1#32
  let v762 : BitVec 32 := Scalar.muli c9_i32_547 c1_i32_548
  let v763 : BitVec 32 := Scalar.addi c0_i32_549 v762
  v763.toNat
def k0_cond107 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_368 : BitVec 32 := 10#32
  let v499 : BitVec 1 := Scalar.cmpi .ne v2 c10_i32_368
  let v500 : BitVec 32 := Scalar.extui v499
  let c0_i32_369 : BitVec 32 := 0#32
  let v501 : BitVec 1 := Scalar.cmpi .ne v500 c0_i32_369
  v501

def k0_off96 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_544 : BitVec 32 := 0#32
  let c0_i32_545 : BitVec 32 := 0#32
  ![v2.toNat, 0, 0]
def k0_off97 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off98 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_346 : BitVec 32 := 32#32
  let v465 : BitVec 32 := Scalar.muli v2 c32_i32_346
  let c0_i32_550 : BitVec 32 := 0#32
  ![v465.toNat, 0]
def k0_dev74 : Nat :=
  let c0_i32_549 : BitVec 32 := 0#32
  let c10_i32_547 : BitVec 32 := 10#32
  let c1_i32_548 : BitVec 32 := 1#32
  let v762 : BitVec 32 := Scalar.muli c10_i32_547 c1_i32_548
  let v763 : BitVec 32 := Scalar.addi c0_i32_549 v762
  v763.toNat
def k0_cond108 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_370 : BitVec 32 := 11#32
  let v502 : BitVec 1 := Scalar.cmpi .ne v2 c11_i32_370
  let v503 : BitVec 32 := Scalar.extui v502
  let c0_i32_371 : BitVec 32 := 0#32
  let v504 : BitVec 1 := Scalar.cmpi .ne v503 c0_i32_371
  v504

def k0_off99 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_544 : BitVec 32 := 0#32
  let c0_i32_545 : BitVec 32 := 0#32
  ![v2.toNat, 0, 0]
def k0_off100 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off101 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_346 : BitVec 32 := 32#32
  let v465 : BitVec 32 := Scalar.muli v2 c32_i32_346
  let c0_i32_550 : BitVec 32 := 0#32
  ![v465.toNat, 0]
def k0_dev75 : Nat :=
  let c0_i32_549 : BitVec 32 := 0#32
  let c11_i32_547 : BitVec 32 := 11#32
  let c1_i32_548 : BitVec 32 := 1#32
  let v762 : BitVec 32 := Scalar.muli c11_i32_547 c1_i32_548
  let v763 : BitVec 32 := Scalar.addi c0_i32_549 v762
  v763.toNat
def k0_cond109 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_372 : BitVec 32 := 12#32
  let v505 : BitVec 1 := Scalar.cmpi .ne v2 c12_i32_372
  let v506 : BitVec 32 := Scalar.extui v505
  let c0_i32_373 : BitVec 32 := 0#32
  let v507 : BitVec 1 := Scalar.cmpi .ne v506 c0_i32_373
  v507

def k0_off102 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_544 : BitVec 32 := 0#32
  let c0_i32_545 : BitVec 32 := 0#32
  ![v2.toNat, 0, 0]
def k0_off103 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off104 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_346 : BitVec 32 := 32#32
  let v465 : BitVec 32 := Scalar.muli v2 c32_i32_346
  let c0_i32_550 : BitVec 32 := 0#32
  ![v465.toNat, 0]
def k0_dev76 : Nat :=
  let c0_i32_549 : BitVec 32 := 0#32
  let c12_i32_547 : BitVec 32 := 12#32
  let c1_i32_548 : BitVec 32 := 1#32
  let v762 : BitVec 32 := Scalar.muli c12_i32_547 c1_i32_548
  let v763 : BitVec 32 := Scalar.addi c0_i32_549 v762
  v763.toNat
def k0_cond110 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_374 : BitVec 32 := 13#32
  let v508 : BitVec 1 := Scalar.cmpi .ne v2 c13_i32_374
  let v509 : BitVec 32 := Scalar.extui v508
  let c0_i32_375 : BitVec 32 := 0#32
  let v510 : BitVec 1 := Scalar.cmpi .ne v509 c0_i32_375
  v510

def k0_off105 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_544 : BitVec 32 := 0#32
  let c0_i32_545 : BitVec 32 := 0#32
  ![v2.toNat, 0, 0]
def k0_off106 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off107 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_346 : BitVec 32 := 32#32
  let v465 : BitVec 32 := Scalar.muli v2 c32_i32_346
  let c0_i32_550 : BitVec 32 := 0#32
  ![v465.toNat, 0]
def k0_dev77 : Nat :=
  let c0_i32_549 : BitVec 32 := 0#32
  let c13_i32_547 : BitVec 32 := 13#32
  let c1_i32_548 : BitVec 32 := 1#32
  let v762 : BitVec 32 := Scalar.muli c13_i32_547 c1_i32_548
  let v763 : BitVec 32 := Scalar.addi c0_i32_549 v762
  v763.toNat
def k0_cond111 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_376 : BitVec 32 := 14#32
  let v511 : BitVec 1 := Scalar.cmpi .ne v2 c14_i32_376
  let v512 : BitVec 32 := Scalar.extui v511
  let c0_i32_377 : BitVec 32 := 0#32
  let v513 : BitVec 1 := Scalar.cmpi .ne v512 c0_i32_377
  v513

def k0_off108 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_544 : BitVec 32 := 0#32
  let c0_i32_545 : BitVec 32 := 0#32
  ![v2.toNat, 0, 0]
def k0_off109 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off110 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_346 : BitVec 32 := 32#32
  let v465 : BitVec 32 := Scalar.muli v2 c32_i32_346
  let c0_i32_550 : BitVec 32 := 0#32
  ![v465.toNat, 0]
def k0_dev78 : Nat :=
  let c0_i32_549 : BitVec 32 := 0#32
  let c14_i32_547 : BitVec 32 := 14#32
  let c1_i32_548 : BitVec 32 := 1#32
  let v762 : BitVec 32 := Scalar.muli c14_i32_547 c1_i32_548
  let v763 : BitVec 32 := Scalar.addi c0_i32_549 v762
  v763.toNat
def k0_cond112 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_378 : BitVec 32 := 15#32
  let v514 : BitVec 1 := Scalar.cmpi .ne v2 c15_i32_378
  let v515 : BitVec 32 := Scalar.extui v514
  let c0_i32_379 : BitVec 32 := 0#32
  let v516 : BitVec 1 := Scalar.cmpi .ne v515 c0_i32_379
  v516

def k0_off111 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_544 : BitVec 32 := 0#32
  let c0_i32_545 : BitVec 32 := 0#32
  ![v2.toNat, 0, 0]
def k0_off112 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off113 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_346 : BitVec 32 := 32#32
  let v465 : BitVec 32 := Scalar.muli v2 c32_i32_346
  let c0_i32_550 : BitVec 32 := 0#32
  ![v465.toNat, 0]
def k0_dev79 : Nat :=
  let c0_i32_549 : BitVec 32 := 0#32
  let c15_i32_547 : BitVec 32 := 15#32
  let c1_i32_548 : BitVec 32 := 1#32
  let v762 : BitVec 32 := Scalar.muli c15_i32_547 c1_i32_548
  let v763 : BitVec 32 := Scalar.addi c0_i32_549 v762
  v763.toNat
def k0_cond113 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_380 : BitVec 32 := 16#32
  let v517 : BitVec 1 := Scalar.cmpi .ne v2 c16_i32_380
  let v518 : BitVec 32 := Scalar.extui v517
  let c0_i32_381 : BitVec 32 := 0#32
  let v519 : BitVec 1 := Scalar.cmpi .ne v518 c0_i32_381
  v519

def k0_off114 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_544 : BitVec 32 := 0#32
  let c0_i32_545 : BitVec 32 := 0#32
  ![v2.toNat, 0, 0]
def k0_off115 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off116 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_346 : BitVec 32 := 32#32
  let v465 : BitVec 32 := Scalar.muli v2 c32_i32_346
  let c0_i32_550 : BitVec 32 := 0#32
  ![v465.toNat, 0]
def k0_dev80 : Nat :=
  let c0_i32_549 : BitVec 32 := 0#32
  let c16_i32_547 : BitVec 32 := 16#32
  let c1_i32_548 : BitVec 32 := 1#32
  let v762 : BitVec 32 := Scalar.muli c16_i32_547 c1_i32_548
  let v763 : BitVec 32 := Scalar.addi c0_i32_549 v762
  v763.toNat
def k0_cond114 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_382 : BitVec 32 := 17#32
  let v520 : BitVec 1 := Scalar.cmpi .ne v2 c17_i32_382
  let v521 : BitVec 32 := Scalar.extui v520
  let c0_i32_383 : BitVec 32 := 0#32
  let v522 : BitVec 1 := Scalar.cmpi .ne v521 c0_i32_383
  v522

def k0_off117 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_544 : BitVec 32 := 0#32
  let c0_i32_545 : BitVec 32 := 0#32
  ![v2.toNat, 0, 0]
def k0_off118 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off119 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_346 : BitVec 32 := 32#32
  let v465 : BitVec 32 := Scalar.muli v2 c32_i32_346
  let c0_i32_550 : BitVec 32 := 0#32
  ![v465.toNat, 0]
def k0_dev81 : Nat :=
  let c0_i32_549 : BitVec 32 := 0#32
  let c17_i32_547 : BitVec 32 := 17#32
  let c1_i32_548 : BitVec 32 := 1#32
  let v762 : BitVec 32 := Scalar.muli c17_i32_547 c1_i32_548
  let v763 : BitVec 32 := Scalar.addi c0_i32_549 v762
  v763.toNat
def k0_cond115 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_384 : BitVec 32 := 18#32
  let v523 : BitVec 1 := Scalar.cmpi .ne v2 c18_i32_384
  let v524 : BitVec 32 := Scalar.extui v523
  let c0_i32_385 : BitVec 32 := 0#32
  let v525 : BitVec 1 := Scalar.cmpi .ne v524 c0_i32_385
  v525

def k0_off120 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_544 : BitVec 32 := 0#32
  let c0_i32_545 : BitVec 32 := 0#32
  ![v2.toNat, 0, 0]
def k0_off121 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off122 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_346 : BitVec 32 := 32#32
  let v465 : BitVec 32 := Scalar.muli v2 c32_i32_346
  let c0_i32_550 : BitVec 32 := 0#32
  ![v465.toNat, 0]
def k0_dev82 : Nat :=
  let c0_i32_549 : BitVec 32 := 0#32
  let c18_i32_547 : BitVec 32 := 18#32
  let c1_i32_548 : BitVec 32 := 1#32
  let v762 : BitVec 32 := Scalar.muli c18_i32_547 c1_i32_548
  let v763 : BitVec 32 := Scalar.addi c0_i32_549 v762
  v763.toNat
def k0_cond116 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_386 : BitVec 32 := 19#32
  let v526 : BitVec 1 := Scalar.cmpi .ne v2 c19_i32_386
  let v527 : BitVec 32 := Scalar.extui v526
  let c0_i32_387 : BitVec 32 := 0#32
  let v528 : BitVec 1 := Scalar.cmpi .ne v527 c0_i32_387
  v528

def k0_off123 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_544 : BitVec 32 := 0#32
  let c0_i32_545 : BitVec 32 := 0#32
  ![v2.toNat, 0, 0]
def k0_off124 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off125 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_346 : BitVec 32 := 32#32
  let v465 : BitVec 32 := Scalar.muli v2 c32_i32_346
  let c0_i32_550 : BitVec 32 := 0#32
  ![v465.toNat, 0]
def k0_dev83 : Nat :=
  let c0_i32_549 : BitVec 32 := 0#32
  let c19_i32_547 : BitVec 32 := 19#32
  let c1_i32_548 : BitVec 32 := 1#32
  let v762 : BitVec 32 := Scalar.muli c19_i32_547 c1_i32_548
  let v763 : BitVec 32 := Scalar.addi c0_i32_549 v762
  v763.toNat
def k0_cond117 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_388 : BitVec 32 := 20#32
  let v529 : BitVec 1 := Scalar.cmpi .ne v2 c20_i32_388
  let v530 : BitVec 32 := Scalar.extui v529
  let c0_i32_389 : BitVec 32 := 0#32
  let v531 : BitVec 1 := Scalar.cmpi .ne v530 c0_i32_389
  v531

def k0_off126 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_544 : BitVec 32 := 0#32
  let c0_i32_545 : BitVec 32 := 0#32
  ![v2.toNat, 0, 0]
def k0_off127 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off128 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_346 : BitVec 32 := 32#32
  let v465 : BitVec 32 := Scalar.muli v2 c32_i32_346
  let c0_i32_550 : BitVec 32 := 0#32
  ![v465.toNat, 0]
def k0_dev84 : Nat :=
  let c0_i32_549 : BitVec 32 := 0#32
  let c20_i32_547 : BitVec 32 := 20#32
  let c1_i32_548 : BitVec 32 := 1#32
  let v762 : BitVec 32 := Scalar.muli c20_i32_547 c1_i32_548
  let v763 : BitVec 32 := Scalar.addi c0_i32_549 v762
  v763.toNat
def k0_cond118 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_390 : BitVec 32 := 21#32
  let v532 : BitVec 1 := Scalar.cmpi .ne v2 c21_i32_390
  let v533 : BitVec 32 := Scalar.extui v532
  let c0_i32_391 : BitVec 32 := 0#32
  let v534 : BitVec 1 := Scalar.cmpi .ne v533 c0_i32_391
  v534

def k0_off129 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_544 : BitVec 32 := 0#32
  let c0_i32_545 : BitVec 32 := 0#32
  ![v2.toNat, 0, 0]
def k0_off130 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off131 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_346 : BitVec 32 := 32#32
  let v465 : BitVec 32 := Scalar.muli v2 c32_i32_346
  let c0_i32_550 : BitVec 32 := 0#32
  ![v465.toNat, 0]
def k0_dev85 : Nat :=
  let c0_i32_549 : BitVec 32 := 0#32
  let c21_i32_547 : BitVec 32 := 21#32
  let c1_i32_548 : BitVec 32 := 1#32
  let v762 : BitVec 32 := Scalar.muli c21_i32_547 c1_i32_548
  let v763 : BitVec 32 := Scalar.addi c0_i32_549 v762
  v763.toNat
def k0_cond119 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_392 : BitVec 32 := 22#32
  let v535 : BitVec 1 := Scalar.cmpi .ne v2 c22_i32_392
  let v536 : BitVec 32 := Scalar.extui v535
  let c0_i32_393 : BitVec 32 := 0#32
  let v537 : BitVec 1 := Scalar.cmpi .ne v536 c0_i32_393
  v537

def k0_off132 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_544 : BitVec 32 := 0#32
  let c0_i32_545 : BitVec 32 := 0#32
  ![v2.toNat, 0, 0]
def k0_off133 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off134 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_346 : BitVec 32 := 32#32
  let v465 : BitVec 32 := Scalar.muli v2 c32_i32_346
  let c0_i32_550 : BitVec 32 := 0#32
  ![v465.toNat, 0]
def k0_dev86 : Nat :=
  let c0_i32_549 : BitVec 32 := 0#32
  let c22_i32_547 : BitVec 32 := 22#32
  let c1_i32_548 : BitVec 32 := 1#32
  let v762 : BitVec 32 := Scalar.muli c22_i32_547 c1_i32_548
  let v763 : BitVec 32 := Scalar.addi c0_i32_549 v762
  v763.toNat
def k0_cond120 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_394 : BitVec 32 := 23#32
  let v538 : BitVec 1 := Scalar.cmpi .ne v2 c23_i32_394
  let v539 : BitVec 32 := Scalar.extui v538
  let c0_i32_395 : BitVec 32 := 0#32
  let v540 : BitVec 1 := Scalar.cmpi .ne v539 c0_i32_395
  v540

def k0_off135 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_544 : BitVec 32 := 0#32
  let c0_i32_545 : BitVec 32 := 0#32
  ![v2.toNat, 0, 0]
def k0_off136 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off137 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_346 : BitVec 32 := 32#32
  let v465 : BitVec 32 := Scalar.muli v2 c32_i32_346
  let c0_i32_550 : BitVec 32 := 0#32
  ![v465.toNat, 0]
def k0_dev87 : Nat :=
  let c0_i32_549 : BitVec 32 := 0#32
  let c23_i32_547 : BitVec 32 := 23#32
  let c1_i32_548 : BitVec 32 := 1#32
  let v762 : BitVec 32 := Scalar.muli c23_i32_547 c1_i32_548
  let v763 : BitVec 32 := Scalar.addi c0_i32_549 v762
  v763.toNat
def k0_cond121 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_396 : BitVec 32 := 24#32
  let v541 : BitVec 1 := Scalar.cmpi .ne v2 c24_i32_396
  let v542 : BitVec 32 := Scalar.extui v541
  let c0_i32_397 : BitVec 32 := 0#32
  let v543 : BitVec 1 := Scalar.cmpi .ne v542 c0_i32_397
  v543

def k0_off138 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_544 : BitVec 32 := 0#32
  let c0_i32_545 : BitVec 32 := 0#32
  ![v2.toNat, 0, 0]
def k0_off139 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off140 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_346 : BitVec 32 := 32#32
  let v465 : BitVec 32 := Scalar.muli v2 c32_i32_346
  let c0_i32_550 : BitVec 32 := 0#32
  ![v465.toNat, 0]
def k0_dev88 : Nat :=
  let c0_i32_549 : BitVec 32 := 0#32
  let c24_i32_547 : BitVec 32 := 24#32
  let c1_i32_548 : BitVec 32 := 1#32
  let v762 : BitVec 32 := Scalar.muli c24_i32_547 c1_i32_548
  let v763 : BitVec 32 := Scalar.addi c0_i32_549 v762
  v763.toNat
def k0_cond122 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_398 : BitVec 32 := 25#32
  let v544 : BitVec 1 := Scalar.cmpi .ne v2 c25_i32_398
  let v545 : BitVec 32 := Scalar.extui v544
  let c0_i32_399 : BitVec 32 := 0#32
  let v546 : BitVec 1 := Scalar.cmpi .ne v545 c0_i32_399
  v546

def k0_off141 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_544 : BitVec 32 := 0#32
  let c0_i32_545 : BitVec 32 := 0#32
  ![v2.toNat, 0, 0]
def k0_off142 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off143 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_346 : BitVec 32 := 32#32
  let v465 : BitVec 32 := Scalar.muli v2 c32_i32_346
  let c0_i32_550 : BitVec 32 := 0#32
  ![v465.toNat, 0]
def k0_dev89 : Nat :=
  let c0_i32_549 : BitVec 32 := 0#32
  let c25_i32_547 : BitVec 32 := 25#32
  let c1_i32_548 : BitVec 32 := 1#32
  let v762 : BitVec 32 := Scalar.muli c25_i32_547 c1_i32_548
  let v763 : BitVec 32 := Scalar.addi c0_i32_549 v762
  v763.toNat
def k0_cond123 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_400 : BitVec 32 := 26#32
  let v547 : BitVec 1 := Scalar.cmpi .ne v2 c26_i32_400
  let v548 : BitVec 32 := Scalar.extui v547
  let c0_i32_401 : BitVec 32 := 0#32
  let v549 : BitVec 1 := Scalar.cmpi .ne v548 c0_i32_401
  v549

def k0_off144 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_544 : BitVec 32 := 0#32
  let c0_i32_545 : BitVec 32 := 0#32
  ![v2.toNat, 0, 0]
def k0_off145 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off146 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_346 : BitVec 32 := 32#32
  let v465 : BitVec 32 := Scalar.muli v2 c32_i32_346
  let c0_i32_550 : BitVec 32 := 0#32
  ![v465.toNat, 0]
def k0_dev90 : Nat :=
  let c0_i32_549 : BitVec 32 := 0#32
  let c26_i32_547 : BitVec 32 := 26#32
  let c1_i32_548 : BitVec 32 := 1#32
  let v762 : BitVec 32 := Scalar.muli c26_i32_547 c1_i32_548
  let v763 : BitVec 32 := Scalar.addi c0_i32_549 v762
  v763.toNat
def k0_cond124 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_402 : BitVec 32 := 27#32
  let v550 : BitVec 1 := Scalar.cmpi .ne v2 c27_i32_402
  let v551 : BitVec 32 := Scalar.extui v550
  let c0_i32_403 : BitVec 32 := 0#32
  let v552 : BitVec 1 := Scalar.cmpi .ne v551 c0_i32_403
  v552

def k0_off147 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_544 : BitVec 32 := 0#32
  let c0_i32_545 : BitVec 32 := 0#32
  ![v2.toNat, 0, 0]
def k0_off148 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off149 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_346 : BitVec 32 := 32#32
  let v465 : BitVec 32 := Scalar.muli v2 c32_i32_346
  let c0_i32_550 : BitVec 32 := 0#32
  ![v465.toNat, 0]
def k0_dev91 : Nat :=
  let c0_i32_549 : BitVec 32 := 0#32
  let c27_i32_547 : BitVec 32 := 27#32
  let c1_i32_548 : BitVec 32 := 1#32
  let v762 : BitVec 32 := Scalar.muli c27_i32_547 c1_i32_548
  let v763 : BitVec 32 := Scalar.addi c0_i32_549 v762
  v763.toNat
def k0_cond125 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_404 : BitVec 32 := 28#32
  let v553 : BitVec 1 := Scalar.cmpi .ne v2 c28_i32_404
  let v554 : BitVec 32 := Scalar.extui v553
  let c0_i32_405 : BitVec 32 := 0#32
  let v555 : BitVec 1 := Scalar.cmpi .ne v554 c0_i32_405
  v555

def k0_off150 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_544 : BitVec 32 := 0#32
  let c0_i32_545 : BitVec 32 := 0#32
  ![v2.toNat, 0, 0]
def k0_off151 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off152 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_346 : BitVec 32 := 32#32
  let v465 : BitVec 32 := Scalar.muli v2 c32_i32_346
  let c0_i32_550 : BitVec 32 := 0#32
  ![v465.toNat, 0]
def k0_dev92 : Nat :=
  let c0_i32_549 : BitVec 32 := 0#32
  let c28_i32_547 : BitVec 32 := 28#32
  let c1_i32_548 : BitVec 32 := 1#32
  let v762 : BitVec 32 := Scalar.muli c28_i32_547 c1_i32_548
  let v763 : BitVec 32 := Scalar.addi c0_i32_549 v762
  v763.toNat
def k0_cond126 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_406 : BitVec 32 := 29#32
  let v556 : BitVec 1 := Scalar.cmpi .ne v2 c29_i32_406
  let v557 : BitVec 32 := Scalar.extui v556
  let c0_i32_407 : BitVec 32 := 0#32
  let v558 : BitVec 1 := Scalar.cmpi .ne v557 c0_i32_407
  v558

def k0_off153 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_544 : BitVec 32 := 0#32
  let c0_i32_545 : BitVec 32 := 0#32
  ![v2.toNat, 0, 0]
def k0_off154 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off155 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_346 : BitVec 32 := 32#32
  let v465 : BitVec 32 := Scalar.muli v2 c32_i32_346
  let c0_i32_550 : BitVec 32 := 0#32
  ![v465.toNat, 0]
def k0_dev93 : Nat :=
  let c0_i32_549 : BitVec 32 := 0#32
  let c29_i32_547 : BitVec 32 := 29#32
  let c1_i32_548 : BitVec 32 := 1#32
  let v762 : BitVec 32 := Scalar.muli c29_i32_547 c1_i32_548
  let v763 : BitVec 32 := Scalar.addi c0_i32_549 v762
  v763.toNat
def k0_cond127 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_408 : BitVec 32 := 30#32
  let v559 : BitVec 1 := Scalar.cmpi .ne v2 c30_i32_408
  let v560 : BitVec 32 := Scalar.extui v559
  let c0_i32_409 : BitVec 32 := 0#32
  let v561 : BitVec 1 := Scalar.cmpi .ne v560 c0_i32_409
  v561

def k0_off156 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_544 : BitVec 32 := 0#32
  let c0_i32_545 : BitVec 32 := 0#32
  ![v2.toNat, 0, 0]
def k0_off157 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off158 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_346 : BitVec 32 := 32#32
  let v465 : BitVec 32 := Scalar.muli v2 c32_i32_346
  let c0_i32_550 : BitVec 32 := 0#32
  ![v465.toNat, 0]
def k0_dev94 : Nat :=
  let c0_i32_549 : BitVec 32 := 0#32
  let c30_i32_547 : BitVec 32 := 30#32
  let c1_i32_548 : BitVec 32 := 1#32
  let v762 : BitVec 32 := Scalar.muli c30_i32_547 c1_i32_548
  let v763 : BitVec 32 := Scalar.addi c0_i32_549 v762
  v763.toNat
def k0_cond128 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_410 : BitVec 32 := 31#32
  let v562 : BitVec 1 := Scalar.cmpi .ne v2 c31_i32_410
  let v563 : BitVec 32 := Scalar.extui v562
  let c0_i32_411 : BitVec 32 := 0#32
  let v564 : BitVec 1 := Scalar.cmpi .ne v563 c0_i32_411
  v564

def k0_off159 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_544 : BitVec 32 := 0#32
  let c0_i32_545 : BitVec 32 := 0#32
  ![v2.toNat, 0, 0]
def k0_off160 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off161 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_346 : BitVec 32 := 32#32
  let v465 : BitVec 32 := Scalar.muli v2 c32_i32_346
  let c0_i32_550 : BitVec 32 := 0#32
  ![v465.toNat, 0]
def k0_dev95 : Nat :=
  let c0_i32_549 : BitVec 32 := 0#32
  let c31_i32_547 : BitVec 32 := 31#32
  let c1_i32_548 : BitVec 32 := 1#32
  let v762 : BitVec 32 := Scalar.muli c31_i32_547 c1_i32_548
  let v763 : BitVec 32 := Scalar.addi c0_i32_549 v762
  v763.toNat
def k0_cond161 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_476 : BitVec 32 := 0#32
  let v661 : BitVec 1 := Scalar.cmpi .ne v2 c0_i32_476
  let v662 : BitVec 32 := Scalar.extui v661
  let c0_i32_477 : BitVec 32 := 0#32
  let v663 : BitVec 1 := Scalar.cmpi .ne v662 c0_i32_477
  v663

def k0_off162 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_346 : BitVec 32 := 32#32
  let v465 : BitVec 32 := Scalar.muli v2 c32_i32_346
  let c0_i32_543 : BitVec 32 := 0#32
  ![v465.toNat, 0]
def k0_cond162 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_478 : BitVec 32 := 1#32
  let v664 : BitVec 1 := Scalar.cmpi .ne v2 c1_i32_478
  let v665 : BitVec 32 := Scalar.extui v664
  let c0_i32_479 : BitVec 32 := 0#32
  let v666 : BitVec 1 := Scalar.cmpi .ne v665 c0_i32_479
  v666

def k0_off163 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_346 : BitVec 32 := 32#32
  let v465 : BitVec 32 := Scalar.muli v2 c32_i32_346
  let c0_i32_543 : BitVec 32 := 0#32
  ![v465.toNat, 0]
def k0_cond163 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_480 : BitVec 32 := 2#32
  let v667 : BitVec 1 := Scalar.cmpi .ne v2 c2_i32_480
  let v668 : BitVec 32 := Scalar.extui v667
  let c0_i32_481 : BitVec 32 := 0#32
  let v669 : BitVec 1 := Scalar.cmpi .ne v668 c0_i32_481
  v669

def k0_off164 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_346 : BitVec 32 := 32#32
  let v465 : BitVec 32 := Scalar.muli v2 c32_i32_346
  let c0_i32_543 : BitVec 32 := 0#32
  ![v465.toNat, 0]
def k0_cond164 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_482 : BitVec 32 := 3#32
  let v670 : BitVec 1 := Scalar.cmpi .ne v2 c3_i32_482
  let v671 : BitVec 32 := Scalar.extui v670
  let c0_i32_483 : BitVec 32 := 0#32
  let v672 : BitVec 1 := Scalar.cmpi .ne v671 c0_i32_483
  v672

def k0_off165 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_346 : BitVec 32 := 32#32
  let v465 : BitVec 32 := Scalar.muli v2 c32_i32_346
  let c0_i32_543 : BitVec 32 := 0#32
  ![v465.toNat, 0]
def k0_cond165 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_484 : BitVec 32 := 4#32
  let v673 : BitVec 1 := Scalar.cmpi .ne v2 c4_i32_484
  let v674 : BitVec 32 := Scalar.extui v673
  let c0_i32_485 : BitVec 32 := 0#32
  let v675 : BitVec 1 := Scalar.cmpi .ne v674 c0_i32_485
  v675

def k0_off166 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_346 : BitVec 32 := 32#32
  let v465 : BitVec 32 := Scalar.muli v2 c32_i32_346
  let c0_i32_543 : BitVec 32 := 0#32
  ![v465.toNat, 0]
def k0_cond166 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_486 : BitVec 32 := 5#32
  let v676 : BitVec 1 := Scalar.cmpi .ne v2 c5_i32_486
  let v677 : BitVec 32 := Scalar.extui v676
  let c0_i32_487 : BitVec 32 := 0#32
  let v678 : BitVec 1 := Scalar.cmpi .ne v677 c0_i32_487
  v678

def k0_off167 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_346 : BitVec 32 := 32#32
  let v465 : BitVec 32 := Scalar.muli v2 c32_i32_346
  let c0_i32_543 : BitVec 32 := 0#32
  ![v465.toNat, 0]
def k0_cond167 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_488 : BitVec 32 := 6#32
  let v679 : BitVec 1 := Scalar.cmpi .ne v2 c6_i32_488
  let v680 : BitVec 32 := Scalar.extui v679
  let c0_i32_489 : BitVec 32 := 0#32
  let v681 : BitVec 1 := Scalar.cmpi .ne v680 c0_i32_489
  v681

def k0_off168 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_346 : BitVec 32 := 32#32
  let v465 : BitVec 32 := Scalar.muli v2 c32_i32_346
  let c0_i32_543 : BitVec 32 := 0#32
  ![v465.toNat, 0]
def k0_cond168 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_490 : BitVec 32 := 7#32
  let v682 : BitVec 1 := Scalar.cmpi .ne v2 c7_i32_490
  let v683 : BitVec 32 := Scalar.extui v682
  let c0_i32_491 : BitVec 32 := 0#32
  let v684 : BitVec 1 := Scalar.cmpi .ne v683 c0_i32_491
  v684

def k0_off169 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_346 : BitVec 32 := 32#32
  let v465 : BitVec 32 := Scalar.muli v2 c32_i32_346
  let c0_i32_543 : BitVec 32 := 0#32
  ![v465.toNat, 0]
def k0_cond169 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_492 : BitVec 32 := 8#32
  let v685 : BitVec 1 := Scalar.cmpi .ne v2 c8_i32_492
  let v686 : BitVec 32 := Scalar.extui v685
  let c0_i32_493 : BitVec 32 := 0#32
  let v687 : BitVec 1 := Scalar.cmpi .ne v686 c0_i32_493
  v687

def k0_off170 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_346 : BitVec 32 := 32#32
  let v465 : BitVec 32 := Scalar.muli v2 c32_i32_346
  let c0_i32_543 : BitVec 32 := 0#32
  ![v465.toNat, 0]
def k0_cond170 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_494 : BitVec 32 := 9#32
  let v688 : BitVec 1 := Scalar.cmpi .ne v2 c9_i32_494
  let v689 : BitVec 32 := Scalar.extui v688
  let c0_i32_495 : BitVec 32 := 0#32
  let v690 : BitVec 1 := Scalar.cmpi .ne v689 c0_i32_495
  v690

def k0_off171 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_346 : BitVec 32 := 32#32
  let v465 : BitVec 32 := Scalar.muli v2 c32_i32_346
  let c0_i32_543 : BitVec 32 := 0#32
  ![v465.toNat, 0]
def k0_cond171 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_496 : BitVec 32 := 10#32
  let v691 : BitVec 1 := Scalar.cmpi .ne v2 c10_i32_496
  let v692 : BitVec 32 := Scalar.extui v691
  let c0_i32_497 : BitVec 32 := 0#32
  let v693 : BitVec 1 := Scalar.cmpi .ne v692 c0_i32_497
  v693

def k0_off172 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_346 : BitVec 32 := 32#32
  let v465 : BitVec 32 := Scalar.muli v2 c32_i32_346
  let c0_i32_543 : BitVec 32 := 0#32
  ![v465.toNat, 0]
def k0_cond172 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_498 : BitVec 32 := 11#32
  let v694 : BitVec 1 := Scalar.cmpi .ne v2 c11_i32_498
  let v695 : BitVec 32 := Scalar.extui v694
  let c0_i32_499 : BitVec 32 := 0#32
  let v696 : BitVec 1 := Scalar.cmpi .ne v695 c0_i32_499
  v696

def k0_off173 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_346 : BitVec 32 := 32#32
  let v465 : BitVec 32 := Scalar.muli v2 c32_i32_346
  let c0_i32_543 : BitVec 32 := 0#32
  ![v465.toNat, 0]
def k0_cond173 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_500 : BitVec 32 := 12#32
  let v697 : BitVec 1 := Scalar.cmpi .ne v2 c12_i32_500
  let v698 : BitVec 32 := Scalar.extui v697
  let c0_i32_501 : BitVec 32 := 0#32
  let v699 : BitVec 1 := Scalar.cmpi .ne v698 c0_i32_501
  v699

def k0_off174 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_346 : BitVec 32 := 32#32
  let v465 : BitVec 32 := Scalar.muli v2 c32_i32_346
  let c0_i32_543 : BitVec 32 := 0#32
  ![v465.toNat, 0]
def k0_cond174 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_502 : BitVec 32 := 13#32
  let v700 : BitVec 1 := Scalar.cmpi .ne v2 c13_i32_502
  let v701 : BitVec 32 := Scalar.extui v700
  let c0_i32_503 : BitVec 32 := 0#32
  let v702 : BitVec 1 := Scalar.cmpi .ne v701 c0_i32_503
  v702

def k0_off175 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_346 : BitVec 32 := 32#32
  let v465 : BitVec 32 := Scalar.muli v2 c32_i32_346
  let c0_i32_543 : BitVec 32 := 0#32
  ![v465.toNat, 0]
def k0_cond175 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_504 : BitVec 32 := 14#32
  let v703 : BitVec 1 := Scalar.cmpi .ne v2 c14_i32_504
  let v704 : BitVec 32 := Scalar.extui v703
  let c0_i32_505 : BitVec 32 := 0#32
  let v705 : BitVec 1 := Scalar.cmpi .ne v704 c0_i32_505
  v705

def k0_off176 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_346 : BitVec 32 := 32#32
  let v465 : BitVec 32 := Scalar.muli v2 c32_i32_346
  let c0_i32_543 : BitVec 32 := 0#32
  ![v465.toNat, 0]
def k0_cond176 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_506 : BitVec 32 := 15#32
  let v706 : BitVec 1 := Scalar.cmpi .ne v2 c15_i32_506
  let v707 : BitVec 32 := Scalar.extui v706
  let c0_i32_507 : BitVec 32 := 0#32
  let v708 : BitVec 1 := Scalar.cmpi .ne v707 c0_i32_507
  v708

def k0_off177 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_346 : BitVec 32 := 32#32
  let v465 : BitVec 32 := Scalar.muli v2 c32_i32_346
  let c0_i32_543 : BitVec 32 := 0#32
  ![v465.toNat, 0]
def k0_cond177 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_508 : BitVec 32 := 16#32
  let v709 : BitVec 1 := Scalar.cmpi .ne v2 c16_i32_508
  let v710 : BitVec 32 := Scalar.extui v709
  let c0_i32_509 : BitVec 32 := 0#32
  let v711 : BitVec 1 := Scalar.cmpi .ne v710 c0_i32_509
  v711

def k0_off178 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_346 : BitVec 32 := 32#32
  let v465 : BitVec 32 := Scalar.muli v2 c32_i32_346
  let c0_i32_543 : BitVec 32 := 0#32
  ![v465.toNat, 0]
def k0_cond178 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_510 : BitVec 32 := 17#32
  let v712 : BitVec 1 := Scalar.cmpi .ne v2 c17_i32_510
  let v713 : BitVec 32 := Scalar.extui v712
  let c0_i32_511 : BitVec 32 := 0#32
  let v714 : BitVec 1 := Scalar.cmpi .ne v713 c0_i32_511
  v714

def k0_off179 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_346 : BitVec 32 := 32#32
  let v465 : BitVec 32 := Scalar.muli v2 c32_i32_346
  let c0_i32_543 : BitVec 32 := 0#32
  ![v465.toNat, 0]
def k0_cond179 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_512 : BitVec 32 := 18#32
  let v715 : BitVec 1 := Scalar.cmpi .ne v2 c18_i32_512
  let v716 : BitVec 32 := Scalar.extui v715
  let c0_i32_513 : BitVec 32 := 0#32
  let v717 : BitVec 1 := Scalar.cmpi .ne v716 c0_i32_513
  v717

def k0_off180 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_346 : BitVec 32 := 32#32
  let v465 : BitVec 32 := Scalar.muli v2 c32_i32_346
  let c0_i32_543 : BitVec 32 := 0#32
  ![v465.toNat, 0]
def k0_cond180 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_514 : BitVec 32 := 19#32
  let v718 : BitVec 1 := Scalar.cmpi .ne v2 c19_i32_514
  let v719 : BitVec 32 := Scalar.extui v718
  let c0_i32_515 : BitVec 32 := 0#32
  let v720 : BitVec 1 := Scalar.cmpi .ne v719 c0_i32_515
  v720

def k0_off181 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_346 : BitVec 32 := 32#32
  let v465 : BitVec 32 := Scalar.muli v2 c32_i32_346
  let c0_i32_543 : BitVec 32 := 0#32
  ![v465.toNat, 0]
def k0_cond181 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_516 : BitVec 32 := 20#32
  let v721 : BitVec 1 := Scalar.cmpi .ne v2 c20_i32_516
  let v722 : BitVec 32 := Scalar.extui v721
  let c0_i32_517 : BitVec 32 := 0#32
  let v723 : BitVec 1 := Scalar.cmpi .ne v722 c0_i32_517
  v723

def k0_off182 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_346 : BitVec 32 := 32#32
  let v465 : BitVec 32 := Scalar.muli v2 c32_i32_346
  let c0_i32_543 : BitVec 32 := 0#32
  ![v465.toNat, 0]
def k0_cond182 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_518 : BitVec 32 := 21#32
  let v724 : BitVec 1 := Scalar.cmpi .ne v2 c21_i32_518
  let v725 : BitVec 32 := Scalar.extui v724
  let c0_i32_519 : BitVec 32 := 0#32
  let v726 : BitVec 1 := Scalar.cmpi .ne v725 c0_i32_519
  v726

def k0_off183 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_346 : BitVec 32 := 32#32
  let v465 : BitVec 32 := Scalar.muli v2 c32_i32_346
  let c0_i32_543 : BitVec 32 := 0#32
  ![v465.toNat, 0]
def k0_cond183 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_520 : BitVec 32 := 22#32
  let v727 : BitVec 1 := Scalar.cmpi .ne v2 c22_i32_520
  let v728 : BitVec 32 := Scalar.extui v727
  let c0_i32_521 : BitVec 32 := 0#32
  let v729 : BitVec 1 := Scalar.cmpi .ne v728 c0_i32_521
  v729

def k0_off184 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_346 : BitVec 32 := 32#32
  let v465 : BitVec 32 := Scalar.muli v2 c32_i32_346
  let c0_i32_543 : BitVec 32 := 0#32
  ![v465.toNat, 0]
def k0_cond184 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_522 : BitVec 32 := 23#32
  let v730 : BitVec 1 := Scalar.cmpi .ne v2 c23_i32_522
  let v731 : BitVec 32 := Scalar.extui v730
  let c0_i32_523 : BitVec 32 := 0#32
  let v732 : BitVec 1 := Scalar.cmpi .ne v731 c0_i32_523
  v732

def k0_off185 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_346 : BitVec 32 := 32#32
  let v465 : BitVec 32 := Scalar.muli v2 c32_i32_346
  let c0_i32_543 : BitVec 32 := 0#32
  ![v465.toNat, 0]
def k0_cond185 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_524 : BitVec 32 := 24#32
  let v733 : BitVec 1 := Scalar.cmpi .ne v2 c24_i32_524
  let v734 : BitVec 32 := Scalar.extui v733
  let c0_i32_525 : BitVec 32 := 0#32
  let v735 : BitVec 1 := Scalar.cmpi .ne v734 c0_i32_525
  v735

def k0_off186 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_346 : BitVec 32 := 32#32
  let v465 : BitVec 32 := Scalar.muli v2 c32_i32_346
  let c0_i32_543 : BitVec 32 := 0#32
  ![v465.toNat, 0]
def k0_cond186 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_526 : BitVec 32 := 25#32
  let v736 : BitVec 1 := Scalar.cmpi .ne v2 c25_i32_526
  let v737 : BitVec 32 := Scalar.extui v736
  let c0_i32_527 : BitVec 32 := 0#32
  let v738 : BitVec 1 := Scalar.cmpi .ne v737 c0_i32_527
  v738

def k0_off187 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_346 : BitVec 32 := 32#32
  let v465 : BitVec 32 := Scalar.muli v2 c32_i32_346
  let c0_i32_543 : BitVec 32 := 0#32
  ![v465.toNat, 0]
def k0_cond187 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_528 : BitVec 32 := 26#32
  let v739 : BitVec 1 := Scalar.cmpi .ne v2 c26_i32_528
  let v740 : BitVec 32 := Scalar.extui v739
  let c0_i32_529 : BitVec 32 := 0#32
  let v741 : BitVec 1 := Scalar.cmpi .ne v740 c0_i32_529
  v741

def k0_off188 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_346 : BitVec 32 := 32#32
  let v465 : BitVec 32 := Scalar.muli v2 c32_i32_346
  let c0_i32_543 : BitVec 32 := 0#32
  ![v465.toNat, 0]
def k0_cond188 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_530 : BitVec 32 := 27#32
  let v742 : BitVec 1 := Scalar.cmpi .ne v2 c27_i32_530
  let v743 : BitVec 32 := Scalar.extui v742
  let c0_i32_531 : BitVec 32 := 0#32
  let v744 : BitVec 1 := Scalar.cmpi .ne v743 c0_i32_531
  v744

def k0_off189 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_346 : BitVec 32 := 32#32
  let v465 : BitVec 32 := Scalar.muli v2 c32_i32_346
  let c0_i32_543 : BitVec 32 := 0#32
  ![v465.toNat, 0]
def k0_cond189 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_532 : BitVec 32 := 28#32
  let v745 : BitVec 1 := Scalar.cmpi .ne v2 c28_i32_532
  let v746 : BitVec 32 := Scalar.extui v745
  let c0_i32_533 : BitVec 32 := 0#32
  let v747 : BitVec 1 := Scalar.cmpi .ne v746 c0_i32_533
  v747

def k0_off190 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_346 : BitVec 32 := 32#32
  let v465 : BitVec 32 := Scalar.muli v2 c32_i32_346
  let c0_i32_543 : BitVec 32 := 0#32
  ![v465.toNat, 0]
def k0_cond190 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_534 : BitVec 32 := 29#32
  let v748 : BitVec 1 := Scalar.cmpi .ne v2 c29_i32_534
  let v749 : BitVec 32 := Scalar.extui v748
  let c0_i32_535 : BitVec 32 := 0#32
  let v750 : BitVec 1 := Scalar.cmpi .ne v749 c0_i32_535
  v750

def k0_off191 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_346 : BitVec 32 := 32#32
  let v465 : BitVec 32 := Scalar.muli v2 c32_i32_346
  let c0_i32_543 : BitVec 32 := 0#32
  ![v465.toNat, 0]
def k0_cond191 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_536 : BitVec 32 := 30#32
  let v751 : BitVec 1 := Scalar.cmpi .ne v2 c30_i32_536
  let v752 : BitVec 32 := Scalar.extui v751
  let c0_i32_537 : BitVec 32 := 0#32
  let v753 : BitVec 1 := Scalar.cmpi .ne v752 c0_i32_537
  v753

def k0_off192 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_346 : BitVec 32 := 32#32
  let v465 : BitVec 32 := Scalar.muli v2 c32_i32_346
  let c0_i32_543 : BitVec 32 := 0#32
  ![v465.toNat, 0]
def k0_cond192 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_538 : BitVec 32 := 31#32
  let v754 : BitVec 1 := Scalar.cmpi .ne v2 c31_i32_538
  let v755 : BitVec 32 := Scalar.extui v754
  let c0_i32_539 : BitVec 32 := 0#32
  let v756 : BitVec 1 := Scalar.cmpi .ne v755 c0_i32_539
  v756

def k0_off193 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_346 : BitVec 32 := 32#32
  let v465 : BitVec 32 := Scalar.muli v2 c32_i32_346
  let c0_i32_543 : BitVec 32 := 0#32
  ![v465.toNat, 0]
abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S1024x1024 : Shape := ⟨2, ![1024, 1024]⟩
abbrev S1024x65536 : Shape := ⟨2, ![1024, 65536]⟩
abbrev S65536x1024 : Shape := ⟨2, ![65536, 1024]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x65536, .bf16⟩
  | .hbm, ⟨2, _⟩ => ⟨S1024x65536, .bf16⟩
  | .hbm, ⟨3, _⟩ => ⟨S65536x1024, .bf16⟩
  | .hbm, ⟨4, _⟩ => ⟨S1024x65536, .f32⟩
  | .hbm, ⟨5, _⟩ => ⟨S1024x65536, .bf16⟩
  | .hbm, ⟨6, _⟩ => ⟨S1024x65536, .f32⟩
  | .hbm, ⟨7, _⟩ => ⟨S1024x65536, .bf16⟩
  | .hbm, ⟨8, _⟩ => ⟨S1024x65536, .bf16⟩
  | .hbm, ⟨9, _⟩ => ⟨S1024x65536, .bf16⟩
  | .hbm, ⟨10, _⟩ => ⟨S_, .bf16⟩
  | .hbm, ⟨11, _⟩ => ⟨S1024x65536, .bf16⟩
  | .hbm, ⟨12, _⟩ => ⟨S1024x65536, .bf16⟩
  | .hbm, ⟨13, _⟩ => ⟨S1024x65536, .bf16⟩
  | .hbm, ⟨14, _⟩ => ⟨S1024x65536, .bf16⟩
  | .hbm, ⟨15, _⟩ => ⟨S1024x1024, .f32⟩
  | .hbm, ⟨16, _⟩ => ⟨S1024x1024, .bf16⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Proof.Common.lean ====
/-
# The kernel's protocol: names, contents, schedule, debts and levels

Every device `c` signals every other device's barrier semaphore once and waits for 31 units on its own; computes its
partial product in four quarters of 256 rows; sends rows `32*j .. 32*j+31` of it to device `j`'s receive buffer, slot
`c` (reduce-scatter); waits for the 31 slots of its own receive buffer; sums the 32 slots into its rows of the output;
sends those rows to every other device (all-gather); waits for the 31 row blocks it receives and for its sends.

Per semaphore (`c` the device that holds it):
* barrier `c`: signalled one unit by each `d ≠ c`, waited for 31 units; `d`'s signal hands `c` slot `c` of `d`'s receive
  buffer and rows `c` of `d`'s output, both at any contents;
* send `c j` (`j ≠ c`): credited twice by device `c`'s own transfers to `j`, first the reduce-scatter one (handing back
  rows `j` of the partial product), then the all-gather one (handing back one of 32 shares of `c`'s rows of the output);
* reduce-scatter `c k` (`k ≠ c`): credited once by `k`'s transfer, handing `c` its slot `k` at rows `c` of `k`'s product;
* all-gather `c k` (`k ≠ c`): credited once by `k`'s transfer, handing `c` rows `k` of its output at `k`'s total.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Rounds
public import Idealize.ShloMosaic.Lib.ShareLeaves
public import Idealize.ShloMosaic.Lib.Ring
public import Idealize.ShloMosaic.Lib.Memref
public import Idealize.ShloMosaic.Lib.Pointwise.Index
public import Idealize.ShloMosaic.Lib.Tactic

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ShareLeaves (leaf)

variable {F : FTy → Type} [FloatOps F]

/-! ## The resource algebra: the pipeline library's copy and the protocol's, whose duty names are devices -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The memrefs -/

abbrev xM : Memref sig .tc .vmem S1024x1024 .bf16 := Memref.whole cc0_stg0_0
abbrev gM : Memref sig .tc .vmem S1024x2048 .bf16 := Memref.whole cc0_stg1_0
abbrev uM : Memref sig .tc .vmem S1024x2048 .bf16 := Memref.whole cc0_stg2_0
abbrev dM : Memref sig .tc .vmem S2048x1024 .bf16 := Memref.whole cc0_stg3_0
abbrev oM : Memref sig .tc .vmem S1024x1024 .bf16 := Memref.whole cc0_stg4_0
abbrev pM : Memref sig .tc .vmem S1024x1024 .bf16 := Memref.whole cc0_scratch0
abbrev rM : Memref sig .tc .vmem S32x32x1024 .bf16 := Memref.whole cc0_scratch1

/-- Rows `32*j .. 32*j+31` lie in the matrix. -/
theorem rows_inb (j : Dev nD) : ∀ a, (![32 * j.val, 0] : Fin 2 → ℕ) a + S32x1024.size a ≤ S1024x1024.size a := by
  revert j; decide
/-- Slot `j` lies in the receive buffer. -/
theorem slot_inb (j : Dev nD) : ∀ a, (![j.val, 0, 0] : Fin 3 → ℕ) a + S1x32x1024.size a ≤ S32x32x1024.size a := by
  revert j; decide

/-- Rows `32*j .. 32*j+31`. -/
abbrev rowsR (j : Dev nD) : Rect S1024x1024 := Rect.unit ![32 * j.val, 0] S32x1024.size (rows_inb j)
/-- Slot `j` of the receive buffer. -/
abbrev slotR (j : Dev nD) : Rect S32x32x1024 := Rect.unit ![j.val, 0, 0] S1x32x1024.size (slot_inb j)
/-- Rows `j` of the partial product. -/
abbrev chunkM (j : Dev nD) : Memref sig .tc .vmem S32x1024 .bf16 := pM.slice (rowsR j) (fun _ => rfl)
/-- Rows `j` of the output. -/
abbrev outM (j : Dev nD) : Memref sig .tc .vmem S32x1024 .bf16 := oM.slice (rowsR j) (fun _ => rfl)
/-- Slot `j` of the receive buffer, as a matrix. -/
abbrev slotM (j : Dev nD) : Memref sig .tc .vmem S32x1024 .bf16 :=
  (rM.slice (slotR j) (fun _ => rfl)).squeeze S32x1024 squeezes_S1x32x1024_S32x1024

/-! ## The semaphores -/

abbrev barS : Sem sig := (SemArray.scalar (sig.barrier 0 rfl) : Sems sig S_).sem

/-- The three arrays of transfer semaphores: sends, reduce-scatter arrivals, all-gather arrivals. -/
abbrev dsem (a : Fin 3) (j : Dev nD) : DmaSem sig := ⟨5 + 32 * a.val + j.val, by
  have := a.isLt; have := j.isLt; show _ < 101; simp only [nD] at *; omega⟩

abbrev barCell (c : Dev nD) : GSem nD τ sig := ((c : Thread nD τ), .reg barS)
abbrev dcell (a : Fin 3) (c j : Dev nD) : GSem nD τ sig := ((c : Thread nD τ), .dma (dsem a j))

/-- The cells of one device: its barrier cell and its transfer cells. -/
abbrev CI : Type := Option (Fin 3 × Dev nD)
abbrev csem : CI → SemLoc sig := fun | none => .reg barS | some x => .dma (dsem x.1 x.2)
abbrev kcell (x : Dev nD × CI) : GSem nD τ sig := ((x.1 : Thread nD τ), csem x.2)

/-- The array a transfer semaphore lies in, and its place there. -/
def kindOf (v : DmaSem sig) : Fin 3 := ⟨(v.val - 5) / 32 % 3, Nat.mod_lt _ (by decide)⟩
def idxOf (v : DmaSem sig) : Dev nD := ⟨(v.val - 5) % 32, Nat.mod_lt _ (by decide)⟩

/-- The array of a transfer semaphore is read off its number. -/
theorem kindOf_dsem (a : Fin 3) (j : Dev nD) : kindOf (dsem a j) = a := by
  have := a.isLt; have := j.isLt; simp only [nD] at this; ext; simp only [kindOf]; omega
/-- The place of a transfer semaphore in its array is read off its number. -/
theorem idxOf_dsem (a : Fin 3) (j : Dev nD) : idxOf (dsem a j) = j := by
  have := a.isLt; have := j.isLt; simp only [nD] at this; ext; simp only [idxOf]; omega
/-- The first five transfer semaphores are the staging ones. -/
theorem dsem_ge (a : Fin 3) (j : Dev nD) : 5 ≤ (dsem a j).val := by simp only; omega

/-- A device's cells are on different semaphores. -/
theorem csem_inj : Function.Injective csem := by
  rintro (_ | ⟨a, j⟩) (_ | ⟨b, k⟩) h
  · rfl
  · cases h
  · cases h
  · have h' : dsem a j = dsem b k := SemLoc.dma.inj h
    have ha := congrArg kindOf h'; have hj := congrArg idxOf h'
    rw [kindOf_dsem, kindOf_dsem] at ha; rw [idxOf_dsem, idxOf_dsem] at hj
    rw [ha, hj]

/-- The credit of one block of 32 rows, on every transfer semaphore. -/
def N : ℕ := (chunkM 0).view.dmaCredit
/-- A block's credit is positive. -/
theorem N_pos : 0 < N := View.dmaCredit_pos _ (by decide)
/-- A transfer into a slot credits `N` units. -/
theorem amount_slot (k : Dev nD) (a : Fin 3) (j : Dev nD) : (slotM k).view.amount (.dma (dsem a j)) = N := rfl
/-- A transfer into rows of the output credits `N` units. -/
theorem amount_out (k : Dev nD) (a : Fin 3) (j : Dev nD) : (outM k).view.amount (.dma (dsem a j)) = N := rfl
/-- The credit of a slot is `N`. -/
theorem credit_slot (k : Dev nD) : (slotM k).view.dmaCredit = N := rfl
/-- The credit of a block of rows of the partial product is `N`. -/
theorem credit_chunk (k : Dev nD) : (chunkM k).view.dmaCredit = N := rfl
/-- The credit of a block of rows of the output is `N`. -/
theorem credit_out (k : Dev nD) : (outM k).view.dmaCredit = N := rfl
attribute [irreducible] N

/-! ## Contents -/

/-- The four operands of device `c` as staged. -/
def xstg (c : Dev nD) : (cc0_stg0_0 : Ref sig .tc).ty.Contents (Elt F) :=
  (win0_0.blk (0 : Fin 1)).view.read (Elt F) ((s₀ m ρ).mem ((c : Thread nD τ).loc main_arg0))
def gstg (c : Dev nD) : (cc0_stg1_0 : Ref sig .tc).ty.Contents (Elt F) :=
  (win0_1.blk (0 : Fin 1)).view.read (Elt F) ((s₀ m ρ).mem ((c : Thread nD τ).loc main_arg1))
def ustg (c : Dev nD) : (cc0_stg2_0 : Ref sig .tc).ty.Contents (Elt F) :=
  (win0_2.blk (0 : Fin 1)).view.read (Elt F) ((s₀ m ρ).mem ((c : Thread nD τ).loc main_arg2))
def dstg (c : Dev nD) : (cc0_stg3_0 : Ref sig .tc).ty.Contents (Elt F) :=
  (win0_3.blk (0 : Fin 1)).view.read (Elt F) ((s₀ m ρ).mem ((c : Thread nD τ).loc main_arg3))

/-- Device `c`'s activation. -/
def act (c : Dev nD) : FVec F S1024x2048 .bf16 := k0_pay1 (xstg m ρ c) (gstg m ρ c) (xstg m ρ c) (ustg m ρ c)

/-- Rows `256*q .. 256*q+255` of device `c`'s partial product. -/
def wave (c : Dev nD) (q : Fin 4) : FVec F S256x1024 .bf16 := match q with
  | 0 => k0_pay2 (xstg m ρ c) (gstg m ρ c) (xstg m ρ c) (ustg m ρ c) (dstg m ρ c)
  | 1 => k0_pay11 (act m ρ c) (dstg m ρ c)
  | 2 => k0_pay20 (act m ρ c) (dstg m ρ c)
  | 3 => k0_pay29 (act m ρ c) (dstg m ρ c)

/-- The quarter that rows `j` lie in, and the rows' place in it. -/
def quarter (j : Dev nD) : Fin 4 := ⟨j.val / 8, by have := j.isLt; simp only [nD] at this; omega⟩
def inQuarter (j : Dev nD) (i : S32x1024.Idx) : S256x1024.Idx :=
  ix2 ⟨32 * (j.val % 8) + (i 0).val, by have : (i 0).val < 32 := (i 0).isLt; omega⟩ ⟨(i 1).val, (i 1).isLt⟩

/-- Rows `j` of device `c`'s partial product. -/
def partC (c j : Dev nD) : S32x1024.Idx → Elt F .bf16 := fun i => wave m ρ c (quarter j) (inQuarter j i)

/-- Device `c`'s receive buffer once every slot has arrived: slot `k` holds rows `c` of `k`'s partial product. -/
def rsAll (c : Dev nD) : S32x32x1024.Idx → Elt F .bf16 := fun i => partC m ρ ⟨(i 0).val, (i 0).isLt⟩ c fun a => i a.succ

/-- Rows `c` of the result: the 32 slots summed. -/
def total (c : Dev nD) : S32x1024.Idx → Elt F .bf16 := k0_pay38 (rsAll m ρ c)

/-- The whole result. -/
def outAll : S1024x1024.Idx → Elt F .bf16 := fun i =>
  total m ρ ⟨(i 0).val / 32, by have : (i 0).val < 1024 := (i 0).isLt; show _ < 32; omega⟩
    (ix2 ⟨(i 0).val % 32, Nat.mod_lt _ (by decide)⟩ ⟨(i 1).val, (i 1).isLt⟩)

/-! ## Ownership -/

/-- Device `d` owns a block of 32 rows, at any contents. -/
def ownsAny (d : Dev nD) (M : Memref sig .tc .vmem S32x1024 .bf16) : sProp 𝕄 :=
  iprop(∃ f : Buf (Elt F) (M.view.loc (d : Thread nD τ)), (M.view.loc (d : Thread nD τ)) ↦[M.view.set]{fullShare} f)
/-- Device `d` owns a share of a block of 32 rows, holding `X`. -/
def ownsAt (d : Dev nD) (M : Memref sig .tc .vmem S32x1024 .bf16) (q : PosShare TreeShare) (X : S32x1024.Idx → Elt F .bf16) : sProp 𝕄 :=
  iprop(∃ f : Buf (Elt F) (M.view.loc (d : Thread nD τ)), ⌜M.view.read (Elt F) f = X⌝ ∗ ((M.view.loc (d : Thread nD τ)) ↦[M.view.set]{q} f))

omit [FloatOps F] in
instance ownsAny_storable (d : Dev nD) (M) : BI.Storable (upEmb : UEmb _ 𝕄) (ownsAny (F := F) d M) := by unfold ownsAny; infer_instance
omit [FloatOps F] in
instance ownsAt_storable (d : Dev nD) (M q X) : BI.Storable (upEmb : UEmb _ 𝕄) (ownsAt (F := F) d M q X) := by unfold ownsAt; infer_instance

/-! ## The schedule -/

/-- What device `d`'s signal hands device `c`: slot `c` of `d`'s receive buffer and rows `c` of `d`'s output. -/
def barPay (c d : Dev nD) : sProp 𝕄 := iprop(ownsAny (F := F) d (slotM c) ∗ ownsAny (F := F) d (outM c))
/-- What each landing at device `c` hands it, by the array of the semaphore, the place `j` there and the round. -/
def dmaPay (c : Dev nD) (a : Fin 3) (j : Dev nD) (r : ℕ) : sProp 𝕄 :=
  if a = 0 then (if r = 0 then ownsAt c (chunkM j) fullShare (partC m ρ c j) else ownsAt c (outM c) (leaf 5 fullShare j) (total m ρ c))
  else if a = 1 then ownsAt c (slotM j) fullShare (partC m ρ j c)
  else ownsAt c (outM j) fullShare (total m ρ j)

/-- The rounds a transfer semaphore of array `a` is used in: two for a send semaphore, one for an arrival. -/
def rounds (a : Fin 3) : ℕ := if a = 0 then 2 else 1

def Rd : Rounds.Schedule (GSem nD τ sig) (Dev nD) 𝕄 where
  duties g r := if g.1.2 = .tc then (match g.2 with
    | .reg _ => if r = 0 then Finset.univ.erase g.1.1 else ∅
    | .dma v => if 5 ≤ v.val ∧ idxOf v ≠ g.1.1 ∧ r < rounds (kindOf v) then {idxOf v} else ∅) else ∅
  unitless _ := False
  amount g _ _ := match g.2 with | .reg _ => 1 | .dma _ => N
  payload g r d := match g.2 with
    | .reg _ => barPay g.1.1 d
    | .dma v => dmaPay m ρ g.1.1 (kindOf v) (idxOf v) r
  amount_pos g _ _ _ := by
    split
    · exact Nat.one_pos
    · exact N_pos

instance Rd_payload_storable (g : GSem nD τ sig) (r : ℕ) (d : Dev nD) :
    BI.Storable (upEmb : UEmb _ 𝕄) ((Rd (F := F) m ρ).payload g r d) := by
  show BI.Storable upEmb (match g.2 with
    | .reg _ => barPay g.1.1 d
    | .dma v => dmaPay m ρ g.1.1 (kindOf v) (idxOf v) r)
  unfold barPay dmaPay
  (repeat' split) <;> infer_instance

section Sched
variable (c : Dev nD)

/-- In its only round a barrier cell is paid by every other device. -/
theorem duties_bar : (Rd (F := F) m ρ).duties (barCell c) 0 = Finset.univ.erase c := by
  dsimp only [Rd]; rw [if_pos rfl, if_pos rfl]
/-- In each of its rounds a transfer cell is paid once, under the name of the other device. -/
theorem duties_dma {a : Fin 3} {j : Dev nD} {r : ℕ} (h : j ≠ c) (hr : r < rounds a) : (Rd (F := F) m ρ).duties (dcell a c j) r = {j} := by
  dsimp only [Rd]; rw [if_pos rfl, kindOf_dsem, idxOf_dsem, if_pos ⟨dsem_ge a j, h, hr⟩]
/-- After the first round nothing is paid to a barrier cell. -/
theorem duties_bar_later (r : ℕ) (hr : 1 ≤ r) : (Rd (F := F) m ρ).duties (barCell c) r = ∅ := by
  dsimp only [Rd]; rw [if_pos rfl, if_neg (by omega)]
/-- After its last round nothing is paid to a transfer cell. -/
theorem duties_dma_later {a : Fin 3} {j : Dev nD} (r : ℕ) (hr : rounds a ≤ r) : (Rd (F := F) m ρ).duties (dcell a c j) r = ∅ := by
  dsimp only [Rd]; rw [if_pos rfl, kindOf_dsem, if_neg (fun h => absurd h.2.2 (by omega))]
/-- Nothing is ever paid to the cell of a device's own place. -/
theorem duties_dma_self {a : Fin 3} (r : ℕ) : (Rd (F := F) m ρ).duties (dcell a c c) r = ∅ := by
  dsimp only [Rd]; rw [if_pos rfl, kindOf_dsem, idxOf_dsem, if_neg (fun h => h.2.1 rfl)]

/-- A barrier signal is one unit. -/
theorem amount_bar (d : Dev nD) (r : ℕ) : (Rd (F := F) m ρ).amount (barCell c) r d = 1 := rfl
/-- A landing is `N` units. -/
theorem amount_dma (a : Fin 3) (j d : Dev nD) (r : ℕ) : (Rd (F := F) m ρ).amount (dcell a c j) r d = N := rfl

/-- A barrier cell expects 31 units. -/
theorem expect_bar : (Rd (F := F) m ρ).expect (barCell c) 0 = 31 := by
  unfold Schedule.expect Schedule.amountOf
  rw [duties_bar, Finset.sum_congr rfl fun d _ => amount_bar m ρ c d 0, Finset.sum_const, Finset.card_erase_of_mem (Finset.mem_univ _),
    Finset.card_univ, smul_eq_mul]
  rfl
/-- A transfer cell expects `N` units in each of its rounds. -/
theorem expect_dma {a : Fin 3} {j : Dev nD} {r : ℕ} (h : j ≠ c) (hr : r < rounds a) : (Rd (F := F) m ρ).expect (dcell a c j) r = N := by
  unfold Schedule.expect Schedule.amountOf; rw [duties_dma m ρ c h hr, Finset.sum_singleton, amount_dma]

/-- A barrier signal hands over `barPay`. -/
theorem payload_bar (d : Dev nD) (r : ℕ) : (Rd (F := F) m ρ).payload (barCell c) r d = barPay c d := rfl
/-- A landing hands over `dmaPay`. -/
theorem payload_dma (a : Fin 3) (j d : Dev nD) (r : ℕ) : (Rd (F := F) m ρ).payload (dcell a c j) r d = dmaPay m ρ c a j r := by
  dsimp only [Rd]; rw [kindOf_dsem, idxOf_dsem]
/-- A transfer cell's whole round hands its one payload. -/
theorem rest_dma {a : Fin 3} {j : Dev nD} {r : ℕ} (h : j ≠ c) (hr : r < rounds a) :
    bigSep ((Rd (F := F) m ρ).duties (dcell a c j) r \ ∅) (fun d => (Rd (F := F) m ρ).payload (dcell a c j) r d) = dmaPay m ρ c a j r := by
  rw [Finset.sdiff_empty, duties_dma m ρ c h hr, bigSep_singleton, payload_dma]
/-- The barrier cell's whole round hands every other device's payload. -/
theorem rest_bar : bigSep ((Rd (F := F) m ρ).duties (barCell c) 0 \ ∅) (fun d => (Rd (F := F) m ρ).payload (barCell c) 0 d)
    = bigSep (Finset.univ.erase c) (fun d => barPay c d) := by
  rw [Finset.sdiff_empty, duties_bar]; rfl

end Sched

/-! ## What each device owes; the levels -/

/-- Device `c` still owes a unit to the barrier of each device in `S`, a block's arrival to each device in `A` at the
    reduce-scatter and to each in `B` at the all-gather. -/
def Ow (c : Dev nD) (S A B : Finset (Dev nD)) : CellTallies nD τ sig Unit :=
  ((∑ i ∈ B, tallyAt (dcell 2 i c) () N) + (∑ i ∈ A, tallyAt (dcell 1 i c) () N)) + ∑ i ∈ S, tallyAt (barCell i) () 1

/-- A summand of the last part of a sum of three moved to the end. -/
theorem sum_last {M : Type} [AddCommMonoid M] (b a s t : M) : b + a + (t + s) = b + a + s + t := by ac_rfl
/-- A summand of the middle part of a sum of three moved to the end. -/
theorem sum_mid {M : Type} [AddCommMonoid M] (b a s t : M) : b + (t + a) + s = b + a + s + t := by ac_rfl
/-- A summand of the first part of a sum of three moved to the end. -/
theorem sum_first {M : Type} [AddCommMonoid M] (b a s t : M) : t + b + a + s = b + a + s + t := by ac_rfl
/-- Owing one more device's barrier is owing one more unit. -/
theorem Ow_bar {c i : Dev nD} {S : Finset (Dev nD)} (A B : Finset (Dev nD)) (h : i ∉ S) : Ow c (insert i S) A B = Ow c S A B + tallyAt (barCell i) () 1 := by
  unfold Ow; rw [Finset.sum_insert h]; exact sum_last _ _ _ _
/-- Owing one more device's reduce-scatter block is owing one more block. -/
theorem Ow_rs {c i : Dev nD} {A : Finset (Dev nD)} (S B : Finset (Dev nD)) (h : i ∉ A) : Ow c S (insert i A) B = Ow c S A B + tallyAt (dcell 1 i c) () N := by
  unfold Ow; rw [Finset.sum_insert h]; exact sum_mid _ _ _ _
/-- Owing one more device's all-gather block is owing one more block. -/
theorem Ow_ag {c i : Dev nD} {B : Finset (Dev nD)} (S A : Finset (Dev nD)) (h : i ∉ B) : Ow c S A (insert i B) = Ow c S A B + tallyAt (dcell 2 i c) () N := by
  unfold Ow; rw [Finset.sum_insert h]; exact sum_first _ _ _ _
/-- With no device left to serve nothing is owed. -/
theorem Ow_empty (c : Dev nD) : Ow c ∅ ∅ ∅ = 0 := by unfold Ow; simp

def L (g : GSem nD τ sig) : Finset Unit := if g.1.2 = .tc then {()} else ∅
/-- Barrier cells at 1, reduce-scatter arrivals at 2, all-gather arrivals at 3, everything else at 0. -/
def lv (g : GSem nD τ sig) (_ : Unit) : ℕ := match g.2 with
  | .reg _ => 1
  | .dma v => if v.val < 5 then 0 else if kindOf v = 0 then 0 else (kindOf v).val + 1

/-- Only the cells of the compute threads have a level. -/
theorem L_of_ne (g : GSem nD τ sig) (h : g.1.2 ≠ .tc) : L g = ∅ := if_neg h
/-- The cells of the compute threads have a level. -/
theorem L_tc (c : Dev nD) (sm : SemLoc sig) : L ((c : Thread nD τ), sm) = {()} := if_pos rfl
/-- A barrier cell is at level 1. -/
theorem lv_bar (c : Dev nD) : lv (barCell c) () = 1 := rfl
/-- A send cell is at level 0, a reduce-scatter cell at 2, an all-gather cell at 3. -/
theorem lv_dma (a : Fin 3) (c j : Dev nD) : lv (dcell a c j) () = if a = 0 then 0 else a.val + 1 := by
  dsimp only [lv]; rw [if_neg (by omega), kindOf_dsem]

/-- A cell that a sum of debts owes at is the cell of one of them. -/
theorem sum_tally_pos {ι : Type} {S : Finset ι} {f : ι → GSem nD τ sig} {k : ℕ} {g : GSem nD τ sig} {u : Unit}
    (h : 0 < (∑ i ∈ S, tallyAt (f i) () k : CellTallies nD τ sig Unit) g u) : ∃ i ∈ S, g = f i := by
  rw [Finset.sum_apply, Finsupp.finset_sum_apply] at h
  obtain ⟨i, hi, h'⟩ := Finset.exists_ne_zero_of_sum_ne_zero (Nat.pos_iff_ne_zero.mp h)
  refine ⟨i, hi, ?_⟩
  by_contra hn
  rw [tallyAt_apply, if_neg (fun h => hn h.1)] at h'
  exact h' rfl

/-- A cell that a device owes at is an all-gather, a reduce-scatter or a barrier cell of a device not yet served. -/
theorem Ow_pos {c : Dev nD} {S A B : Finset (Dev nD)} {g : GSem nD τ sig} {u : Unit} (h : 0 < Ow c S A B g u) :
    (∃ i ∈ B, g = dcell 2 i c) ∨ (∃ i ∈ A, g = dcell 1 i c) ∨ (∃ i ∈ S, g = barCell i) := by
  unfold Ow at h
  rw [Pi.add_apply, Finsupp.add_apply, Pi.add_apply, Finsupp.add_apply] at h
  rcases Nat.lt_or_ge 0 ((∑ i ∈ S, tallyAt (barCell i) () 1 : CellTallies nD τ sig Unit) g u) with h1 | h1
  · exact .inr (.inr (sum_tally_pos h1))
  rcases Nat.lt_or_ge 0 ((∑ i ∈ A, tallyAt (dcell 1 i c) () N : CellTallies nD τ sig Unit) g u) with h2 | h2
  · exact .inr (.inl (sum_tally_pos h2))
  · exact .inl (sum_tally_pos (Nat.pos_of_ne_zero fun h0 => by rw [Nat.le_zero.mp h1, Nat.le_zero.mp h2, h0] at h; exact absurd h (by decide)))

/-- A device may wait on a cell while it owes only cells of a higher level. -/
theorem mayWait_of (c : Dev nD) (sm : SemLoc sig) (n : ℕ) (S A B : Finset (Dev nD)) (hn : lv ((c : Thread nD τ), sm) () ≤ n)
    (hS : n < 1 ∨ S = ∅) (hA : n < 2 ∨ A = ∅) (hB : n < 3 ∨ B = ∅) :
    (levAts L lv : sProp 𝕄) ⊢ MayWait (c : Thread nD τ) sm () (Ow c S A B) :=
  MayOwe.of_cut (L := L) (lev := lv) n (fun p hp => by rw [Finset.mem_singleton.mp hp, L_tc]; exact Finset.mem_singleton_self _)
    (fun g u hg => by rcases Ow_pos hg with ⟨i, _, rfl⟩ | ⟨i, _, rfl⟩ | ⟨i, _, rfl⟩ <;> exact Finset.mem_singleton_self _)
    (fun p hp => by rw [Finset.mem_singleton.mp hp]; exact hn)
    (fun g u hg => by
      rcases Ow_pos hg with ⟨i, hi, rfl⟩ | ⟨i, hi, rfl⟩ | ⟨i, hi, rfl⟩
      · rcases hB with hB | rfl
        · show n < lv (dcell 2 i c) (); rw [lv_dma]; exact hB
        · exact absurd hi (Finset.notMem_empty _)
      · rcases hA with hA | rfl
        · show n < lv (dcell 1 i c) (); rw [lv_dma]; exact hA
        · exact absurd hi (Finset.notMem_empty _)
      · rcases hS with hS | rfl
        · show n < lv (barCell i) (); exact hS
        · exact absurd hi (Finset.notMem_empty _))

/-! ## Sets of devices a loop has and has not served -/

/-- The devices from `n` on, and those before `n`, other than `c`. -/
def todo (c : Dev nD) (n : ℕ) : Finset (Dev nD) := Finset.univ.filter fun i => n ≤ i.val ∧ i ≠ c
def done (c : Dev nD) (n : ℕ) : Finset (Dev nD) := Finset.univ.filter fun i => i.val < n ∧ i ≠ c
/-- The blocks of the partial product device `c` holds once those before `k` are computed and those before `n` sent. -/
def kept (c : Dev nD) (n k : ℕ) : Finset (Dev nD) := Finset.univ.filter fun i => i.val < k ∧ (n ≤ i.val ∨ i = c)
/-- The devices device `c` has still to signal, having signalled those up to `k - 1` places after it. -/
def ahead (c : Dev nD) (k : ℕ) : Finset (Dev nD) := Finset.univ.filter fun i => k ≤ (i - c).val

/-- Serving another device takes it off the devices to be served. -/
theorem todo_ne {c j : Dev nD} (h : j ≠ c) : todo c j.val = insert j (todo c (j.val + 1)) := by
  ext i; simp only [todo, Finset.mem_filter, Finset.mem_univ, true_and, Finset.mem_insert]
  constructor
  · rintro ⟨h1, h2⟩
    by_cases h3 : i = j
    · exact .inl h3
    · exact .inr ⟨by have : i.val ≠ j.val := fun h => h3 (Fin.ext h); omega, h2⟩
  · rintro (rfl | ⟨h1, h2⟩)
    · exact ⟨le_refl _, h⟩
    · exact ⟨by omega, h2⟩
/-- A device does not serve itself. -/
theorem todo_eq (c : Dev nD) : todo c (c.val + 1) = todo c c.val := by
  ext i; simp only [todo, Finset.mem_filter, Finset.mem_univ, true_and]
  constructor
  · rintro ⟨h1, h2⟩; exact ⟨by omega, h2⟩
  · rintro ⟨h1, h2⟩; exact ⟨by have : i.val ≠ c.val := fun h => h2 (Fin.ext h); omega, h2⟩
/-- A device just served is no longer to be served. -/
theorem notMem_todo (c j : Dev nD) : j ∉ todo c (j.val + 1) := by simp [todo]
/-- Serving another device adds it to those served. -/
theorem done_ne {c j : Dev nD} (h : j ≠ c) : done c (j.val + 1) = insert j (done c j.val) := by
  ext i; simp only [done, Finset.mem_filter, Finset.mem_univ, true_and, Finset.mem_insert]
  constructor
  · rintro ⟨h1, h2⟩
    by_cases h3 : i = j
    · exact .inl h3
    · exact .inr ⟨by have : i.val ≠ j.val := fun h => h3 (Fin.ext h); omega, h2⟩
  · rintro (rfl | ⟨h1, h2⟩)
    · exact ⟨by omega, h⟩
    · exact ⟨by omega, h2⟩
/-- A device's own step adds no one to those served. -/
theorem done_eq (c : Dev nD) : done c (c.val + 1) = done c c.val := by
  ext i; simp only [done, Finset.mem_filter, Finset.mem_univ, true_and]
  constructor
  · rintro ⟨h1, h2⟩; exact ⟨by have : i.val ≠ c.val := fun h => h2 (Fin.ext h); omega, h2⟩
  · rintro ⟨h1, h2⟩; exact ⟨by omega, h2⟩
/-- A device is not served before its step. -/
theorem notMem_done (c j : Dev nD) : j ∉ done c j.val := by simp [done]
/-- At first every other device is to be served. -/
theorem todo_zero (c : Dev nD) : todo c 0 = Finset.univ.erase c := by
  ext i; simp [todo, eq_comm]
/-- At the end no device is to be served. -/
theorem todo_end (c : Dev nD) : todo c 32 = ∅ := by
  ext i; have : i.val < 32 := i.isLt; simp [todo]
/-- At first no device is served. -/
theorem done_zero (c : Dev nD) : done c 0 = ∅ := by ext i; simp [done]
/-- At the end every other device is served. -/
theorem done_end (c : Dev nD) : done c 32 = Finset.univ.erase c := by
  ext i; have : i.val < 32 := i.isLt; simp [done]
/-- Sending a block to another device takes it off the blocks held. -/
theorem kept_ne {c j : Dev nD} {k : ℕ} (h : j ≠ c) (hk : j.val < k) : kept c j.val k = insert j (kept c (j.val + 1) k) := by
  ext i; simp only [kept, Finset.mem_filter, Finset.mem_univ, true_and, Finset.mem_insert]
  constructor
  · rintro ⟨h1, h2⟩
    by_cases h3 : i = j
    · exact .inl h3
    · exact .inr ⟨h1, h2.imp_left fun h2 => by have : i.val ≠ j.val := fun h => h3 (Fin.ext h); omega⟩
  · rintro (rfl | ⟨h1, h2⟩)
    · exact ⟨hk, .inl (le_refl _)⟩
    · exact ⟨h1, h2.imp_left fun h => by omega⟩
/-- A device keeps its own block. -/
theorem kept_eq (c : Dev nD) (k : ℕ) : kept c (c.val + 1) k = kept c c.val k := by
  ext i; simp only [kept, Finset.mem_filter, Finset.mem_univ, true_and]
  constructor
  · rintro ⟨h1, h2⟩; exact ⟨h1, h2.imp_left fun h => by omega⟩
  · rintro ⟨h1, h2⟩
    refine ⟨h1, ?_⟩
    by_cases h3 : i = c
    · exact .inr h3
    · exact .inl (by have : i.val ≠ c.val := fun h => h3 (Fin.ext h); have := h2.resolve_right h3; omega)
/-- A block just sent is not held. -/
theorem notMem_kept {c j : Dev nD} (k : ℕ) (h : j ≠ c) : j ∉ kept c (j.val + 1) k := by simp [kept, h]
/-- A device's own block, once computed, is always held. -/
theorem self_mem_kept {c : Dev nD} (n : ℕ) {k : ℕ} (h : c.val < k) : c ∈ kept c n k := by simp [kept, h]
/-- At the end only the device's own block is held. -/
theorem kept_end (c : Dev nD) : kept c 32 32 = {c} := by
  ext i; have : i.val < 32 := i.isLt; simp [kept, this]
/-- At first no block is held. -/
theorem kept_zero (c : Dev nD) : kept c 0 0 = ∅ := by ext i; simp [kept]
/-- How many places device `i` comes after device `c`. -/
theorem sub_val (i c : Dev nD) : (i - c).val = (32 - c.val + i.val) % 32 := rfl
/-- Devices the same number of places after `c` are the same. -/
theorem sub_inj {i j c : Dev nD} (h : (i - c).val = (j - c).val) : i = j := by
  have hi : i.val < 32 := i.isLt; have hj : j.val < 32 := j.isLt; have hc : c.val < 32 := c.isLt
  rw [sub_val, sub_val] at h; ext; omega
/-- Signalling the device `k` places after takes it off those ahead. -/
theorem ahead_step {c j : Dev nD} {k : ℕ} (h : (j - c).val = k) : ahead c k = insert j (ahead c (k + 1)) := by
  ext i; simp only [ahead, Finset.mem_filter, Finset.mem_univ, true_and, Finset.mem_insert]
  constructor
  · intro h1
    by_cases h3 : i = j
    · exact .inl h3
    · refine .inr (lt_of_le_of_ne h1 fun h2 => h3 ?_)
      exact sub_inj (h2.symm.trans h.symm)
  · rintro (rfl | h1)
    · omega
    · omega
/-- A device just signalled is no longer ahead. -/
theorem notMem_ahead {c j : Dev nD} {k : ℕ} (h : (j - c).val = k) : j ∉ ahead c (k + 1) := by simp [ahead, h]
/-- At first every other device is ahead. -/
theorem ahead_one (c : Dev nD) : ahead c 1 = Finset.univ.erase c := by
  ext i; simp only [ahead, Finset.mem_filter, Finset.mem_univ, true_and, Finset.mem_erase, and_true]
  rw [Nat.one_le_iff_ne_zero]
  have hc : (c - c).val = 0 := by have : c.val < 32 := c.isLt; rw [sub_val]; omega
  exact not_congr ⟨fun h => sub_inj (h.trans hc.symm), fun h => by rw [h, hc]⟩
/-- At the end no device is ahead. -/
theorem ahead_end (c : Dev nD) : ahead c 32 = ∅ := by
  ext i; have : (i - c).val < 32 := (i - c).isLt; simp [ahead]

end Cert.KernelIdealProof

end
-- ==== Proof.Steps.lean ====
/-
# One step of each loop, at a symbolic device

The state a device is in between two steps of the body, as an assertion, and the rule of each kind of step: a barrier
signal, a quarter of the partial product, a reduce-scatter send, the device's own copy, a reduce-scatter wait, an
all-gather send (with the wait that precedes it), an all-gather wait and a closing wait. Each rule is stated for a
step number `n` and reads the printed operation's semaphore, device and block through equations.
-/
module

public import proofs.«01_k».proof.Proof.Common

@[expose] public section

set_option maxRecDepth 1000000

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The weakest precondition of a program on device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable (K : Dev nD × CI → ℕ)

/-! ## What is shared by all: the cells' invariants, that every cell has reached round 0, the levels -/

def ctx : sProp 𝕄 :=
  iprop((bigSep Finset.univ fun x : Dev nD × CI => cellInv ER (Rd m ρ) (K x) (kcell x))
    ∗ (bigSep Finset.univ fun x : Dev nD × CI => reached ER (kcell x) 0) ∗ levAts L lv)

instance ctx_persistent : Persistent (ctx (F := F) m ρ K) := by unfold ctx; infer_instance

/-- Every cell's invariant is known. -/
theorem ctx_inv (x : Dev nD × CI) : ctx (F := F) m ρ K ⊢ cellInv ER (Rd m ρ) (K x) (kcell x) := by
  unfold ctx
  iintro ⟨#H, -, -⟩
  iapply (show bigSep Finset.univ (fun x : Dev nD × CI => cellInv ER (Rd m ρ) (K x) (kcell x)) ⊢ _ from bigSep_elim (Finset.mem_univ x)); iexact H
/-- Every cell is known to have reached its first round. -/
theorem ctx_reached (x : Dev nD × CI) : ctx (F := F) m ρ K ⊢ reached ER (kcell x) 0 := by
  unfold ctx
  iintro ⟨-, #H, -⟩
  iapply (show bigSep Finset.univ (fun x : Dev nD × CI => reached ER (kcell x) 0) ⊢ _ from bigSep_elim (Finset.mem_univ x)); iexact H
/-- The levels are known. -/
theorem ctx_lev : ctx (F := F) m ρ K ⊢ (levAts L lv : sProp 𝕄) := by
  unfold ctx; iintro ⟨-, -, #H⟩; iexact H

/-- Device `c`'s debt. -/
def owed (c : Dev nD) (S A B : Finset (Dev nD)) : sProp 𝕄 := iprop(∃ W, owes (c : Thread nD τ) (Ow c S A B) W)

/-- A block whose cells read `X` is held at `X`. -/
theorem ownsAt_intro (d : Dev nD) (M : Memref sig .tc .vmem S32x1024 .bf16) (q : PosShare TreeShare) (X : S32x1024.Idx → Elt F .bf16)
    (f : Buf (Elt F) (M.view.loc (d : Thread nD τ))) (h : M.view.read (Elt F) f = X) :
    (M.view.loc (d : Thread nD τ) ↦[M.view.set]{q} f : sProp 𝕄) ⊢ ownsAt d M q X := by
  unfold ownsAt
  iintro H; iexists f; isplitr; · ipureintro; exact h
  iexact H

/-! ## Programs in sequence -/

/-- A step, then the rest. -/
theorem bind_step {c : Dev nD} {α β : Type} {p : Prog (TpuEff nD τ sig (Elt F) Λ₀ .tc) α} {k : α → Prog (TpuEff nD τ sig (Elt F) Λ₀ .tc) β}
    {P : sProp 𝕄} {R : α → sProp 𝕄} {Q : β → sProp 𝕄} (h : P ⊢ WP c p R) (hk : ∀ a, R a ⊢ WP c (k a) Q) : P ⊢ WP c (p >>= k) Q := by
  rw [WP, wp_bind]
  exact h.trans (wp_mono _ _ _ hk)

/-- A program that only returns. -/
theorem ret_step {c : Dev nD} {α : Type} {a : α} {P : sProp 𝕄} {Q : α → sProp 𝕄} (h : P ⊢ Q a) :
    P ⊢ WP c (pure a : Prog (TpuEff nD τ sig (Elt F) Λ₀ .tc) α) Q := by
  rw [WP, wp_pure]
  iintro H; imodintro; iapply h; iexact H

/-- A program that has returned. -/
theorem ret_intro {c : Dev nD} {α : Type} {a : α} {Q : α → sProp 𝕄} :
    Q a ⊢ WP c (Prog.ret a : Prog (TpuEff nD τ sig (Elt F) Λ₀ .tc) α) Q := by
  rw [WP, wp_ret]
  iintro H; imodintro; iexact H

/-- A branch taken exactly by the devices of which `B` holds. -/
theorem if_step {c : Dev nD} {B P : Prop} {inst : Decidable P} {t : P → Prog (TpuEff nD τ sig (Elt F) Λ₀ .tc) PUnit}
    {e : ¬P → Prog (TpuEff nD τ sig (Elt F) Λ₀ .tc) PUnit} {S : sProp 𝕄} {Q : PUnit → sProp 𝕄} (hP : P ↔ B)
    (ht : ∀ h : P, B → S ⊢ WP c (t h) Q) (he : ∀ h : ¬P, ¬B → S ⊢ WP c (e h) Q) : S ⊢ WP c (dite P t e) Q := by
  by_cases h : P
  · rw [dif_pos h]; exact ht h (hP.mp h)
  · rw [dif_neg h]; exact he h (fun hb => h (hP.mpr hb))

/-! ## One wait and one transfer -/

/-- A wait for a block on a transfer semaphore: the landing's payload comes with it. -/
theorem wait_dma (c : Dev nD) {a : Fin 3} {j : Dev nD} {r : ℕ} (hj : j ≠ c) (hr : r < rounds a) {sm : DmaSem sig} (hsm : sm = dsem a j)
    {src dst : Memref sig .tc .vmem S32x1024 .bf16} {w1 : src.view.WordExact} {w2 : dst.view.WordExact} (hN : dst.view.dmaCredit = N)
    (S A B : Finset (Dev nD)) (hlv : (levAts L lv : sProp 𝕄) ⊢ MayWait (c : Thread nD τ) (.dma (dsem a j)) () (Ow c S A B))
    {α : Type} {Q : α → sProp 𝕄} {k : PUnit → Prog (TpuEff nD τ sig (Elt F) Λ₀ .tc) α} :
    iprop(ctx m ρ K ∗ cred (tallyAt (dcell a c j) () N) ∗ owed c S A B ∗ atPos ER (dcell a c j) r ∅ 0)
      ⊢ iprop(((owed c S A B ∗ atPos ER (dcell a c j) (r + 1) ∅ 0 ∗ reached ER (dcell a c j) (r + 1) ∗ dmaPay m ρ c a j r) -∗ WP c (k ⟨⟩) Q)
          -∗ WP c (.op (.waitDma2 sm src dst w1 w2) k) Q) := by
  have hmw : ctx (F := F) m ρ K ⊢ MayWait (c : Thread nD τ) (.dma (dsem a j)) () (Ow c S A B) := (ctx_lev (F := F) m ρ K).trans hlv
  subst hsm; unfold owed
  rw [show (cred (tallyAt (dcell a c j) () N) : sProp 𝕄) = cred (tallyAt (dcell a c j) () dst.view.dmaCredit) from congrArg (fun n => cred (tallyAt (dcell a c j) () n)) hN.symm]
  iintro ⟨#Hctx, Hc, ⟨%W, HO⟩, Hat⟩ Hk
  iapply (Rounds.wp_wait_rest_token 𝒱₀ ER (Rd m ρ) (c : Thread nD τ) none (κ := K (c, some (a, j)))
      (wpE_waitDma2_eq 𝒱₀ (c : Thread nD τ) none Set.univ) (Set.mem_univ _) () (O := Ow c S A B) (W := W) (R := r) (m := 0) (T := ∅)
      (by rw [expect_dma m ρ c hj hr, hN]; exact Nat.zero_add _)) $$ [Hc HO Hat]
  · isplitr; · iapply (ctx_inv m ρ K (c, some (a, j))); iexact Hctx
    isplitl [Hc]; · iexact Hc
    isplitl [HO]; · iexact HO
    isplitr; · iapply hmw; iexact Hctx
    iexact Hat
  iintro ⟨HO, Hat, Hr, Hpay⟩
  ihave Hp := (Entails.of_eq (rest_dma m ρ c hj hr)) $$ Hpay
  iapply Hk
  isplitl [HO]; · iexists _; iexact HO
  isplitl [Hat]; · iexact Hat
  isplitl [Hr]; · iexact Hr
  iexact Hp

/-- A transfer of a block to device `j`, paying one round of the sender's cell and one of the receiver's. -/
theorem send_dma (c j n : Dev nD) (hj : j ≠ c) (hn : n = j) {a : Fin 3} {r : ℕ} (hr : r < 2) (ha : 0 < rounds a)
    {src dst : Memref sig .tc .vmem S32x1024 .bf16} {sS sR : DmaSem sig} (hS : sS = dsem 0 j) (hR : sR = dsem a c)
    {hsc : (dst : Memref sig (Dev.tc n : Thread nD τ).2.kind .vmem S32x1024 .bf16).view.ref.isScScratch = false}
    {w1 : src.view.WordExact} {w2 : dst.view.WordExact}
    {w3 : DmaTarget.Typed .vmem (.dma sR) (.remote (Dev.tc n : Thread nD τ) dst (.dma sS) hsc)}
    (hN : dst.view.amount (.dma (dsem a c)) = N) {q : PosShare TreeShare} (X : S32x1024.Idx → Elt F .bf16)
    (S A B S' A' B' : Finset (Dev nD)) (hO : Ow c S A B = Ow c S' A' B' + tallyAt (dcell a j c) () N)
    (hpay₁ : ownsAt c src q X ⊢ dmaPay m ρ c 0 j r) (hpay₂ : ownsAt j dst fullShare X ⊢ dmaPay m ρ j a c 0)
    {α : Type} {Q : α → sProp 𝕄} {k : PUnit → Prog (TpuEff nD τ sig (Elt F) Λ₀ .tc) α} :
    iprop(ctx m ρ K ∗ ownsAt c src q X ∗ ownsAny j dst ∗ owed c S A B
        ∗ dutyTok ER (dcell 0 c j) r j ∗ reached ER (dcell 0 c j) r ∗ dutyTok ER (dcell a j c) 0 c)
      ⊢ iprop(((cred (tallyAt (dcell 0 c j) () N) ∗ owed c S' A' B') -∗ WP c (k ⟨⟩) Q)
          -∗ WP c (.op (.enqueueDma src (.remote (Dev.tc n : Thread nD τ) dst (.dma sS) hsc) (.dma sR) w1 w2 w3) k) Q) := by
  subst hn; subst hS; subst hR
  have hsrc : ownsAt (F := F) c src q X ⊢ iprop(∃ f : Buf (Elt F) (src.view.loc (c : Thread nD τ)), ⌜src.view.read (Elt F) f = X⌝ ∗ (src.view.loc (c : Thread nD τ) ↦[src.view.set]{q} f)) := by unfold ownsAt; exact .rfl
  unfold ownsAny owed
  iintro ⟨#Hctx, Hsrc, ⟨%fd, Hd⟩, ⟨%W, HO⟩, Ht1, Hr1, Ht2⟩ Hk
  ihave Hsrc' := hsrc $$ Hsrc
  icases Hsrc' with ⟨%fs, %hfs, Hs⟩
  iapply (Rounds.wp_send_pointsTo 𝒱₀ ER (Rd m ρ) (c : Thread nD τ) none (κ₁ := K (c, some (0, n))) (κ₂ := K (n, some (a, c)))
    (r₁ := r) (r₂ := 0) (d₁ := n) (d₂ := c) (fs := fs) (fd := fd) (q := q)
    (by rw [duties_dma m ρ c hj hr]; exact Finset.mem_singleton_self _) (by rw [duties_dma m ρ n (Ne.symm hj) ha]; exact Finset.mem_singleton_self _)
    () () N hN (amount_dma m ρ c 0 n n r) (amount_dma m ρ n a c c 0) (Ow c S' A' B') hO (W := W)
    (by rw [payload_dma]; exact (ownsAt_intro c src q X fs hfs).trans hpay₁)
    (by rw [payload_dma]; exact (ownsAt_intro n dst fullShare X _ ((View.read_write_univ _ _).trans hfs)).trans hpay₂)) $$ [Hs Hd HO Ht1 Hr1 Ht2]
  · isplitr; · iapply (ctx_inv m ρ K (c, some (0, n))); iexact Hctx
    isplitr; · iapply (ctx_inv m ρ K (n, some (a, c))); iexact Hctx
    isplitl [Hs]; · iexact Hs
    isplitl [Hd]; · iexact Hd
    isplitl [HO]; · iexact HO
    isplitl [Ht1]; · iexact Ht1
    isplitl [Hr1]; · iexact Hr1
    isplitl [Ht2]; · iexact Ht2
    iapply (ctx_reached m ρ K (n, some (a, c))); iexact Hctx
  iintro ⟨Hc, HO⟩
  iapply Hk
  isplitl [Hc]; · iexact Hc
  iexists W; iexact HO

/-- The reduce-scatter's send hands back the block that was sent. -/
theorem pay_snd0 (c j : Dev nD) : dmaPay m ρ c 0 j 0 = ownsAt c (chunkM j) fullShare (partC m ρ c j) := by
  unfold dmaPay; rw [if_pos rfl, if_pos rfl]
/-- The all-gather's send hands back the share of the rows that was sent. -/
theorem pay_snd1 (c j : Dev nD) : dmaPay m ρ c 0 j 1 = ownsAt c (outM c) (leaf 5 fullShare j) (total m ρ c) := by
  unfold dmaPay; rw [if_pos rfl, if_neg (by decide)]
/-- A reduce-scatter arrival hands over the slot, filled. -/
theorem pay_rs (c j : Dev nD) (r : ℕ) : dmaPay m ρ c 1 j r = ownsAt c (slotM j) fullShare (partC m ρ j c) := by
  unfold dmaPay; rw [if_neg (by decide), if_pos rfl]
/-- An all-gather arrival hands over the rows of the output, filled. -/
theorem pay_ag (c j : Dev nD) (r : ℕ) : dmaPay m ρ c 2 j r = ownsAt c (outM j) fullShare (total m ρ j) := by
  unfold dmaPay; rw [if_neg (by decide), if_neg (by decide)]

/-- A new member of a separating conjunction. -/
theorem bs_insert {I : Type} [DecidableEq I] {s : Finset I} {i : I} (h : i ∉ s) (Φ : I → sProp 𝕄) :
    bigSep (insert i s) Φ = iprop(Φ i ∗ bigSep s Φ) := BI.bigSep_insert h

/-! ## Signals -/

/-- What device `c` spends on its signal to `i`: the right to signal, and `i`'s blocks of `c`'s two buffers. -/
def sigIn (c i : Dev nD) : sProp 𝕄 := iprop(dutyTok ER (barCell i) 0 c ∗ barPay i c)

/-- Device `c` has signalled the devices up to `k - 1` places after it. -/
def sigSt (c : Dev nD) (k : ℕ) : sProp 𝕄 :=
  iprop(ctx m ρ K ∗ owed c (ahead c k) (todo c 0) (todo c 0) ∗ bigSep (ahead c k) (sigIn c))

/-- The signal to the device `k` places after `c`. -/
theorem sig_step (c : Dev nD) {k : ℕ} (hk : 1 ≤ k) {i : Dev nD} (hi : (i - c).val = k) :
    sigSt m ρ K c k ⊢ WP c (semSignalWord i barS 1#32) fun _ => sigSt m ρ K c (k + 1) := by
  have hne : c ≠ i := by
    rintro rfl
    have hc : c.val < 32 := c.isLt
    rw [sub_val] at hi; omega
  unfold sigSt owed
  rw [ahead_step hi, bs_insert (notMem_ahead hi)]
  simp only [Ow_bar _ _ (notMem_ahead hi)]
  unfold sigIn semSignalWord
  iintro ⟨#Hctx, ⟨%W, HO⟩, ⟨Ht, Hpay⟩, Hrest⟩
  iapply (Rounds.wp_signal 𝒱₀ ER (Rd m ρ) (c : Thread nD τ) none (dst := (i : Thread nD τ)) (κ := K (i, none)) (r := 0)
      (d := c) (by rw [duties_bar]; exact Finset.mem_erase.mpr ⟨hne, Finset.mem_univ _⟩) ((amount_bar m ρ i c 0).trans (by decide)) ()
      (Ow c (ahead c (k + 1)) (todo c 0) (todo c 0)) rfl (W := W)) $$ [HO Ht Hpay]
  · isplitr; · iapply (ctx_inv m ρ K (i, none)); iexact Hctx
    isplitl [HO]; · iexact HO
    isplitl [Ht]; · iexact Ht
    isplitl [Hpay]; · rw [payload_bar]; iexact Hpay
    iapply (ctx_reached m ρ K (i, none)); iexact Hctx
  iintro HO
  iapply (ret_intro (c := c))
  isplitr; · iexact Hctx
  isplitl [HO]; · iexists W; iexact HO
  iexact Hrest

/-! ## The reduce-scatter -/

/-- Rows `256*q .. 256*q+255` lie in the matrix. -/
theorem quarter_inb (q : Fin 4) : ∀ a, (![256 * q.val, 0] : Fin 2 → ℕ) a + S256x1024.size a ≤ S1024x1024.size a := by
  revert q; decide
/-- Rows `256*q .. 256*q+255`. -/
abbrev quarterR (q : Fin 4) : Rect S1024x1024 := Rect.unit ![256 * q.val, 0] S256x1024.size (quarter_inb q)
/-- The quarters from `q` on. -/
def quarters (q : ℕ) : Finset (Fin 4) := Finset.univ.filter fun i => q ≤ i.val

/-- What device `c` spends on its send to `j`. -/
def rsIn (c j : Dev nD) : sProp 𝕄 := iprop(dutyTok ER (dcell 0 c j) 0 j ∗ dutyTok ER (dcell 1 j c) 0 c ∗ ownsAny (F := F) j (slotM c))
/-- What it holds after: the right to wait for that send. -/
def rsOut (c j : Dev nD) : sProp 𝕄 := cred (tallyAt (dcell 0 c j) () N)
def chunkAt (c j : Dev nD) : sProp 𝕄 := ownsAt c (chunkM j) fullShare (partC m ρ c j)
def quarterAny (c : Dev nD) (q : Fin 4) : sProp 𝕄 :=
  iprop(∃ f : Buf (Elt F) ((pM.access (quarterR q)).loc (c : Thread nD τ)), ((pM.access (quarterR q)).loc (c : Thread nD τ)) ↦[(pM.access (quarterR q)).set]{fullShare} f)
/-- The device's own slot: its own rows once step `c` is past. -/
def selfSlot (c : Dev nD) (s : ℕ) : sProp 𝕄 :=
  if c.val < s then ownsAt c (slotM c) fullShare (partC m ρ c c) else ownsAny (F := F) c (slotM c)
def dPts (c : Dev nD) : sProp 𝕄 := iprop(((c : Thread nD τ).loc cc0_stg3_0) ↦{fullShare} dstg m ρ c)
/-- The right to wait for device `k`'s block, and what that wait gives. -/
def rsWait (c k : Dev nD) : sProp 𝕄 := iprop(cred (tallyAt (dcell 1 c k) () N) ∗ atPos ER (dcell 1 c k) 0 ∅ 0)
def rsGot (c k : Dev nD) : sProp 𝕄 := iprop(atPos ER (dcell 1 c k) 1 ∅ 0 ∗ ownsAt c (slotM k) fullShare (partC m ρ k c))

/-- Device `c` in the reduce-scatter: the sends before `n` made, the quarters before `q` computed, the own copy made if its
    step is before `s`, the waits before `w` over. -/
def rsSt (c : Dev nD) (n q s w : ℕ) : sProp 𝕄 :=
  iprop(ctx m ρ K ∗ owed c ∅ (todo c n) (todo c 0) ∗ bigSep (todo c n) (rsIn c) ∗ bigSep (done c n) (rsOut c)
    ∗ bigSep (kept c n (8 * q)) (chunkAt m ρ c) ∗ bigSep (quarters q) (quarterAny c) ∗ selfSlot m ρ c s ∗ dPts m ρ c
    ∗ bigSep (todo c w) (rsWait c) ∗ bigSep (done c w) (rsGot m ρ c))

/-- The reduce-scatter send to device `n`. -/
theorem rs_send (c : Dev nD) {n q s w : ℕ} (hn : n < 32) (hq : n < 8 * q) {P : Prop} {inst : Decidable P} (hP : P ↔ (⟨n, hn⟩ : Dev nD) ≠ c)
    {tgt : P → Dev nD} (htgt : ∀ h, (tgt h).val = n) {src : Memref sig .tc .vmem S32x1024 .bf16} (hsrc : src = chunkM ⟨n, hn⟩)
    {dst : P → Memref sig .tc .vmem S32x1024 .bf16} (hdst : ∀ h, dst h = slotM c)
    {sS : DmaSem sig} (hS : sS = dsem 0 ⟨n, hn⟩) {sR : P → DmaSem sig} (hR : ∀ h, sR h = dsem 1 c)
    {hsc : ∀ h, (dst h : Memref sig (Dev.tc (tgt h) : Thread nD τ).2.kind .vmem S32x1024 .bf16).view.ref.isScScratch = false}
    {w1 : P → src.view.WordExact} {w2 : ∀ h, (dst h).view.WordExact}
    {w3 : ∀ h, DmaTarget.Typed .vmem (.dma (sR h)) (.remote (Dev.tc (tgt h) : Thread nD τ) (dst h) (.dma sS) (hsc h))} :
    rsSt m ρ K c n q s w ⊢ WP c (if h : P then (do
        Prog.lift (.enqueueDma src (.remote (Dev.tc (tgt h) : Thread nD τ) (dst h) (.dma sS) (hsc h)) (.dma (sR h)) (w1 h) (w2 h) (w3 h))
        pure PUnit.unit) else (do pure PUnit.unit)) fun _ => rsSt m ρ K c (n + 1) q s w := by
  refine if_step hP (fun h hj => ?_) (fun h hj => ?_)
  · have eS : ownsAt (F := F) c (chunkM ⟨n, hn⟩) fullShare (partC m ρ c ⟨n, hn⟩) = ownsAt c src fullShare (partC m ρ c ⟨n, hn⟩) := by rw [hsrc]
    have eD : ownsAny (F := F) ⟨n, hn⟩ (slotM c) = ownsAny ⟨n, hn⟩ (dst h) := by rw [hdst h]
    simp only [Prog.lift, Prog.bind_op, Prog.bind_ret, Prog.pure_eq_ret]
    unfold rsSt
    have e1 : todo c n = insert ⟨n, hn⟩ (todo c (n + 1)) := todo_ne hj
    have e2 : done c (n + 1) = insert ⟨n, hn⟩ (done c n) := done_ne hj
    have e3 : kept c n (8 * q) = insert ⟨n, hn⟩ (kept c (n + 1) (8 * q)) := kept_ne hj hq
    rw [e1, e2, e3, bs_insert (notMem_todo c ⟨n, hn⟩), bs_insert (notMem_done c ⟨n, hn⟩), bs_insert (notMem_kept (8 * q) hj)]
    unfold rsIn rsOut chunkAt
    iintro ⟨#Hctx, HO, ⟨⟨Ht1, Ht2, Hd⟩, Hin⟩, Hout, ⟨Hs, Hk⟩, Hq, Hself, Hdp, Hw, Hg⟩
    iapply (send_dma m ρ K c ⟨n, hn⟩ (tgt h) hj (Fin.ext (htgt h)) (r := 0) (by decide) (a := 1) (by decide) hS (hR h) (by rw [hdst h]; exact amount_slot c 1 c)
      (partC m ρ c ⟨n, hn⟩) ∅ (insert ⟨n, hn⟩ (todo c (n + 1))) (todo c 0) ∅ (todo c (n + 1)) (todo c 0)
      (Ow_rs ∅ (todo c 0) (notMem_todo c ⟨n, hn⟩)) (Entails.of_eq (eS.symm.trans (pay_snd0 m ρ c _).symm))
      (Entails.of_eq (by rw [hdst h]; exact (pay_rs m ρ ⟨n, hn⟩ c 0).symm))) $$ [HO Ht1 Ht2 Hd Hs]
    · isplitr; · iexact Hctx
      isplitl [Hs]; · rw [← eS]; iexact Hs
      isplitl [Hd]; · rw [← eD]; iexact Hd
      isplitl [HO]; · iexact HO
      isplitl [Ht1]; · iexact Ht1
      isplitr; · iapply (ctx_reached m ρ K (c, some (0, ⟨n, hn⟩))); iexact Hctx
      iexact Ht2
    iintro ⟨Hc, HO⟩
    iapply (ret_intro (c := c))
    isplitr; · iexact Hctx
    isplitl [HO]; · iexact HO
    isplitl [Hin]; · iexact Hin
    isplitl [Hc Hout]; · (isplitl [Hc]; · iexact Hc); iexact Hout
    isplitl [Hk]; · iexact Hk
    isplitl [Hq]; · iexact Hq
    isplitl [Hself]; · iexact Hself
    isplitl [Hdp]; · iexact Hdp
    isplitl [Hw]; · iexact Hw
    iexact Hg
  · refine ret_step ?_
    have hc : c = ⟨n, hn⟩ := (not_not.mp hj).symm
    subst hc
    unfold rsSt
    have e1 : todo (⟨n, hn⟩ : Dev nD) (n + 1) = todo ⟨n, hn⟩ n := todo_eq ⟨n, hn⟩
    have e2 : done (⟨n, hn⟩ : Dev nD) (n + 1) = done ⟨n, hn⟩ n := done_eq ⟨n, hn⟩
    have e3 : kept (⟨n, hn⟩ : Dev nD) (n + 1) (8 * q) = kept ⟨n, hn⟩ n (8 * q) := kept_eq ⟨n, hn⟩ (8 * q)
    rw [e1, e2, e3]

/-- The wait for device `n`'s block of the reduce-scatter. -/
theorem rs_wait (c : Dev nD) {w : ℕ} (hw : w < 32) {P : Prop} {inst : Decidable P} (hP : P ↔ (⟨w, hw⟩ : Dev nD) ≠ c)
    {src dst : Memref sig .tc .vmem S32x1024 .bf16} (hdst : dst = slotM ⟨w, hw⟩)
    {sm : DmaSem sig} (hS : sm = dsem 1 ⟨w, hw⟩) {w1 : P → src.view.WordExact} {w2 : P → dst.view.WordExact} :
    rsSt m ρ K c 32 4 32 w ⊢ WP c (if h : P then (do
        Prog.lift (.waitDma2 sm src dst (w1 h) (w2 h))
        pure PUnit.unit) else (do pure PUnit.unit)) fun _ => rsSt m ρ K c 32 4 32 (w + 1) := by
  refine if_step hP (fun h hj => ?_) (fun h hj => ?_)
  · simp only [Prog.lift, Prog.bind_op, Prog.bind_ret, Prog.pure_eq_ret]
    unfold rsSt
    have e1 : todo c w = insert ⟨w, hw⟩ (todo c (w + 1)) := todo_ne hj
    have e2 : done c (w + 1) = insert ⟨w, hw⟩ (done c w) := done_ne hj
    rw [e1, e2, bs_insert (notMem_todo c ⟨w, hw⟩), bs_insert (notMem_done c ⟨w, hw⟩), todo_end]
    unfold rsWait rsGot
    iintro ⟨#Hctx, HO, Hin, Hout, Hk, Hq, Hself, Hdp, ⟨⟨Hc, Hat⟩, Hw⟩, Hg⟩
    iapply (wait_dma m ρ K c (a := 1) (r := 0) hj (by decide) hS (by rw [hdst]; exact credit_slot _) ∅ ∅ (todo c 0)
      (mayWait_of c _ 2 ∅ ∅ (todo c 0) (by rw [lv_dma]; decide) (.inr rfl) (.inr rfl) (.inl (by decide)))) $$ [Hc HO Hat]
    · isplitr; · iexact Hctx
      isplitl [Hc]; · iexact Hc
      isplitl [HO]; · iexact HO
      iexact Hat
    iintro ⟨HO, Hat, -, Hp⟩
    iapply (ret_intro (c := c))
    isplitr; · iexact Hctx
    isplitl [HO]; · iexact HO
    isplitl [Hin]; · iexact Hin
    isplitl [Hout]; · iexact Hout
    isplitl [Hk]; · iexact Hk
    isplitl [Hq]; · iexact Hq
    isplitl [Hself]; · iexact Hself
    isplitl [Hdp]; · iexact Hdp
    isplitl [Hw]; · iexact Hw
    isplitl [Hat Hp]
    · isplitl [Hat]; · iexact Hat
      rw [← pay_rs m ρ c _ 0]; iexact Hp
    iexact Hg
  · refine ret_step ?_
    have hc : c = ⟨w, hw⟩ := (not_not.mp hj).symm
    subst hc
    unfold rsSt
    have e1 : todo (⟨w, hw⟩ : Dev nD) (w + 1) = todo ⟨w, hw⟩ w := todo_eq ⟨w, hw⟩
    have e2 : done (⟨w, hw⟩ : Dev nD) (w + 1) = done ⟨w, hw⟩ w := done_eq ⟨w, hw⟩
    rw [e1, e2]

/-! ## The all-gather -/

/-- What device `c` spends on its all-gather send to `j`. -/
def agIn (c j : Dev nD) : sProp 𝕄 :=
  iprop(cred (tallyAt (dcell 0 c j) () N) ∗ atPos ER (dcell 0 c j) 0 ∅ 0 ∗ dutyTok ER (dcell 0 c j) 1 j ∗ dutyTok ER (dcell 2 j c) 0 c
    ∗ ownsAny (F := F) j (outM c) ∗ ownsAt c (outM c) (leaf 5 fullShare j) (total m ρ c))
/-- What it holds after it. -/
def agOut (c j : Dev nD) : sProp 𝕄 :=
  iprop(cred (tallyAt (dcell 0 c j) () N) ∗ atPos ER (dcell 0 c j) 1 ∅ 0 ∗ chunkAt m ρ c j)
/-- The right to wait for device `k`'s rows of the result, and what that wait gives. -/
def agWait (c k : Dev nD) : sProp 𝕄 := iprop(cred (tallyAt (dcell 2 c k) () N) ∗ atPos ER (dcell 2 c k) 0 ∅ 0)
def agGot (c k : Dev nD) : sProp 𝕄 := iprop(atPos ER (dcell 2 c k) 1 ∅ 0 ∗ ownsAt c (outM k) fullShare (total m ρ k))
/-- What the closing wait for the send to `j` gives. -/
def finGot (c j : Dev nD) : sProp 𝕄 :=
  iprop(atPos ER (dcell 0 c j) 2 ∅ 0 ∗ chunkAt m ρ c j ∗ ownsAt c (outM c) (leaf 5 fullShare j) (total m ρ c))

/-- Device `c` has made the all-gather sends before `a`. -/
def agSt (c : Dev nD) (a : ℕ) : sProp 𝕄 :=
  iprop(ctx m ρ K ∗ owed c ∅ ∅ (todo c a) ∗ bigSep (todo c a) (agIn m ρ c) ∗ bigSep (done c a) (agOut m ρ c))
/-- Device `c` is over the all-gather waits before `v` and the closing waits before `f`. -/
def endSt (c : Dev nD) (v f : ℕ) : sProp 𝕄 :=
  iprop(ctx m ρ K ∗ owed c ∅ ∅ ∅ ∗ bigSep (todo c v) (agWait c) ∗ bigSep (done c v) (agGot m ρ c)
    ∗ bigSep (todo c f) (agOut m ρ c) ∗ bigSep (done c f) (finGot m ρ c))

/-- The wait for the reduce-scatter send to device `a`, then the all-gather send to it. -/
theorem ag_send (c : Dev nD) {a : ℕ} (ha : a < 32) {P : Prop} {inst : Decidable P} (hP : P ↔ (⟨a, ha⟩ : Dev nD) ≠ c)
    {dM' : P → Memref sig .tc .vmem S32x1024 .bf16} {sM' : Memref sig .tc .vmem S32x1024 .bf16} {sW : DmaSem sig} (hW : sW = dsem 0 ⟨a, ha⟩)
    {u1 : ∀ h, (dM' h).view.WordExact} {u2 : P → sM'.view.WordExact} (hN : sM'.view.dmaCredit = N)
    {tgt : P → Dev nD} (htgt : ∀ h, (tgt h).val = a) {src dst : P → Memref sig .tc .vmem S32x1024 .bf16} (hsrc : ∀ h, src h = outM c)
    (hdst : ∀ h, dst h = outM c) {sS : DmaSem sig} (hS : sS = dsem 0 ⟨a, ha⟩) {sR : P → DmaSem sig} (hR : ∀ h, sR h = dsem 2 c)
    {hsc : ∀ h, (dst h : Memref sig (Dev.tc (tgt h) : Thread nD τ).2.kind .vmem S32x1024 .bf16).view.ref.isScScratch = false}
    {w1 : ∀ h, (src h).view.WordExact} {w2 : ∀ h, (dst h).view.WordExact}
    {w3 : ∀ h, DmaTarget.Typed .vmem (.dma (sR h)) (.remote (Dev.tc (tgt h) : Thread nD τ) (dst h) (.dma sS) (hsc h))} :
    agSt m ρ K c a ⊢ WP c (if h : P then (do
        Prog.lift (.waitDma2 sW (dM' h) sM' (u1 h) (u2 h))
        Prog.lift (.enqueueDma (src h) (.remote (Dev.tc (tgt h) : Thread nD τ) (dst h) (.dma sS) (hsc h)) (.dma (sR h)) (w1 h) (w2 h) (w3 h))
        pure PUnit.unit) else (do pure PUnit.unit)) fun _ => agSt m ρ K c (a + 1) := by
  refine if_step hP (fun h hj => ?_) (fun h hj => ?_)
  · have eS : ownsAt (F := F) c (outM c) (leaf 5 fullShare ⟨a, ha⟩) (total m ρ c) = ownsAt c (src h) (leaf 5 fullShare ⟨a, ha⟩) (total m ρ c) := by rw [hsrc h]
    have eD : ownsAny (F := F) ⟨a, ha⟩ (outM c) = ownsAny ⟨a, ha⟩ (dst h) := by rw [hdst h]
    simp only [Prog.lift, Prog.bind_op, Prog.bind_ret, Prog.pure_eq_ret]
    unfold agSt
    have e1 : todo c a = insert ⟨a, ha⟩ (todo c (a + 1)) := todo_ne hj
    have e2 : done c (a + 1) = insert ⟨a, ha⟩ (done c a) := done_ne hj
    rw [e1, e2, bs_insert (notMem_todo c ⟨a, ha⟩), bs_insert (notMem_done c ⟨a, ha⟩)]
    unfold agIn agOut
    iintro ⟨#Hctx, HO, ⟨⟨Hc, Hat, Ht1, Ht2, Hd, Hs⟩, Hin⟩, Hout⟩
    iapply (wait_dma m ρ K c (a := 0) (r := 0) hj (by decide) hW hN ∅ ∅ (insert ⟨a, ha⟩ (todo c (a + 1)))
      (mayWait_of c _ 0 ∅ ∅ _ (by rw [lv_dma]; decide) (.inr rfl) (.inr rfl) (.inl (by decide)))) $$ [Hc HO Hat]
    · isplitr; · iexact Hctx
      isplitl [Hc]; · iexact Hc
      isplitl [HO]; · iexact HO
      iexact Hat
    iintro ⟨HO, Hat, #Hr, Hp⟩
    iapply (send_dma m ρ K c ⟨a, ha⟩ (tgt h) hj (Fin.ext (htgt h)) (r := 1) (by decide) (a := 2) (by decide) hS (hR h) (by rw [hdst h]; exact amount_out c 2 c)
      (total m ρ c) ∅ ∅ (insert ⟨a, ha⟩ (todo c (a + 1))) ∅ ∅ (todo c (a + 1))
      (Ow_ag ∅ ∅ (notMem_todo c ⟨a, ha⟩)) (Entails.of_eq (eS.symm.trans (pay_snd1 m ρ c _).symm))
      (Entails.of_eq (by rw [hdst h]; exact (pay_ag m ρ ⟨a, ha⟩ c 0).symm))) $$ [HO Ht1 Ht2 Hd Hs]
    · isplitr; · iexact Hctx
      isplitl [Hs]; · rw [← eS]; iexact Hs
      isplitl [Hd]; · rw [← eD]; iexact Hd
      isplitl [HO]; · iexact HO
      isplitl [Ht1]; · iexact Ht1
      isplitr; · iexact Hr
      iexact Ht2
    iintro ⟨Hc, HO⟩
    iapply (ret_intro (c := c))
    isplitr; · iexact Hctx
    isplitl [HO]; · iexact HO
    isplitl [Hin]; · iexact Hin
    isplitl [Hc Hat Hp]
    · isplitl [Hc]; · iexact Hc
      isplitl [Hat]; · iexact Hat
      unfold chunkAt; rw [← pay_snd0]; iexact Hp
    iexact Hout
  · refine ret_step ?_
    have hc : c = ⟨a, ha⟩ := (not_not.mp hj).symm
    subst hc
    unfold agSt
    have e1 : todo (⟨a, ha⟩ : Dev nD) (a + 1) = todo ⟨a, ha⟩ a := todo_eq ⟨a, ha⟩
    have e2 : done (⟨a, ha⟩ : Dev nD) (a + 1) = done ⟨a, ha⟩ a := done_eq ⟨a, ha⟩
    rw [e1, e2]

/-- The wait for device `v`'s rows of the result. -/
theorem ag_wait (c : Dev nD) {v : ℕ} (hv : v < 32) {P : Prop} {inst : Decidable P} (hP : P ↔ (⟨v, hv⟩ : Dev nD) ≠ c)
    {src dst : Memref sig .tc .vmem S32x1024 .bf16} (hdst : dst = outM ⟨v, hv⟩)
    {sm : DmaSem sig} (hS : sm = dsem 2 ⟨v, hv⟩) {w1 : P → src.view.WordExact} {w2 : P → dst.view.WordExact} :
    endSt m ρ K c v 0 ⊢ WP c (if h : P then (do
        Prog.lift (.waitDma2 sm src dst (w1 h) (w2 h))
        pure PUnit.unit) else (do pure PUnit.unit)) fun _ => endSt m ρ K c (v + 1) 0 := by
  refine if_step hP (fun h hj => ?_) (fun h hj => ?_)
  · simp only [Prog.lift, Prog.bind_op, Prog.bind_ret, Prog.pure_eq_ret]
    unfold endSt
    have e1 : todo c v = insert ⟨v, hv⟩ (todo c (v + 1)) := todo_ne hj
    have e2 : done c (v + 1) = insert ⟨v, hv⟩ (done c v) := done_ne hj
    rw [e1, e2, bs_insert (notMem_todo c ⟨v, hv⟩), bs_insert (notMem_done c ⟨v, hv⟩)]
    unfold agWait agGot
    iintro ⟨#Hctx, HO, ⟨⟨Hc, Hat⟩, Hw⟩, Hg, Hrest⟩
    iapply (wait_dma m ρ K c (a := 2) (r := 0) hj (by decide) hS (by rw [hdst]; exact credit_out _) ∅ ∅ ∅
      (mayWait_of c _ 3 ∅ ∅ ∅ (by rw [lv_dma]; decide) (.inr rfl) (.inr rfl) (.inr rfl))) $$ [Hc HO Hat]
    · isplitr; · iexact Hctx
      isplitl [Hc]; · iexact Hc
      isplitl [HO]; · iexact HO
      iexact Hat
    iintro ⟨HO, Hat, -, Hp⟩
    iapply (ret_intro (c := c))
    isplitr; · iexact Hctx
    isplitl [HO]; · iexact HO
    isplitl [Hw]; · iexact Hw
    isplitl [Hat Hp Hg]
    · isplitl [Hat Hp]
      · isplitl [Hat]; · iexact Hat
        rw [← pay_ag m ρ c _ 0]; iexact Hp
      iexact Hg
    iexact Hrest
  · refine ret_step ?_
    have hc : c = ⟨v, hv⟩ := (not_not.mp hj).symm
    subst hc
    unfold endSt
    have e1 : todo (⟨v, hv⟩ : Dev nD) (v + 1) = todo ⟨v, hv⟩ v := todo_eq ⟨v, hv⟩
    have e2 : done (⟨v, hv⟩ : Dev nD) (v + 1) = done ⟨v, hv⟩ v := done_eq ⟨v, hv⟩
    rw [e1, e2]

/-- The closing wait for the all-gather send to device `f`. -/
theorem fin_wait (c : Dev nD) {f : ℕ} (hf : f < 32) {P : Prop} {inst : Decidable P} (hP : P ↔ (⟨f, hf⟩ : Dev nD) ≠ c)
    {src dst : P → Memref sig .tc .vmem S32x1024 .bf16} (hN : ∀ h, (dst h).view.dmaCredit = N)
    {sm : DmaSem sig} (hS : sm = dsem 0 ⟨f, hf⟩) {w1 : ∀ h, (src h).view.WordExact} {w2 : ∀ h, (dst h).view.WordExact} :
    endSt m ρ K c 32 f ⊢ WP c (if h : P then (do
        Prog.lift (.waitDma2 sm (src h) (dst h) (w1 h) (w2 h))
        pure PUnit.unit) else (do pure PUnit.unit)) fun _ => endSt m ρ K c 32 (f + 1) := by
  refine if_step hP (fun h hj => ?_) (fun h hj => ?_)
  · simp only [Prog.lift, Prog.bind_op, Prog.bind_ret, Prog.pure_eq_ret]
    unfold endSt
    have e1 : todo c f = insert ⟨f, hf⟩ (todo c (f + 1)) := todo_ne hj
    have e2 : done c (f + 1) = insert ⟨f, hf⟩ (done c f) := done_ne hj
    rw [e1, e2, bs_insert (notMem_todo c ⟨f, hf⟩), bs_insert (notMem_done c ⟨f, hf⟩)]
    unfold agOut finGot
    iintro ⟨#Hctx, HO, Hw, Hg, ⟨⟨Hc, Hat, Hch⟩, Hrest⟩, Hfin⟩
    iapply (wait_dma m ρ K c (a := 0) (r := 1) hj (by decide) hS (hN h) ∅ ∅ ∅
      (mayWait_of c _ 3 ∅ ∅ ∅ (by rw [lv_dma]; decide) (.inr rfl) (.inr rfl) (.inr rfl))) $$ [Hc HO Hat]
    · isplitr; · iexact Hctx
      isplitl [Hc]; · iexact Hc
      isplitl [HO]; · iexact HO
      iexact Hat
    iintro ⟨HO, Hat, -, Hp⟩
    iapply (ret_intro (c := c))
    isplitr; · iexact Hctx
    isplitl [HO]; · iexact HO
    isplitl [Hw]; · iexact Hw
    isplitl [Hg]; · iexact Hg
    isplitl [Hrest]; · iexact Hrest
    isplitl [Hat Hch Hp]
    · isplitl [Hat]; · iexact Hat
      isplitl [Hch]; · iexact Hch
      rw [← pay_snd1]; iexact Hp
    iexact Hfin
  · refine ret_step ?_
    have hc : c = ⟨f, hf⟩ := (not_not.mp hj).symm
    subst hc
    unfold endSt
    have e1 : todo (⟨f, hf⟩ : Dev nD) (f + 1) = todo ⟨f, hf⟩ f := todo_eq ⟨f, hf⟩
    have e2 : done (⟨f, hf⟩ : Dev nD) (f + 1) = done ⟨f, hf⟩ f := done_eq ⟨f, hf⟩
    rw [e1, e2]

end Cert.KernelIdealProof

end
-- ==== Proof.Mem.lean ====
/-
# Blocks of rows and slots: how a buffer is cut into them and put together again

Rows `j` of a matrix are the indices whose row number divided by 32 is `j`, quarter `q` those divided by 256, slot `j` of
the receive buffer those whose first coordinate is `j`. From these the blocks of one buffer are disjoint and cover it, so
that owning every block, at the values one function has there, is owning the buffer at that function.
-/
module

public import proofs.«01_k».proof.Proof.Steps

@[expose] public section

set_option maxRecDepth 1000000

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CI → ℕ)

/-! ## Which indices lie in which block -/

/-- An index is in block `j` when its row divided by 32 is `j`. -/
theorem mem_rows (j : Dev nD) (i : S1024x1024.Idx) : i ∈ (rowsR j).set ↔ (i 0).val / 32 = j.val := by
  have h1 : (i 1).val < 1024 := (i 1).isLt
  rw [Rect.mem_set_unit]
  constructor
  · intro h
    have h0 : 32 * j.val ≤ (i 0).val ∧ (i 0).val < 32 * j.val + 32 := h 0
    omega
  · intro h a
    match a with
    | 0 => show 32 * j.val ≤ (i 0).val ∧ (i 0).val < 32 * j.val + 32; omega
    | 1 => show 0 ≤ (i 1).val ∧ (i 1).val < 0 + 1024; omega

/-- An index is in quarter `q` when its row divided by 256 is `q`. -/
theorem mem_quarter (q : Fin 4) (i : S1024x1024.Idx) : i ∈ (quarterR q).set ↔ (i 0).val / 256 = q.val := by
  have h1 : (i 1).val < 1024 := (i 1).isLt
  rw [Rect.mem_set_unit]
  constructor
  · intro h
    have h0 : 256 * q.val ≤ (i 0).val ∧ (i 0).val < 256 * q.val + 256 := h 0
    omega
  · intro h a
    match a with
    | 0 => show 256 * q.val ≤ (i 0).val ∧ (i 0).val < 256 * q.val + 256; omega
    | 1 => show 0 ≤ (i 1).val ∧ (i 1).val < 0 + 1024; omega

/-- An index is in slot `j` when its first coordinate is `j`. -/
theorem mem_slot (j : Dev nD) (i : S32x32x1024.Idx) : i ∈ (slotR j).set ↔ (i 0).val = j.val := by
  have h1 : (i 1).val < 32 := (i 1).isLt
  have h2 : (i 2).val < 1024 := (i 2).isLt
  rw [Rect.mem_set_unit]
  constructor
  · intro h
    have h0 : j.val ≤ (i 0).val ∧ (i 0).val < j.val + 1 := h 0
    omega
  · intro h a
    match a with
    | 0 => show j.val ≤ (i 0).val ∧ (i 0).val < j.val + 1; omega
    | 1 => show 0 ≤ (i 1).val ∧ (i 1).val < 0 + 32; omega
    | 2 => show 0 ≤ (i 2).val ∧ (i 2).val < 0 + 1024; omega

/-- The blocks as sets of indices of their buffers. -/
theorem chunk_set (j : Dev nD) : (chunkM j).view.set = (rowsR j).set := View.set_slice_whole _ _
/-- The cells of block `j` of the output. -/
theorem out_set (j : Dev nD) : (outM j).view.set = (rowsR j).set := View.set_slice_whole _ _
/-- The cells of a quarter of the partial product. -/
theorem quarter_set (q : Fin 4) : (pM.access (quarterR q)).set = (quarterR q).set := View.set_slice_whole _ _
/-- The cells of slot `j`. -/
theorem slot_set (j : Dev nD) : (slotM j).view.set = (slotR j).set := by
  show ((View.whole cc0_scratch1).slice (slotR j) |>.reshape S32x1024 _).set = _
  rw [View.set_reshape]; exact View.set_slice_whole _ _

/-- Different blocks of rows are disjoint. -/
theorem rows_disj (s : Finset (Dev nD)) : ∀ j ∈ s, ∀ j' ∈ s, j ≠ j' → Disjoint (rowsR j).set (rowsR j').set := by
  intro j _ j' _ h
  rw [Finset.disjoint_left]; intro i h1 h2
  exact h (Fin.ext (((mem_rows j i).mp h1).symm.trans ((mem_rows j' i).mp h2)))
/-- Different quarters are disjoint. -/
theorem quarter_disj (s : Finset (Fin 4)) : ∀ j ∈ s, ∀ j' ∈ s, j ≠ j' → Disjoint (quarterR j).set (quarterR j').set := by
  intro j _ j' _ h
  rw [Finset.disjoint_left]; intro i h1 h2
  exact h (Fin.ext (((mem_quarter j i).mp h1).symm.trans ((mem_quarter j' i).mp h2)))
/-- Different slots are disjoint. -/
theorem slot_disj (s : Finset (Dev nD)) : ∀ j ∈ s, ∀ j' ∈ s, j ≠ j' → Disjoint (slotR j).set (slotR j').set := by
  intro j _ j' _ h
  rw [Finset.disjoint_left]; intro i h1 h2
  exact h (Fin.ext (((mem_slot j i).mp h1).symm.trans ((mem_slot j' i).mp h2)))

/-- The blocks of rows cover the matrix. -/
theorem rows_cover : (Finset.univ : Finset (Dev nD)).biUnion (fun j => (rowsR j).set) = Finset.univ := by
  ext i; simp only [Finset.mem_biUnion, Finset.mem_univ, true_and, iff_true]
  have h : (i 0).val < 1024 := (i 0).isLt
  exact ⟨⟨(i 0).val / 32, by show _ < 32; omega⟩, (mem_rows _ i).mpr rfl⟩
/-- The quarters cover the matrix. -/
theorem quarter_cover : (Finset.univ : Finset (Fin 4)).biUnion (fun j => (quarterR j).set) = Finset.univ := by
  ext i; simp only [Finset.mem_biUnion, Finset.mem_univ, true_and, iff_true]
  have h : (i 0).val < 1024 := (i 0).isLt
  exact ⟨⟨(i 0).val / 256, by omega⟩, (mem_quarter _ i).mpr rfl⟩
/-- The slots cover the receive buffer. -/
theorem slot_cover : (Finset.univ : Finset (Dev nD)).biUnion (fun j => (slotR j).set) = Finset.univ := by
  ext i; simp only [Finset.mem_biUnion, Finset.mem_univ, true_and, iff_true]
  have h : (i 0).val < 32 := (i 0).isLt
  exact ⟨⟨(i 0).val, h⟩, (mem_slot _ i).mpr rfl⟩

/-- The devices whose rows lie in quarter `q`. -/
def inQ (q : Fin 4) : Finset (Dev nD) := Finset.univ.filter fun j => quarter j = q
/-- A quarter is its eight blocks of rows. -/
theorem quarter_rows (q : Fin 4) : (inQ q).biUnion (fun j => (rowsR j).set) = (quarterR q).set := by
  ext i
  have h : (i 0).val < 1024 := (i 0).isLt
  rw [mem_quarter]
  simp only [Finset.mem_biUnion, inQ, Finset.mem_filter, Finset.mem_univ, true_and, mem_rows]
  constructor
  · rintro ⟨j, h1, h2⟩
    have h3 : j.val / 8 = q.val := congrArg Fin.val h1
    omega
  · intro h1
    refine ⟨⟨(i 0).val / 32, by show _ < 32; omega⟩, Fin.ext ?_, rfl⟩
    show (i 0).val / 32 / 8 = q.val
    omega

/-! ## What a block of a buffer reads -/

/-- An entry of block `j` of the partial product's buffer. -/
theorem read_chunk (j : Dev nD) (f : (cc0_scratch0 : Ref sig .tc).ty.Contents (Elt F)) (i : S32x1024.Idx) :
    (chunkM j).view.read (Elt F) f i = f ((rowsR j).emb i) := rfl
/-- An entry of block `j` of the output. -/
theorem read_out (j : Dev nD) (f : (cc0_stg4_0 : Ref sig .tc).ty.Contents (Elt F)) (i : S32x1024.Idx) :
    (outM j).view.read (Elt F) f i = f ((rowsR j).emb i) := rfl
/-- An entry of a quarter of the partial product's buffer. -/
theorem read_quarter (q : Fin 4) (f : (cc0_scratch0 : Ref sig .tc).ty.Contents (Elt F)) (i : S256x1024.Idx) :
    (pM.access (quarterR q)).read (Elt F) f i = f ((quarterR q).emb i) := rfl

/-- Rows `j`, as rows of the quarter they lie in. -/
theorem rows_in_quarter (j : Dev nD) (i : S32x1024.Idx) : (rowsR j).emb i = (quarterR (quarter j)).emb (inQuarter j i) := by
  funext a; apply Fin.ext
  match a with
  | 0 =>
    show 32 * j.val + 1 * (i 0).val = 256 * (j.val / 8) + 1 * (32 * (j.val % 8) + (i 0).val); omega
  | 1 => rfl

/-- An entry of a block, read through the quarter that the block lies in. -/
theorem read_chunk_quarter {q : Fin 4} {j : Dev nD} (h : quarter j = q) (f : (cc0_scratch0 : Ref sig .tc).ty.Contents (Elt F)) (i : S32x1024.Idx) :
    (chunkM j).view.read (Elt F) f i = (pM.access (quarterR q)).read (Elt F) f (inQuarter j i) := by
  subst h; rw [read_chunk, read_quarter, rows_in_quarter]

/-- Where an entry of slot `j` lies in the receive buffer. -/
theorem slot_emb (j : Dev nD) (i : S32x1024.Idx) :
    (slotM j).view.emb i = (slotR j).emb (Shape.reshapeEquiv squeezes_S1x32x1024_S32x1024.numel_eq i) := rfl

end Cert.KernelIdealProof

end
-- ==== Proof.Local.lean ====
/-
# The steps on the device's own memory

A load of a whole staged operand; one quarter of the partial product, stored and cut into the eight blocks of rows it
is sent in; the device's own block of the reduce-scatter, copied into its own slot; the wait on the barrier.
-/
module

public import proofs.«01_k».proof.Proof.Mem

@[expose] public section

set_option maxRecDepth 1000000

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CI → ℕ)

/-! ## Reading off contents -/

/-- A block known to read `X` holds the values of any contents that reads `X`. -/
theorem ownsAt_eq (d : Dev nD) (M : Memref sig .tc .vmem S32x1024 .bf16) (q : PosShare TreeShare) (X : S32x1024.Idx → Elt F .bf16)
    (G : Buf (Elt F) (M.view.loc (d : Thread nD τ))) (hG : M.view.read (Elt F) G = X) :
    ownsAt d M q X = (M.view.loc (d : Thread nD τ) ↦[M.view.set]{q} G : sProp 𝕄) := by
  have h₁ : ownsAt d M q X ⊢ (M.view.loc (d : Thread nD τ) ↦[M.view.set]{q} G : sProp 𝕄) := by
   unfold ownsAt
   iintro ⟨%f, %hf, H⟩
   have h : (M.view.loc (d : Thread nD τ) ↦[M.view.set]{q} f : sProp 𝕄) = (M.view.loc (d : Thread nD τ) ↦[M.view.set]{q} G) := by
     refine pointsTo_congr fun i hi => ?_
     obtain ⟨x, -, rfl⟩ := Finset.mem_map.mp hi
     exact (cast_inj _).mp (congrFun (hf.trans hG.symm) x)
   rw [← h]; iexact H
  exact Entails.antisymm h₁ (ownsAt_intro d M q X G hG)

/-- A block held at given contents is held at any. -/
theorem ownsAt_any (d : Dev nD) (M : Memref sig .tc .vmem S32x1024 .bf16) (X : S32x1024.Idx → Elt F .bf16) :
    ownsAt d M fullShare X ⊢ (ownsAny d M : sProp 𝕄) := by
  unfold ownsAt ownsAny
  iintro ⟨%f, -, H⟩; iexists f; iexact H

/-- A member taken out of a separating conjunction. -/
theorem bs_erase {I : Type} [DecidableEq I] {s : Finset I} {i : I} (h : i ∈ s) (Φ : I → sProp 𝕄) :
    bigSep s Φ = iprop(Φ i ∗ bigSep (s.erase i) Φ) := BI.bigSep_erase h
/-- A separating conjunction over two disjoint sets. -/
theorem bs_union {I : Type} [DecidableEq I] {s t : Finset I} (h : Disjoint s t) (Φ : I → sProp 𝕄) :
    bigSep (s ∪ t) Φ = iprop(bigSep s Φ ∗ bigSep t Φ) := BI.bigSep_union h

/-! ## Loads -/

/-- A load from a buffer held whole. -/
theorem load_step (c : Dev nD) {s : Shape} {e : EltTy} {M : Memref sig .tc .vmem s e} {r : LoadRect s} {hl : M.view.LoadsAt r}
    {α : Type} {k : (r.shape.Idx → Elt F e) → Prog (TpuEff nD τ sig (Elt F) Λ₀ .tc) α} {q : PosShare TreeShare}
    {f : Buf (Elt F) (M.view.loc (c : Thread nD τ))} {R : sProp 𝕄} {Q : α → sProp 𝕄}
    (hk : iprop((M.view.loc (c : Thread nD τ) ↦{q} f) ∗ R) ⊢ WP c (k (M.view.readAt (Elt F) r f)) Q) :
    iprop((M.view.loc (c : Thread nD τ) ↦{q} f) ∗ R) ⊢ WP c (Prog.lift (.load M r hl) >>= k) Q := by
  simp only [Prog.lift, Prog.bind_op, Prog.bind_ret]
  iintro ⟨H, HR⟩
  iapply (wp_load 𝒱₀ (c : Thread nD τ) none Set.univ (Finset.subset_univ _)) $$ [H]; · iexact H
  iintro H
  iapply hk
  isplitl [H]; · iexact H
  iexact HR

/-! ## A quarter of the partial product -/

/-- Computing a quarter takes it off those to be computed. -/
theorem quarters_eq (q : ℕ) (hq : q < 4) : quarters q = insert (⟨q, hq⟩ : Fin 4) (quarters (q + 1)) := by
  ext i; simp only [quarters, Finset.mem_filter, Finset.mem_univ, true_and, Finset.mem_insert, Fin.ext_iff]; omega
/-- A quarter just computed is no longer to be computed. -/
theorem notMem_quarters (q : ℕ) (hq : q < 4) : (⟨q, hq⟩ : Fin 4) ∉ quarters (q + 1) := by simp [quarters]
/-- Computing a quarter adds its eight blocks to those held. -/
theorem kept_quarter (c : Dev nD) {n q : ℕ} (hq : q < 4) (hn : n ≤ 8 * q) : kept c n (8 * (q + 1)) = inQ ⟨q, hq⟩ ∪ kept c n (8 * q) := by
  ext i
  simp only [kept, inQ, quarter, Finset.mem_filter, Finset.mem_univ, true_and, Finset.mem_union, Fin.ext_iff]
  have := c.isLt; have := i.isLt
  omega
/-- The blocks of a new quarter were not held before. -/
theorem disj_quarter (c : Dev nD) (n : ℕ) {q : ℕ} (hq : q < 4) : Disjoint (inQ ⟨q, hq⟩) (kept c n (8 * q)) := by
  rw [Finset.disjoint_left]; intro i
  simp only [kept, inQ, quarter, Finset.mem_filter, Finset.mem_univ, true_and, Fin.ext_iff]
  omega

/-- A computed quarter is its eight blocks of rows. -/
theorem quarter_split (c : Dev nD) (q : Fin 4) (f : (cc0_scratch0 : Ref sig .tc).ty.Contents (Elt F)) :
    ((pM.access (quarterR q)).loc (c : Thread nD τ) ↦[(pM.access (quarterR q)).set]{fullShare}
        (pM.access (quarterR q)).write (Elt F) f (wave m ρ c q) Finset.univ : sProp 𝕄)
      = bigSep (inQ q) (chunkAt m ρ c) := by
  have e : bigSep (inQ q) (chunkAt m ρ c) = bigSep (inQ q) fun j =>
      ((c : Thread nD τ).loc cc0_scratch0 ↦[(rowsR j).set]{fullShare} (pM.access (quarterR q)).write (Elt F) f (wave m ρ c q) Finset.univ : sProp 𝕄) := by
    refine bigSep_congr fun j hj => ?_
    have hj' : quarter j = q := (Finset.mem_filter.mp hj).2
    unfold chunkAt
    rw [ownsAt_eq c (chunkM j) fullShare (partC m ρ c j) ((pM.access (quarterR q)).write (Elt F) f (wave m ρ c q) Finset.univ) (by
      funext i
      rw [read_chunk_quarter hj', View.read_write_univ]
      subst hj'; rfl), chunk_set]
  rw [e, quarter_set, ← quarter_rows]
  exact pointsTo_biUnion (ℓ := (c : Thread nD τ).loc cc0_scratch0) (q := fullShare) (inQ q) (fun j => (rowsR j).set) (rows_disj _)

/-- The step that computes quarter `q`: the down-projection's operand read, the quarter stored. -/
theorem wave_step (c : Dev nD) {n q s w : ℕ} (hq : q < 4) (hn : n ≤ 8 * q) {o : Fin 2 → ℕ} (ho : o = ![256 * q, 0])
    {i₀ : ∀ a, (![0, 0] : Fin 2 → ℕ) a + S2048x1024.size a ≤ S2048x1024.size a} {i₁ i₂ : ∀ a, o a + S256x1024.size a ≤ S1024x1024.size a}
    {l₀ : dM.view.LoadsAt (Rect.unit (s := S2048x1024) ![0, 0] S2048x1024.size i₀).toLoadRect}
    {l₁ : pM.view.LoadsAt (Rect.unit (s := S1024x1024) o S256x1024.size i₁).toLoadRect}
    {pay : Vec F S2048x1024 .bf16 → FVec F S256x1024 .bf16} (hpay : pay (dstg m ρ c) = wave m ρ c ⟨q, hq⟩)
    {hx : (pM.access (Rect.unit (s := S1024x1024) o S256x1024.size i₂)).Stores Finset.univ} {hm}
    {α : Type} {k : PUnit → Prog (TpuEff nD τ sig (Elt F) Λ₀ .tc) α} {Q : α → sProp 𝕄}
    (hk : rsSt m ρ K c n (q + 1) s w ⊢ WP c (k ⟨⟩) Q) :
    rsSt m ρ K c n q s w ⊢ WP c (Prog.lift (.load dM (Rect.unit (s := S2048x1024) ![0, 0] S2048x1024.size i₀).toLoadRect l₀) >>= fun v =>
      Prog.lift (.load pM (Rect.unit (s := S1024x1024) o S256x1024.size i₁).toLoadRect l₁) >>= fun _ =>
      Prog.lift (.store pM (Rect.unit (s := S1024x1024) o S256x1024.size i₂) (pay v) Finset.univ hx hm) >>= k) Q := by
  subst ho
  have hd : dM.view.readAt (Elt F) (Rect.unit (s := S2048x1024) ![0, 0] S2048x1024.size i₀).toLoadRect (dstg m ρ c) = dstg m ρ c :=
    Memref.readAt_unit_zero (Elt F) cc0_stg3_0 (by funext a; fin_cases a <;> rfl) i₀ _
  simp only [Prog.lift, Prog.bind_op, Prog.bind_ret]
  refine BIBase.Entails.trans ?_ (show iprop(dPts m ρ c ∗ quarterAny c ⟨q, hq⟩ ∗ ((dPts m ρ c ∗ bigSep (inQ ⟨q, hq⟩) (chunkAt m ρ c)) -∗ rsSt m ρ K c n (q + 1) s w)) ⊢ _ from ?_)
  · unfold rsSt
    rw [quarters_eq q hq, bs_insert (notMem_quarters q hq), kept_quarter c hq hn, bs_union (disj_quarter c n hq)]
    iintro ⟨#Hctx, HO, Hin, Hout, Hk, ⟨Hq, Hqs⟩, Hself, Hdp, Hw, Hg⟩
    isplitl [Hdp]; · iexact Hdp
    isplitl [Hq]; · iexact Hq
    iintro ⟨Hdp, Hnew⟩
    isplitr; · iexact Hctx
    isplitl [HO]; · iexact HO
    isplitl [Hin]; · iexact Hin
    isplitl [Hout]; · iexact Hout
    isplitl [Hnew Hk]; · (isplitl [Hnew]; · iexact Hnew); iexact Hk
    isplitl [Hqs]; · iexact Hqs
    isplitl [Hself]; · iexact Hself
    isplitl [Hdp]; · iexact Hdp
    isplitl [Hw]; · iexact Hw
    iexact Hg
  · unfold quarterAny
    iintro ⟨Hdp, ⟨%f, Hq⟩, Hback⟩
    iapply (wp_load 𝒱₀ (c : Thread nD τ) none Set.univ (m := dM) (Finset.subset_univ _)) $$ [Hdp]
    · unfold dPts; iexact Hdp
    iintro Hdp
    rw [hd]
    iapply (wp_load_rect 𝒱₀ (c : Thread nD τ) none Set.univ (m := pM) (Finset.Subset.refl _)) $$ [Hq]; · iexact Hq
    iintro Hq
    iapply (wp_store 𝒱₀ (c : Thread nD τ) none Set.univ (m := pM) (Mk := Finset.univ) (Finset.Subset.refl _)) $$ [Hq]; · iexact Hq
    iintro Hq
    iapply hk
    iapply Hback
    isplitl [Hdp]; · unfold dPts; iexact Hdp
    rw [hpay]
    rw [← quarter_split m ρ c ⟨q, hq⟩ f]
    iexact Hq

/-! ## The device's own block -/

/-- A slot read as a matrix is the slot read as it lies in the buffer. -/
theorem read_slot (j : Dev nD) (f : (cc0_scratch1 : Ref sig .tc).ty.Contents (Elt F)) (i : S32x1024.Idx) :
    (slotM j).view.read (Elt F) f i = (rM.access (slotR j)).read (Elt F) f (Shape.reshapeEquiv squeezes_S1x32x1024_S32x1024.numel_eq i) := rfl

/-- The copy of the device's own rows into its own slot, made at step `c`. -/
theorem self_step (c : Dev nD) {n' q n w : ℕ} (hn : n < 32) (hq : n < 8 * q) {P : Prop} {inst : Decidable P} (hP : P ↔ (⟨n, hn⟩ : Dev nD) = c)
    {o : Fin 2 → ℕ} (ho : o = ![32 * n, 0]) {o' : Fin 3 → ℕ} (ho' : o' = ![n, 0, 0])
    {i₁ : ∀ a, o a + S32x1024.size a ≤ S1024x1024.size a} {i₂ i₃ : ∀ a, o' a + S1x32x1024.size a ≤ S32x32x1024.size a}
    {l₁ : P → pM.view.LoadsAt (Rect.unit (s := S1024x1024) o S32x1024.size i₁).toLoadRect}
    {l₂ : P → rM.view.LoadsAt (Rect.unit (s := S32x32x1024) o' S1x32x1024.size i₂).toLoadRect}
    {pay : Vec F S32x1024 .bf16 → FVec F S1x32x1024 .bf16} (hpay : ∀ v, pay v = shapeCast S1x32x1024 v shapeCasts_S32x1024_S1x32x1024)
    {hx : P → (rM.access (Rect.unit (s := S32x32x1024) o' S1x32x1024.size i₃)).Stores Finset.univ}
    {hm : P → ((Finset.univ : Finset (Rect.unit (s := S32x32x1024) o' S1x32x1024.size i₃).shape.Idx) = Finset.univ ∨ ∀ a, (Rect.unit (s := S32x32x1024) o' S1x32x1024.size i₃).stride a = 1)} :
    rsSt m ρ K c n' q n w ⊢ WP c (if h : P then (do
        let v ← Prog.lift (.load pM (Rect.unit (s := S1024x1024) o S32x1024.size i₁).toLoadRect (l₁ h))
        let _ ← Prog.lift (.load rM (Rect.unit (s := S32x32x1024) o' S1x32x1024.size i₂).toLoadRect (l₂ h))
        Prog.lift (.store rM (Rect.unit (s := S32x32x1024) o' S1x32x1024.size i₃) (pay v) Finset.univ (hx h) (hm h))
        pure PUnit.unit) else (do pure PUnit.unit)) fun _ => rsSt m ρ K c n' q (n + 1) w := by
  subst ho; subst ho'
  refine if_step hP (fun h hc => ?_) (fun h hc => ?_)
  · subst hc
    simp only [Prog.lift, Prog.bind_op, Prog.bind_ret, Prog.pure_eq_ret]
    unfold rsSt
    have e0 : selfSlot m ρ (⟨n, hn⟩ : Dev nD) n = ownsAny (⟨n, hn⟩ : Dev nD) (slotM ⟨n, hn⟩) := if_neg (Nat.lt_irrefl n)
    have e1 : selfSlot m ρ (⟨n, hn⟩ : Dev nD) (n + 1) = ownsAt (⟨n, hn⟩ : Dev nD) (slotM ⟨n, hn⟩) fullShare (partC m ρ ⟨n, hn⟩ ⟨n, hn⟩) := if_pos (Nat.lt_succ_self n)
    rw [e0, e1, bs_erase (self_mem_kept (c := (⟨n, hn⟩ : Dev nD)) n' hq)]
    iintro ⟨#Hctx, HO, Hin, Hout, ⟨Hc, Hk⟩, Hqs, Hself, Hdp, Hw, Hg⟩
    unfold ownsAny
    ihave Hc' := (show chunkAt m ρ ⟨n, hn⟩ ⟨n, hn⟩ ⊢ (iprop(∃ f : Buf (Elt F) ((chunkM ⟨n, hn⟩).view.loc ((⟨n, hn⟩ : Dev nD) : Thread nD τ)),
        ⌜(chunkM ⟨n, hn⟩).view.read (Elt F) f = partC m ρ ⟨n, hn⟩ ⟨n, hn⟩⌝
          ∗ ((chunkM ⟨n, hn⟩).view.loc ((⟨n, hn⟩ : Dev nD) : Thread nD τ) ↦[(chunkM ⟨n, hn⟩).view.set]{fullShare} f)) : sProp 𝕄) from by unfold chunkAt ownsAt; exact .rfl) $$ Hc
    icases Hc' with ⟨%f, %hf, Hc⟩
    icases Hself with ⟨%g, Hself⟩
    iapply (wp_load_rect 𝒱₀ ((⟨n, hn⟩ : Dev nD) : Thread nD τ) none Set.univ (m := pM) (r := rowsR ⟨n, hn⟩) (Finset.Subset.refl _)) $$ [Hc]; · iexact Hc
    iintro Hc
    have hs : (rM.access (slotR ⟨n, hn⟩)).set ⊆ (slotM ⟨n, hn⟩).view.set := by
      rw [slot_set]; exact (View.set_slice_whole _ _).subset
    iapply (wp_load_rect 𝒱₀ ((⟨n, hn⟩ : Dev nD) : Thread nD τ) none Set.univ (m := rM) (r := slotR ⟨n, hn⟩) (S := (slotM ⟨n, hn⟩).view.set) hs) $$ [Hself]; · iexact Hself
    iintro Hself
    iapply (wp_store 𝒱₀ ((⟨n, hn⟩ : Dev nD) : Thread nD τ) none Set.univ (m := rM) (r := slotR ⟨n, hn⟩) (Mk := Finset.univ) (S := (slotM ⟨n, hn⟩).view.set) hs) $$ [Hself]; · iexact Hself
    iintro Hself
    iapply (ret_intro (c := (⟨n, hn⟩ : Dev nD)))
    isplitr; · iexact Hctx
    isplitl [HO]; · iexact HO
    isplitl [Hin]; · iexact Hin
    isplitl [Hout]; · iexact Hout
    isplitl [Hc Hk]
    · isplitl [Hc]; · (unfold chunkAt; iapply (ownsAt_intro ⟨n, hn⟩ (chunkM ⟨n, hn⟩) fullShare _ f hf); iexact Hc)
      iexact Hk
    isplitl [Hqs]; · iexact Hqs
    isplitl [Hself]
    · iapply (ownsAt_intro ⟨n, hn⟩ (slotM ⟨n, hn⟩) fullShare _ _ (by
        funext i
        rw [read_slot, View.read_write_univ, hpay]
        refine Eq.trans ?_ (congrFun hf i)
        show (pM.access (rowsR ⟨n, hn⟩)).read (Elt F) f (Shape.reshapeEquiv _ (Shape.reshapeEquiv _ i)) = _
        rw [Shape.reshapeEquiv_reshapeEquiv, Shape.reshapeEquiv_self])) $$ Hself
    isplitl [Hdp]; · iexact Hdp
    isplitl [Hw]; · iexact Hw
    iexact Hg
  · refine ret_step ?_
    have e : selfSlot m ρ c n = selfSlot m ρ c (n + 1) := by
      unfold selfSlot
      have h : c.val ≠ n := fun h => hc (Fin.ext h.symm)
      by_cases h2 : c.val < n
      · rw [if_pos h2, if_pos (by omega)]
      · rw [if_neg h2, if_neg (by omega)]
    unfold rsSt; rw [e]

/-! ## The wait on the barrier -/

/-- The wait for 31 units: every other device's signal, and with each the sender's two blocks. -/
theorem bar_step (c : Dev nD) :
    iprop(sigSt m ρ K c 32 ∗ cred (tallyAt (barCell c) () 31) ∗ atPos ER (barCell c) 0 ∅ 0) ⊢ WP c (semWaitWord barS 31#32) fun _ =>
      iprop(ctx m ρ K ∗ owed c ∅ (todo c 0) (todo c 0) ∗ atPos ER (barCell c) 1 ∅ 0 ∗ bigSep (Finset.univ.erase c) (barPay c)) := by
  unfold sigSt semWaitWord owed
  rw [ahead_end]
  iintro ⟨⟨#Hctx, ⟨%W, HO⟩, -⟩, Hc, Hat⟩
  iapply (Rounds.wp_wait_rest_token 𝒱₀ ER (Rd m ρ) (c : Thread nD τ) none (κ := K (c, none)) (sm := .reg barS)
      (wpE_semWait_eq 𝒱₀ (c : Thread nD τ) none Set.univ) (Set.mem_univ _) () (O := Ow c ∅ (todo c 0) (todo c 0)) (W := W) (R := 0) (m := 0) (T := ∅)
      (by rw [expect_bar]; decide)) $$ [Hc HO Hat]
  · isplitr; · iapply (ctx_inv m ρ K (c, none)); iexact Hctx
    isplitl [Hc]; · iexact Hc
    isplitl [HO]; · iexact HO
    isplitr
    · iapply ((ctx_lev (F := F) m ρ K).trans (mayWait_of c _ 1 ∅ (todo c 0) (todo c 0) (by rw [lv_bar]) (.inr rfl) (.inl (by decide)) (.inl (by decide))))
      iexact Hctx
    iexact Hat
  iintro ⟨HO, Hat, -, Hpay⟩
  ihave Hp := (Entails.of_eq (rest_bar m ρ c)) $$ Hpay
  iapply (ret_intro (c := c))
  isplitr; · iexact Hctx
  isplitl [HO]; · iexists _; iexact HO
  isplitl [Hat]; · iexact Hat
  iexact Hp

end Cert.KernelIdealProof

end
-- ==== Proof.Join.lean ====
/-
# The buffers cut and joined; the passages between the phases

The partial product's blocks, the receive buffer's slots and the output's blocks as parts of whole buffers; what a device
holds besides the state of the loop it is in; the passage from the barrier to the reduce-scatter, from there through the
sum of the 32 slots to the all-gather, and from the all-gather to the closing waits.
-/
module

public import proofs.«01_k».proof.Proof.Local

@[expose] public section

set_option maxRecDepth 1000000

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CI → ℕ)

/-! ## Whole buffers -/

/-- Device `c`'s whole partial product. -/
def partAll (c : Dev nD) : S1024x1024.Idx → Elt F .bf16 := fun i =>
  partC m ρ c ⟨(i 0).val / 32, by have : (i 0).val < 1024 := (i 0).isLt; show _ < 32; omega⟩
    (ix2 ⟨(i 0).val % 32, Nat.mod_lt _ (by decide)⟩ ⟨(i 1).val, (i 1).isLt⟩)

/-- A row of block `j` has quotient `j` by 32. -/
theorem rows_div (j : Dev nD) (i : S32x1024.Idx) (h) : (⟨((rowsR j).emb i 0).val / 32, h⟩ : Dev nD) = j := by
  have h0 : (i 0).val < 32 := (i 0).isLt
  apply Fin.ext
  show (32 * j.val + 1 * (i 0).val) / 32 = j.val
  omega
/-- A row of block `j` has its place in the block as remainder by 32. -/
theorem rows_mod (j : Dev nD) (i : S32x1024.Idx) (h h') :
    (ix2 ⟨((rowsR j).emb i 0).val % 32, h⟩ ⟨((rowsR j).emb i 1).val, h'⟩ : S32x1024.Idx) = i := by
  have h0 : (i 0).val < 32 := (i 0).isLt
  funext a; apply Fin.ext
  match a with
  | 0 => show (32 * j.val + 1 * (i 0).val) % 32 = (i 0).val; omega
  | 1 => show 0 + 1 * (i 1).val = (i 1).val; omega

/-- Block `j` of the whole partial product. -/
theorem chunk_partAll (c j : Dev nD) : (chunkM j).view.read (Elt F) (partAll m ρ c) = partC m ρ c j := by
  funext i; rw [read_chunk]; unfold partAll; rw [rows_div]; exact congrArg (partC m ρ c j) (rows_mod j i _ _)
/-- Block `j` of the whole result. -/
theorem out_outAll (j : Dev nD) : (outM j).view.read (Elt F) (outAll m ρ) = total m ρ j := by
  funext i; rw [read_out]; unfold outAll; rw [rows_div]; exact congrArg (total m ρ j) (rows_mod j i _ _)
/-- Slot `j` of the full receive buffer. -/
theorem slot_rsAll (c j : Dev nD) : (slotM j).view.read (Elt F) (rsAll m ρ c) = partC m ρ j c := by
  funext i
  show rsAll m ρ c ((slotR j).emb (Shape.reshapeEquiv squeezes_S1x32x1024_S32x1024.numel_eq i)) = _
  have h : Shape.reshapeEquiv squeezes_S1x32x1024_S32x1024.numel_eq i = (Fin.cons (⟨0, Nat.one_pos⟩ : Fin 1) i : S1x32x1024.Idx) :=
    Shape.reshapeEquiv_cons_one _ i
  rw [h]
  unfold rsAll
  have e1 : ∀ hh, (⟨((slotR j).emb (Fin.cons (⟨0, Nat.one_pos⟩ : Fin 1) i : S1x32x1024.Idx) 0).val, hh⟩ : Dev nD) = j := by
    intro hh; apply Fin.ext; show j.val + 1 * 0 = j.val; omega
  refine congr (congrArg (fun d => partC m ρ d c) (e1 _)) ?_
  funext a; apply Fin.ext
  match a with
  | 0 => show 0 + 1 * (i 0).val = (i 0).val; omega
  | 1 => show 0 + 1 * (i 1).val = (i 1).val; omega

/-- A device's 32 blocks of its partial product are the buffer. -/
theorem join_chunks (c : Dev nD) :
    bigSep Finset.univ (chunkAt m ρ c) = ((c : Thread nD τ).loc cc0_scratch0 ↦{fullShare} partAll m ρ c : sProp 𝕄) := by
  have e : bigSep Finset.univ (chunkAt m ρ c) = bigSep Finset.univ fun j =>
      ((c : Thread nD τ).loc cc0_scratch0 ↦[(rowsR j).set]{fullShare} partAll m ρ c : sProp 𝕄) :=
    bigSep_congr fun j _ => by
      unfold chunkAt; rw [ownsAt_eq c (chunkM j) fullShare _ (partAll m ρ c) (chunk_partAll m ρ c j), chunk_set]
  rw [e, ← rows_cover]
  exact (pointsTo_biUnion (ℓ := (c : Thread nD τ).loc cc0_scratch0) (q := fullShare) Finset.univ (fun j => (rowsR j).set) (rows_disj _)).symm
/-- The 32 slots of its receive buffer are that buffer. -/
theorem join_slots (c : Dev nD) :
    (bigSep Finset.univ fun k => ownsAt c (slotM k) fullShare (partC m ρ k c)) = ((c : Thread nD τ).loc cc0_scratch1 ↦{fullShare} rsAll m ρ c : sProp 𝕄) := by
  have e : (bigSep Finset.univ fun k => ownsAt c (slotM k) fullShare (partC m ρ k c)) = bigSep Finset.univ fun j =>
      ((c : Thread nD τ).loc cc0_scratch1 ↦[(slotR j).set]{fullShare} rsAll m ρ c : sProp 𝕄) :=
    bigSep_congr fun j _ => by
      rw [ownsAt_eq c (slotM j) fullShare _ (rsAll m ρ c) (slot_rsAll m ρ c j), slot_set]
  rw [e, ← slot_cover]
  exact (pointsTo_biUnion (ℓ := (c : Thread nD τ).loc cc0_scratch1) (q := fullShare) Finset.univ (fun j => (slotR j).set) (slot_disj _)).symm
/-- The 32 blocks of rows of its output are the output. -/
theorem join_outs (c : Dev nD) :
    (bigSep Finset.univ fun k => ownsAt c (outM k) fullShare (total m ρ k)) = ((c : Thread nD τ).loc cc0_stg4_0 ↦{fullShare} outAll m ρ : sProp 𝕄) := by
  have e : (bigSep Finset.univ fun k => ownsAt c (outM k) fullShare (total m ρ k)) = bigSep Finset.univ fun j =>
      ((c : Thread nD τ).loc cc0_stg4_0 ↦[(rowsR j).set]{fullShare} outAll m ρ : sProp 𝕄) :=
    bigSep_congr fun j _ => by
      rw [ownsAt_eq c (outM j) fullShare _ (outAll m ρ) (out_outAll m ρ j), out_set]
  rw [e, ← rows_cover]
  exact (pointsTo_biUnion (ℓ := (c : Thread nD τ).loc cc0_stg4_0) (q := fullShare) Finset.univ (fun j => (rowsR j).set) (rows_disj _)).symm
/-- A device's own rows of the output, as its 32 shares of them. -/
theorem own_leaves (c : Dev nD) :
    ownsAt c (outM c) fullShare (total m ρ c) = bigSep Finset.univ fun j : Dev nD => ownsAt c (outM c) (leaf 5 fullShare j) (total m ρ c) := by
  rw [ownsAt_eq c (outM c) fullShare _ (outAll m ρ) (out_outAll m ρ c)]
  refine (ShareLeaves.pointsTo_leaves _ _ 5 fullShare).trans ?_
  exact bigSep_congr fun j _ => (ownsAt_eq c (outM c) _ _ (outAll m ρ) (out_outAll m ρ c)).symm

/-- A block held at some contents is held at any. -/
theorem ownsAny_intro (d : Dev nD) (M : Memref sig .tc .vmem S32x1024 .bf16) (f : Buf (Elt F) (M.view.loc (d : Thread nD τ))) :
    (M.view.loc (d : Thread nD τ) ↦[M.view.set]{fullShare} f : sProp 𝕄) ⊢ ownsAny d M := by
  unfold ownsAny
  iintro H; iexists f; iexact H
/-- A quarter held at some contents is held at any. -/
theorem quarterAny_intro (c : Dev nD) (q : Fin 4) (f : (cc0_scratch0 : Ref sig .tc).ty.Contents (Elt F)) :
    ((pM.access (quarterR q)).loc (c : Thread nD τ) ↦[(pM.access (quarterR q)).set]{fullShare} f : sProp 𝕄) ⊢ quarterAny c q := by
  unfold quarterAny
  iintro H; iexists f; iexact H

/-- The receive buffer falls into its 32 slots. -/
theorem split_slots (c : Dev nD) (f : (cc0_scratch1 : Ref sig .tc).ty.Contents (Elt F)) :
    ((c : Thread nD τ).loc cc0_scratch1 ↦{fullShare} f : sProp 𝕄) ⊢ bigSep Finset.univ fun j => ownsAny c (slotM j) := by
  rw [← slot_cover]
  refine (Entails.of_eq (pointsTo_biUnion (ℓ := (c : Thread nD τ).loc cc0_scratch1) (q := fullShare) Finset.univ (fun j => (slotR j).set) (slot_disj _))).trans ?_
  exact bigSep_mono fun j _ => (Entails.of_eq (by rw [slot_set])).trans (ownsAny_intro c (slotM j) f)
/-- The output falls into its 32 blocks of rows. -/
theorem split_outs (c : Dev nD) (f : (cc0_stg4_0 : Ref sig .tc).ty.Contents (Elt F)) :
    ((c : Thread nD τ).loc cc0_stg4_0 ↦{fullShare} f : sProp 𝕄) ⊢ bigSep Finset.univ fun j => ownsAny c (outM j) := by
  rw [← rows_cover]
  refine (Entails.of_eq (pointsTo_biUnion (ℓ := (c : Thread nD τ).loc cc0_stg4_0) (q := fullShare) Finset.univ (fun j => (rowsR j).set) (rows_disj _))).trans ?_
  exact bigSep_mono fun j _ => (Entails.of_eq (by rw [out_set])).trans (ownsAny_intro c (outM j) f)
/-- The partial product's buffer falls into its four quarters. -/
theorem split_quarters (c : Dev nD) (f : (cc0_scratch0 : Ref sig .tc).ty.Contents (Elt F)) :
    ((c : Thread nD τ).loc cc0_scratch0 ↦{fullShare} f : sProp 𝕄) ⊢ bigSep (quarters 0) (quarterAny c) := by
  have h : quarters 0 = Finset.univ := by ext i; simp [quarters]
  rw [h, ← quarter_cover]
  refine (Entails.of_eq (pointsTo_biUnion (ℓ := (c : Thread nD τ).loc cc0_scratch0) (q := fullShare) Finset.univ (fun j => (quarterR j).set) (quarter_disj _))).trans ?_
  exact bigSep_mono fun j _ => (Entails.of_eq (by rw [quarter_set])).trans (quarterAny_intro c j f)

/-! ## What a device holds besides -/

/-- The rights to make the reduce-scatter send to `j`. -/
def rsTok (c j : Dev nD) : sProp 𝕄 := iprop(dutyTok ER (dcell 0 c j) 0 j ∗ dutyTok ER (dcell 1 j c) 0 c)
/-- The rights to wait for it and to make the all-gather send to `j`. -/
def agTok (c j : Dev nD) : sProp 𝕄 := iprop(atPos ER (dcell 0 c j) 0 ∅ 0 ∗ dutyTok ER (dcell 0 c j) 1 j ∗ dutyTok ER (dcell 2 j c) 0 c)
/-- What waits through the reduce-scatter for the all-gather. -/
def rest (c : Dev nD) : sProp 𝕄 :=
  iprop(bigSep (todo c 0) (agTok c) ∗ (bigSep (todo c 0) fun j => ownsAny (F := F) j (outM c)) ∗ bigSep (todo c 0) (agWait c) ∗ ownsAny (F := F) c (outM c))
/-- What a device keeps from the reduce-scatter to the end. -/
def keep (c : Dev nD) : sProp 𝕄 :=
  iprop(chunkAt m ρ c c ∗ dPts m ρ c ∗ ((c : Thread nD τ).loc cc0_scratch1 ↦{fullShare} rsAll m ρ c)
    ∗ (bigSep (Finset.univ.erase c) fun k => atPos ER (dcell 1 c k) 1 ∅ 0) ∗ ownsAt c (outM c) (leaf 5 fullShare c) (total m ρ c))
/-- What a device holds at the start besides the signals' state. -/
def start (c : Dev nD) : sProp 𝕄 :=
  iprop(bigSep (todo c 0) (rsTok c) ∗ bigSep (quarters 0) (quarterAny c) ∗ ownsAny (F := F) c (slotM c) ∗ dPts m ρ c ∗ bigSep (todo c 0) (rsWait c)
    ∗ bigSep (todo c 0) (agTok c) ∗ bigSep (todo c 0) (agWait c) ∗ ownsAny (F := F) c (outM c))

/-! ## The passages -/

/-- A separating conjunction of pairs is a pair of separating conjunctions. -/
theorem bs_sep {I : Type} (s : Finset I) (Φ Ψ : I → sProp 𝕄) :
    (bigSep s fun i => iprop(Φ i ∗ Ψ i)) = iprop(bigSep s Φ ∗ bigSep s Ψ) := BI.bigSep_sep s Φ Ψ

/-- Separating conjunction is associative. -/
theorem sep_nest (P Q R : sProp 𝕄) : iprop(P ∗ Q ∗ R) = iprop((P ∗ Q) ∗ R) := by
  have h₁ : iprop(P ∗ Q ∗ R) ⊢ iprop((P ∗ Q) ∗ R) := by iintro ⟨H1, H2, H3⟩; iframe
  have h₂ : iprop((P ∗ Q) ∗ R) ⊢ iprop(P ∗ Q ∗ R) := by iintro ⟨⟨H1, H2⟩, H3⟩; iframe
  exact Entails.antisymm h₁ h₂

/-- From the barrier to the reduce-scatter. -/
theorem to_rs (c : Dev nD) :
    iprop((ctx m ρ K ∗ owed c ∅ (todo c 0) (todo c 0) ∗ atPos ER (barCell c) 1 ∅ 0 ∗ bigSep (Finset.univ.erase c) (barPay c)) ∗ start m ρ c)
      ⊢ iprop(rsSt m ρ K c 0 0 0 0 ∗ rest (F := F) c ∗ atPos ER (barCell c) 1 ∅ 0) := by
  unfold start rest rsSt
  have e1 : bigSep (Finset.univ.erase c) (barPay c) = (iprop((bigSep (todo c 0) fun j => ownsAny (F := F) j (slotM c)) ∗ (bigSep (todo c 0) fun j => ownsAny (F := F) j (outM c))) : sProp 𝕄) := by
    rw [todo_zero]; exact bs_sep _ _ _
  have e2 : bigSep (todo c 0) (rsIn c) = (iprop(bigSep (todo c 0) (rsTok c) ∗ (bigSep (todo c 0) fun j => ownsAny (F := F) j (slotM c))) : sProp 𝕄) := by
    rw [← bs_sep]; refine bigSep_congr fun j _ => ?_
    unfold rsIn rsTok
    exact sep_nest _ _ _
  have e3 : selfSlot m ρ c 0 = ownsAny c (slotM c) := if_neg (Nat.not_lt_zero _)
  rw [e1, e2, e3, done_zero, bigSep_empty, bigSep_empty, Nat.mul_zero, kept_zero, bigSep_empty]
  iintro ⟨⟨#Hctx, HO, Hbar, Hsl, Ho⟩, Hrt, Hq, Hself, Hd, Hw, Hat, Haw, Hown⟩
  iframe
  iframe Hctx
  isplitr; · iempintro
  isplitr; · iempintro
  iempintro

/-- What a device holds while it sums, besides the two buffers. -/
def mid (c : Dev nD) : sProp 𝕄 :=
  iprop(ctx m ρ K ∗ owed c ∅ ∅ (todo c 0) ∗ bigSep (todo c 0) (rsOut c) ∗ chunkAt m ρ c c ∗ dPts m ρ c
    ∗ (bigSep (Finset.univ.erase c) fun k => atPos ER (dcell 1 c k) 1 ∅ 0)
    ∗ bigSep (todo c 0) (agTok c) ∗ (bigSep (todo c 0) fun j => ownsAny (F := F) j (outM c)) ∗ bigSep (todo c 0) (agWait c))

/-- From the reduce-scatter's waits to the sum: all slots have arrived and are the whole receive buffer again. -/
theorem to_sum (c : Dev nD) :
    iprop(rsSt m ρ K c 32 4 32 32 ∗ rest (F := F) c)
      ⊢ iprop(((c : Thread nD τ).loc cc0_scratch1 ↦{fullShare} rsAll m ρ c) ∗ ownsAny c (outM c) ∗ mid m ρ K c) := by
  unfold rsSt rest mid
  have e1 : selfSlot m ρ c 32 = ownsAt c (slotM c) fullShare (partC m ρ c c) := if_pos c.isLt
  have e2 : bigSep (kept c 32 (8 * 4)) (chunkAt m ρ c) = chunkAt m ρ c c := by
    rw [show 8 * 4 = 32 from rfl, kept_end, bigSep_singleton]
  have e3 : bigSep (done c 32) (rsGot m ρ c) = (iprop((bigSep (Finset.univ.erase c) fun k => atPos ER (dcell 1 c k) 1 ∅ 0)
      ∗ (bigSep (Finset.univ.erase c) fun k => ownsAt c (slotM k) fullShare (partC m ρ k c))) : sProp 𝕄) := by
    rw [done_end]; exact bs_sep _ _ _
  have e4 : bigSep (done c 32) (rsOut (F := F) c) = bigSep (todo c 0) (rsOut c) := by rw [done_end, todo_zero]
  rw [e1, e2, e3, e4, todo_end, bigSep_empty, bigSep_empty, ← join_slots m ρ c, bs_erase (Finset.mem_univ c)]
  iintro ⟨⟨#Hctx, HO, -, Hout, Hch, -, Hself, Hd, -, Hat, Hsl⟩, Htok, Ho, Haw, Hown⟩
  iframe
  iexact Hctx

/-- What the all-gather's sends need, by kind. -/
theorem agIn_eq (c : Dev nD) :
    bigSep (todo c 0) (agIn m ρ c) = (iprop(bigSep (todo c 0) (rsOut c) ∗ bigSep (todo c 0) (agTok c) ∗ (bigSep (todo c 0) fun j => ownsAny (F := F) j (outM c))
      ∗ (bigSep (todo c 0) fun j => ownsAt c (outM c) (leaf 5 fullShare j) (total m ρ c))) : sProp 𝕄) := by
  rw [← bs_sep, ← bs_sep, ← bs_sep]
  refine bigSep_congr fun j _ => ?_
  unfold agIn rsOut agTok
  have h₁ : ∀ A B C D E G : sProp 𝕄, iprop(A ∗ B ∗ C ∗ D ∗ E ∗ G) ⊢ iprop(A ∗ (B ∗ C ∗ D) ∗ E ∗ G) := by
    intro A B C D E G; iintro ⟨H1, H2, H3, H4, H5, H6⟩; iframe
  have h₂ : ∀ A B C D E G : sProp 𝕄, iprop(A ∗ (B ∗ C ∗ D) ∗ E ∗ G) ⊢ iprop(A ∗ B ∗ C ∗ D ∗ E ∗ G) := by
    intro A B C D E G; iintro ⟨H1, ⟨H2, H3, H4⟩, H5, H6⟩; iframe
  exact Entails.antisymm (h₁ _ _ _ _ _ _) (h₂ _ _ _ _ _ _)

/-- From the sum to the all-gather: the device's rows of the output are dealt out in shares, one to each send. -/
theorem from_sum (c : Dev nD) :
    iprop(((c : Thread nD τ).loc cc0_scratch1 ↦{fullShare} rsAll m ρ c) ∗ ownsAt c (outM c) fullShare (total m ρ c) ∗ mid m ρ K c)
      ⊢ iprop(agSt m ρ K c 0 ∗ keep m ρ c ∗ bigSep (todo c 0) (agWait c)) := by
  unfold agSt keep mid
  rw [agIn_eq, done_zero, bigSep_empty, own_leaves, bs_erase (Finset.mem_univ c)]
  rw [← todo_zero c]
  iintro ⟨Hr, ⟨Hl, Hls⟩, #Hctx, HO, Hout, Hch, Hd, Hat, Htok, Ho, Haw⟩
  iframe
  iframe Hctx
  iempintro

/-- A load of the whole receive buffer reads its contents. -/
theorem read_all (f : (cc0_scratch1 : Ref sig .tc).ty.Contents (Elt F))
    (i₀ : ∀ a, (![0, 0, 0] : Fin 3 → ℕ) a + S32x32x1024.size a ≤ S32x32x1024.size a) :
    rM.view.readAt (Elt F) (Rect.unit (s := S32x32x1024) ![0, 0, 0] S32x32x1024.size i₀).toLoadRect f = f :=
  Memref.readAt_unit_zero (Elt F) cc0_scratch1 (by funext a; fin_cases a <;> rfl) i₀ f

/-- The sum of the 32 slots, stored in the device's rows of its output. -/
theorem sum_step (c : Dev nD) {o : Fin 2 → ℕ} (ho : o = ![32 * c.val, 0])
    {i₀ : ∀ a, (![0, 0, 0] : Fin 3 → ℕ) a + S32x32x1024.size a ≤ S32x32x1024.size a} {i₁ i₂ : ∀ a, o a + S32x1024.size a ≤ S1024x1024.size a}
    {l₀ : rM.view.LoadsAt (Rect.unit (s := S32x32x1024) ![0, 0, 0] S32x32x1024.size i₀).toLoadRect}
    {l₁ : oM.view.LoadsAt (Rect.unit (s := S1024x1024) o S32x1024.size i₁).toLoadRect}
    {pay : Vec F S32x32x1024 .bf16 → FVec F S32x1024 .bf16} (hpay : pay (rsAll m ρ c) = total m ρ c)
    {hx : (oM.access (Rect.unit (s := S1024x1024) o S32x1024.size i₂)).Stores Finset.univ} {hm}
    {α : Type} {k : PUnit → Prog (TpuEff nD τ sig (Elt F) Λ₀ .tc) α} {Q : α → sProp 𝕄}
    (hk : iprop(agSt m ρ K c 0 ∗ keep m ρ c ∗ bigSep (todo c 0) (agWait c)) ⊢ WP c (k ⟨⟩) Q) :
    iprop(rsSt m ρ K c 32 4 32 32 ∗ rest (F := F) c) ⊢ WP c (Prog.lift (.load rM (Rect.unit (s := S32x32x1024) ![0, 0, 0] S32x32x1024.size i₀).toLoadRect l₀) >>= fun v =>
      Prog.lift (.load oM (Rect.unit (s := S1024x1024) o S32x1024.size i₁).toLoadRect l₁) >>= fun _ =>
      Prog.lift (.store oM (Rect.unit (s := S1024x1024) o S32x1024.size i₂) (pay v) Finset.univ hx hm) >>= k) Q := by
  subst ho
  have hd := read_all (rsAll m ρ c) i₀
  refine (to_sum m ρ K c).trans ?_
  refine load_step c (M := rM) (q := fullShare) (f := rsAll m ρ c) ?_
  rw [hd]
  simp only [Prog.lift, Prog.bind_op, Prog.bind_ret]
  unfold ownsAny
  iintro ⟨Hr, ⟨%f, Ho⟩, Hmid⟩
  iapply (wp_load_rect 𝒱₀ (c : Thread nD τ) none Set.univ (m := oM) (r := rowsR c) (Finset.Subset.refl _)) $$ [Ho]; · iexact Ho
  iintro Ho
  iapply (wp_store 𝒱₀ (c : Thread nD τ) none Set.univ (m := oM) (r := rowsR c) (Mk := Finset.univ) (Finset.Subset.refl _)) $$ [Ho]; · iexact Ho
  iintro Ho
  iapply hk
  iapply (from_sum m ρ K c)
  isplitl [Hr]; · iexact Hr
  isplitl [Ho]
  · iapply (ownsAt_intro c (outM c) fullShare (total m ρ c) ((oM.access (rowsR c)).write (Elt F) f (pay (rsAll m ρ c)) Finset.univ)
      ((View.read_write_univ (v := oM.access (rowsR c)) _ _).trans hpay))
    iexact Ho
  iexact Hmid

/-- From the all-gather's sends to its waits. -/
theorem to_end (c : Dev nD) :
    iprop(agSt m ρ K c 32 ∗ keep m ρ c ∗ bigSep (todo c 0) (agWait c)) ⊢ iprop(endSt m ρ K c 0 0 ∗ keep m ρ c) := by
  unfold agSt endSt
  rw [todo_end, bigSep_empty, done_end, done_zero, bigSep_empty, bigSep_empty, ← todo_zero c]
  iintro ⟨⟨#Hctx, HO, -, Hout⟩, Hk, Haw⟩
  iframe
  iframe Hctx
  isplitr; · iempintro
  iempintro

/-- What a device holds at the end: nothing owed, every round of its cells over, its buffers. -/
def finish (c : Dev nD) : sProp 𝕄 :=
  iprop(ctx m ρ K ∗ owed c ∅ ∅ ∅ ∗ (bigSep (Finset.univ.erase c) fun k => atPos ER (dcell 0 c k) 2 ∅ 0)
    ∗ (bigSep (Finset.univ.erase c) fun k => atPos ER (dcell 1 c k) 1 ∅ 0) ∗ (bigSep (Finset.univ.erase c) fun k => atPos ER (dcell 2 c k) 1 ∅ 0)
    ∗ ((c : Thread nD τ).loc cc0_scratch0 ↦{fullShare} partAll m ρ c) ∗ ((c : Thread nD τ).loc cc0_scratch1 ↦{fullShare} rsAll m ρ c)
    ∗ ((c : Thread nD τ).loc cc0_stg4_0 ↦{fullShare} outAll m ρ) ∗ dPts m ρ c)

/-- From the all-gather's waits to the end: all blocks have arrived and every buffer is whole again. -/
theorem to_finish (c : Dev nD) : iprop(endSt m ρ K c 32 32 ∗ keep m ρ c) ⊢ finish m ρ K c := by
  unfold endSt keep finish
  have e1 : bigSep (done c 32) (agGot m ρ c) = (iprop((bigSep (Finset.univ.erase c) fun k => atPos ER (dcell 2 c k) 1 ∅ 0)
      ∗ (bigSep (Finset.univ.erase c) fun k => ownsAt c (outM k) fullShare (total m ρ k))) : sProp 𝕄) := by
    rw [done_end]; exact bs_sep _ _ _
  have e2 : bigSep (done c 32) (finGot m ρ c) = (iprop((bigSep (Finset.univ.erase c) fun k => atPos ER (dcell 0 c k) 2 ∅ 0)
      ∗ bigSep (Finset.univ.erase c) (chunkAt m ρ c) ∗ (bigSep (Finset.univ.erase c) fun k => ownsAt c (outM c) (leaf 5 fullShare k) (total m ρ c))) : sProp 𝕄) := by
    rw [done_end, ← bs_sep, ← bs_sep]; exact bigSep_congr fun j _ => rfl
  rw [e1, e2, ← join_chunks, ← join_outs, bs_erase (Finset.mem_univ c) (chunkAt m ρ c),
    bs_erase (Finset.mem_univ c) (fun k => ownsAt c (outM k) fullShare (total m ρ k)), own_leaves,
    bs_erase (Finset.mem_univ c) (fun j : Dev nD => ownsAt c (outM c) (leaf 5 fullShare j) (total m ρ c))]
  iintro ⟨⟨#Hctx, HO, -, ⟨Hg, Ho⟩, -, Hf, Hch, Hl⟩, Hc, Hd, Hr, Hat, Hlc⟩
  iframe
  iexact Hctx

end Cert.KernelIdealProof

end
-- ==== Proof.Words.lean ====
/-
# What the body computes, and its conditionals

The conditions, devices, semaphores and blocks the body computes from its device's number, in closed form; then how a
conditional that runs a step or nothing goes on to the same program.
-/
module

public import proofs.«01_k».proof.Proof.Join

@[expose] public section

set_option maxRecDepth 1000000

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CI → ℕ)

/-! ## What the body computes from the device's number -/

/-- The device's number, as the body computes it. -/
abbrev myWord (c : Dev nD) : BitVec 32 := Scalar.remsi (Scalar.divsi (Dev.word c) 1#32) 32#32

/-- The body's test for another device's number. -/
theorem cond_ne (n : ℕ) (hn : n < 32) (c : Dev nD) :
    (Scalar.cmpi .ne (Scalar.extui (Scalar.cmpi .ne (myWord c) (BitVec.ofNat 32 n))) 0#32 = 1#1) ↔ (⟨n, hn⟩ : Dev nD) ≠ c := by
  have h : ∀ (j c : Dev nD), (Scalar.cmpi .ne (Scalar.extui (Scalar.cmpi .ne (myWord c) (BitVec.ofNat 32 j.val))) 0#32 = 1#1) ↔ j ≠ c := by
    decide +kernel
  exact h ⟨n, hn⟩ c
/-- The body's test for the device's own number. -/
theorem cond_eq (n : ℕ) (hn : n < 32) (c : Dev nD) :
    (Scalar.cmpi .ne (Scalar.extui (Scalar.cmpi .eq (myWord c) (BitVec.ofNat 32 n))) 0#32 = 1#1) ↔ (⟨n, hn⟩ : Dev nD) = c := by
  have h : ∀ (j c : Dev nD), (Scalar.cmpi .ne (Scalar.extui (Scalar.cmpi .eq (myWord c) (BitVec.ofNat 32 j.val))) 0#32 = 1#1) ↔ j = c := by
    decide +kernel
  exact h ⟨n, hn⟩ c

/-- The number that the body computes is the device's. -/
theorem word_nat (c : Dev nD) : (myWord c).toNat = c.val := by revert c; decide +kernel
/-- The row that the body computes is the device's first row. -/
theorem word_rows (c : Dev nD) : (Scalar.muli (myWord c) 32#32).toNat = 32 * c.val := by revert c; decide +kernel

/-- The offset of the device's own semaphore. -/
theorem off_sem (c : Dev nD) : ![(myWord c).toNat] = ![c.val] := by rw [word_nat]
/-- The offset of the device's own slot. -/
theorem off_slot (c : Dev nD) : ![(myWord c).toNat, 0, 0] = ![c.val, 0, 0] := by rw [word_nat]
/-- The offset of the device's own rows. -/
theorem off_rows (c : Dev nD) : ![(Scalar.muli (myWord c) 32#32).toNat, 0] = ![32 * c.val, 0] := by rw [word_rows]

/-- The slice of the receive buffer that the body takes is slot `c`. -/
theorem slot_of (c : Dev nD) {o : Fin 3 → ℕ} (ho : o = ![c.val, 0, 0]) {i : ∀ a, o a + S1x32x1024.size a ≤ S32x32x1024.size a} :
    (rM.slice (Rect.unit (s := S32x32x1024) o S1x32x1024.size i) (fun _ => rfl)).squeeze S32x1024 squeezes_S1x32x1024_S32x1024 = slotM c := by
  subst ho; rfl
/-- The slice of the output that the body takes is block `c`. -/
theorem out_of (c : Dev nD) {o : Fin 2 → ℕ} (ho : o = ![32 * c.val, 0]) {i : ∀ a, o a + S32x1024.size a ≤ S1024x1024.size a} :
    oM.slice (Rect.unit (s := S1024x1024) o S32x1024.size i) (fun _ => rfl) = outM c := by
  subst ho; rfl
/-- The credit of any block of 32 rows of the output is `N`. -/
theorem credit_out_of {o : Fin 2 → ℕ} {i : ∀ a, o a + S32x1024.size a ≤ S1024x1024.size a} :
    (oM.slice (Rect.unit (s := S1024x1024) o S32x1024.size i) (fun _ => rfl)).view.dmaCredit = N := credit_out 0

/-- The credit of any block of 32 rows of the partial product is `N`. -/
theorem credit_chunk_of {o : Fin 2 → ℕ} {i : ∀ a, o a + S32x1024.size a ≤ S1024x1024.size a} :
    (pM.slice (Rect.unit (s := S1024x1024) o S32x1024.size i) (fun _ => rfl)).view.dmaCredit = N := credit_chunk 0

/-- Place `j` lies in an array of semaphores. -/
theorem sem_inb (j : Dev nD) : ∀ a, (![j.val] : Fin 1 → ℕ) a + S1.size a ≤ S32.size a := by revert j; decide
/-- The send semaphore that the body names. -/
theorem send_sem (j : Dev nD) {o : Fin 1 → ℕ} (ho : o = ![j.val]) {i : ∀ a, o a + S1.size a ≤ S32.size a} :
    ((cc0_scratch2.slice (Rect.unit (s := S32) o S1.size i)).squeeze S_ squeezes_S1_S_).sem = dsem 0 j := by
  subst ho
  have h : ∀ j : Dev nD, ((cc0_scratch2.slice (Rect.unit (s := S32) ![j.val] S1.size (sem_inb j))).squeeze S_ squeezes_S1_S_).sem = dsem 0 j := by
    decide +kernel
  exact h j
/-- The reduce-scatter semaphore that the body names. -/
theorem rs_sem (j : Dev nD) {o : Fin 1 → ℕ} (ho : o = ![j.val]) {i : ∀ a, o a + S1.size a ≤ S32.size a} :
    ((cc0_scratch3.slice (Rect.unit (s := S32) o S1.size i)).squeeze S_ squeezes_S1_S_).sem = dsem 1 j := by
  subst ho
  have h : ∀ j : Dev nD, ((cc0_scratch3.slice (Rect.unit (s := S32) ![j.val] S1.size (sem_inb j))).squeeze S_ squeezes_S1_S_).sem = dsem 1 j := by
    decide +kernel
  exact h j
/-- The all-gather semaphore that the body names. -/
theorem ag_sem (j : Dev nD) {o : Fin 1 → ℕ} (ho : o = ![j.val]) {i : ∀ a, o a + S1.size a ≤ S32.size a} :
    ((cc0_scratch4.slice (Rect.unit (s := S32) o S1.size i)).squeeze S_ squeezes_S1_S_).sem = dsem 2 j := by
  subst ho
  have h : ∀ j : Dev nD, ((cc0_scratch4.slice (Rect.unit (s := S32) ![j.val] S1.size (sem_inb j))).squeeze S_ squeezes_S1_S_).sem = dsem 2 j := by
    decide +kernel
  exact h j

/-- The device the body signals at its `k`-th signal. -/
theorem word_after (k : ℕ) (hk : k < 32) (c : Dev nD) :
    (Scalar.addi 0#32 (Scalar.muli (Scalar.remsi (Scalar.addi (myWord c) (BitVec.ofNat 32 k)) 32#32) 1#32)).toNat = (c.val + k) % 32 := by
  have h : ∀ (k c : Dev nD), (Scalar.addi 0#32 (Scalar.muli (Scalar.remsi (Scalar.addi (myWord c) (BitVec.ofNat 32 k.val)) 32#32) 1#32)).toNat
      = (c.val + k.val) % 32 := by decide +kernel
  exact h ⟨k, hk⟩ c

/-- The device `k` places after `c`. -/
theorem place_after {c i : Dev nD} {k : ℕ} (hk : k < 32) (h : i.val = (c.val + k) % 32) : (i - c).val = k := by
  have hc : c.val < 32 := c.isLt
  rw [sub_val, h]; omega

/-! ## Conditionals that go on to the same program -/

/-- A conditional that runs one program or nothing, then goes on. -/
theorem jp_step (c : Dev nD) {α : Type} {X : sProp 𝕄} {P : Prop} {inst : Decidable P} {e : P → Prog (TpuEff nD τ sig (Elt F) Λ₀ .tc) PUnit} {k : Prog (TpuEff nD τ sig (Elt F) Λ₀ .tc) α}
    {R : PUnit → sProp 𝕄} {Q : α → sProp 𝕄}
    (h : X ⊢ WP c (if h : P then (do e h; pure PUnit.unit) else (do pure PUnit.unit)) R) (hk : ∀ a, R a ⊢ WP c k Q) :
    X ⊢ WP c (if h : P then (e h >>= fun _ => k) else k) Q := by
  have e1 : (if h : P then (e h >>= fun _ => k) else k) = ((if h : P then (do e h; pure PUnit.unit) else (do pure PUnit.unit)) >>= fun _ => k) := by
    by_cases hp : P
    · rw [dif_pos hp, dif_pos hp]; simp only [bind_assoc, pure_bind]
    · rw [dif_neg hp, dif_neg hp]; rfl
  rw [e1]; exact bind_step h hk

/-- A conditional that runs three programs one after the other or nothing, then goes on. -/
theorem jp_step3 (c : Dev nD) {α β γ δ : Type} {X : sProp 𝕄} {P : Prop} {inst : Decidable P} {e₁ : P → Prog (TpuEff nD τ sig (Elt F) Λ₀ .tc) β}
    {e₂ : P → β → Prog (TpuEff nD τ sig (Elt F) Λ₀ .tc) γ} {e₃ : P → β → γ → Prog (TpuEff nD τ sig (Elt F) Λ₀ .tc) δ}
    {k : Prog (TpuEff nD τ sig (Elt F) Λ₀ .tc) α} {R : PUnit → sProp 𝕄} {Q : α → sProp 𝕄}
    (h : X ⊢ WP c (if h : P then (do let v ← e₁ h; let u ← e₂ h v; let _ ← e₃ h v u; pure PUnit.unit) else (do pure PUnit.unit)) R)
    (hk : ∀ a, R a ⊢ WP c k Q) :
    X ⊢ WP c (if h : P then (e₁ h >>= fun v => e₂ h v >>= fun u => e₃ h v u >>= fun _ => k) else k) Q := by
  refine (jp_step c (e := fun h => (do let v ← e₁ h; let u ← e₂ h v; let _ ← e₃ h v u; pure PUnit.unit)) ?_ hk).trans (.of_eq ?_)
  · simpa only [bind_assoc, pure_bind] using h
  · simp only [bind_assoc, pure_bind]

/-- Likewise, with two programs. -/
theorem jp_step2 (c : Dev nD) {α β γ : Type} {X : sProp 𝕄} {P : Prop} {inst : Decidable P} {e₁ : P → Prog (TpuEff nD τ sig (Elt F) Λ₀ .tc) β}
    {e₂ : P → β → Prog (TpuEff nD τ sig (Elt F) Λ₀ .tc) γ}
    {k : Prog (TpuEff nD τ sig (Elt F) Λ₀ .tc) α} {R : PUnit → sProp 𝕄} {Q : α → sProp 𝕄}
    (h : X ⊢ WP c (if h : P then (do let v ← e₁ h; let _ ← e₂ h v; pure PUnit.unit) else (do pure PUnit.unit)) R)
    (hk : ∀ a, R a ⊢ WP c k Q) :
    X ⊢ WP c (if h : P then (e₁ h >>= fun v => e₂ h v >>= fun _ => k) else k) Q := by
  refine (jp_step c (e := fun h => (do let v ← e₁ h; let _ ← e₂ h v; pure PUnit.unit)) ?_ hk).trans (.of_eq ?_)
  · simpa only [bind_assoc, pure_bind] using h
  · simp only [bind_assoc, pure_bind]

/-! ## Parts that return a known value, and parts that leave some of the state alone -/

/-- A part that returns a known value, then the rest. -/
theorem bind_eq {c : Dev nD} {α β : Type} {p : Prog (TpuEff nD τ sig (Elt F) Λ₀ .tc) α} {k : α → Prog (TpuEff nD τ sig (Elt F) Λ₀ .tc) β}
    {P S : sProp 𝕄} {a : α} {Q : β → sProp 𝕄} (h : P ⊢ WP c p fun r => iprop(⌜r = a⌝ ∗ S)) (hk : S ⊢ WP c (k a) Q) :
    P ⊢ WP c (p >>= k) Q := by
  refine bind_step h fun r => ?_
  iintro ⟨%hr, H⟩
  subst hr
  iapply hk
  iexact H

/-- A program that leaves some of the state alone. -/
theorem frame_wp {c : Dev nD} {α : Type} {p : Prog (TpuEff nD τ sig (Elt F) Λ₀ .tc) α} {P : sProp 𝕄} {R : α → sProp 𝕄} (Fr : sProp 𝕄)
    (h : P ⊢ WP c p R) : iprop(P ∗ Fr) ⊢ WP c p fun a => iprop(R a ∗ Fr) := by
  exact (sep_mono h .rfl).trans (wp_frame_r _ _ _)

/-- A step that leaves some of the state alone, then the rest. -/
theorem bind_frame {c : Dev nD} {α β : Type} {p : Prog (TpuEff nD τ sig (Elt F) Λ₀ .tc) α} {k : α → Prog (TpuEff nD τ sig (Elt F) Λ₀ .tc) β}
    {P Fr : sProp 𝕄} {R : α → sProp 𝕄} {Q : β → sProp 𝕄} (h : P ⊢ WP c p R) (hk : ∀ a, iprop(R a ∗ Fr) ⊢ WP c (k a) Q) :
    iprop(P ∗ Fr) ⊢ WP c (p >>= k) Q := bind_step (frame_wp Fr h) hk

/-- A part that returns a known value and leaves some of the state alone, then the rest. -/
theorem bind_eq_frame {c : Dev nD} {α β : Type} {p : Prog (TpuEff nD τ sig (Elt F) Λ₀ .tc) α} {k : α → Prog (TpuEff nD τ sig (Elt F) Λ₀ .tc) β}
    {P S Fr : sProp 𝕄} {a : α} {Q : β → sProp 𝕄} (h : P ⊢ WP c p fun r => iprop(⌜r = a⌝ ∗ S)) (hk : iprop(S ∗ Fr) ⊢ WP c (k a) Q) :
    iprop(P ∗ Fr) ⊢ WP c (p >>= k) Q := by
  refine bind_frame h fun r => ?_
  iintro ⟨⟨%hr, H⟩, Hf⟩
  subst hr
  iapply hk
  iframe

/-- `jp_step` with some of the state left alone. -/
theorem jp_frame (c : Dev nD) {α : Type} {X Fr : sProp 𝕄} {P : Prop} {inst : Decidable P} {e : P → Prog (TpuEff nD τ sig (Elt F) Λ₀ .tc) PUnit} {k : Prog (TpuEff nD τ sig (Elt F) Λ₀ .tc) α}
    {R : PUnit → sProp 𝕄} {Q : α → sProp 𝕄}
    (h : X ⊢ WP c (if h : P then (do e h; pure PUnit.unit) else (do pure PUnit.unit)) R) (hk : ∀ a, iprop(R a ∗ Fr) ⊢ WP c k Q) :
    iprop(X ∗ Fr) ⊢ WP c (if h : P then (e h >>= fun _ => k) else k) Q := jp_step c (frame_wp Fr h) hk

/-- `jp_step2` with some of the state left alone. -/
theorem jp_frame2 (c : Dev nD) {α β γ : Type} {X Fr : sProp 𝕄} {P : Prop} {inst : Decidable P} {e₁ : P → Prog (TpuEff nD τ sig (Elt F) Λ₀ .tc) β}
    {e₂ : P → β → Prog (TpuEff nD τ sig (Elt F) Λ₀ .tc) γ}
    {k : Prog (TpuEff nD τ sig (Elt F) Λ₀ .tc) α} {R : PUnit → sProp 𝕄} {Q : α → sProp 𝕄}
    (h : X ⊢ WP c (if h : P then (do let v ← e₁ h; let _ ← e₂ h v; pure PUnit.unit) else (do pure PUnit.unit)) R)
    (hk : ∀ a, iprop(R a ∗ Fr) ⊢ WP c k Q) :
    iprop(X ∗ Fr) ⊢ WP c (if h : P then (e₁ h >>= fun v => e₂ h v >>= fun _ => k) else k) Q := jp_step2 c (frame_wp Fr h) hk

/-- Three steps that leave some of the state alone, then the rest. -/
theorem three_frame {c : Dev nD} {α β γ : Type} {X R Fr : sProp 𝕄} {e₁ : Prog (TpuEff nD τ sig (Elt F) Λ₀ .tc) β}
    {e₂ : β → Prog (TpuEff nD τ sig (Elt F) Λ₀ .tc) γ} {e₃ : β → γ → Prog (TpuEff nD τ sig (Elt F) Λ₀ .tc) PUnit}
    {k : PUnit → Prog (TpuEff nD τ sig (Elt F) Λ₀ .tc) α} {Q : α → sProp 𝕄}
    (h : X ⊢ WP c (e₁ >>= fun v => e₂ v >>= fun u => e₃ v u >>= fun _ => pure PUnit.unit) fun _ => R) (hk : iprop(R ∗ Fr) ⊢ WP c (k ⟨⟩) Q) :
    iprop(X ∗ Fr) ⊢ WP c (e₁ >>= fun v => e₂ v >>= fun u => e₃ v u >>= k) Q := by
  have e : (e₁ >>= fun v => e₂ v >>= fun u => e₃ v u >>= k) = ((e₁ >>= fun v => e₂ v >>= fun u => e₃ v u >>= fun _ => pure PUnit.unit) >>= k) := by
    simp only [bind_assoc, pure_bind]
  rw [e]
  exact bind_frame h fun _ => hk

/-- The device's own number. -/
theorem dev_step {c : Dev nD} {α : Type} {k : Dev nD → Prog (TpuEff nD τ sig (Elt F) Λ₀ .tc) α} {P : sProp 𝕄} {Q : α → sProp 𝕄}
    (hk : P ⊢ WP c (k c) Q) : P ⊢ WP c (Prog.lift .deviceId >>= k) Q := by
  simp only [Prog.lift, Prog.bind_op, Prog.bind_ret]
  rw [WP, wp_deviceId]
  exact hk

end Cert.KernelIdealProof

end
-- ==== Proof.Parts.lean ====
/-
# The body's parts up to the end of the reduce-scatter

Each part of the body as a passage from one state to the next, its return values named.
-/
module

public import proofs.«01_k».proof.Proof.Words

@[expose] public section

set_option maxRecDepth 1000000

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CI → ℕ)

/-! ## The parts -/

variable (w0 : xM.IsWhole) (w1 : gM.IsWhole) (w2 : uM.IsWhole) (w3 : dM.IsWhole) (w4 : oM.IsWhole) (w5 : pM.IsWhole) (w6 : rM.IsWhole)

attribute [local irreducible] Scalar.remsi Scalar.divsi Scalar.cmpi Scalar.extui

/-- The first five signals. -/
theorem part1 (c : Dev nD) :
    sigSt m ρ K c 1 ⊢ WP c (k0_part1 (F := F) xM w0 gM w1 uM w2 dM w3 oM w4 pM w5 rM w6 cc0_scratch2 cc0_scratch3 cc0_scratch4)
      fun r => iprop(⌜r = ⟨c, myWord c, SemArray.scalar (sig.barrier 0 rfl), Scalar.addi (myWord c) 6#32, 32#32⟩⌝ ∗ sigSt m ρ K c 6) := by
  rw [k0_part1_eq_skeleton]; unfold k0_part1_skel
  extract_lets
  refine dev_step ?_
  iterate 5
    refine bind_step (sig_step m ρ K c (by decide) (by refine place_after (by decide) ?_; exact word_after _ (by decide) c)) fun _ => ?_
  exact ret_step (by iintro H; iframe H; ipureintro; rfl)

/-- Signals 6 to 11. -/
theorem part2 (c : Dev nD) (v w : BitVec 32) :
    sigSt m ρ K c 6 ⊢ WP c (k0_part2 (F := F) xM w0 gM w1 uM w2 dM w3 oM w4 pM w5 rM w6 cc0_scratch2 cc0_scratch3 cc0_scratch4 c (myWord c) (SemArray.scalar (sig.barrier 0 rfl)) v w)
      fun r => iprop(⌜r = ⟨Scalar.addi (myWord c) 12#32, 32#32⟩⌝ ∗ sigSt m ρ K c 12) := by
  rw [k0_part2_eq_skeleton]; unfold k0_part2_skel
  extract_lets
  iterate 6
    refine bind_step (sig_step m ρ K c (by decide) (by refine place_after (by decide) ?_; exact word_after _ (by decide) c)) fun _ => ?_
  exact ret_step (by iintro H; iframe H; ipureintro; rfl)

/-- Signals 12 to 17. -/
theorem part3 (c : Dev nD) (v w : BitVec 32) :
    sigSt m ρ K c 12 ⊢ WP c (k0_part3 (F := F) xM w0 gM w1 uM w2 dM w3 oM w4 pM w5 rM w6 cc0_scratch2 cc0_scratch3 cc0_scratch4 c (myWord c) (SemArray.scalar (sig.barrier 0 rfl)) v w)
      fun r => iprop(⌜r = ⟨Scalar.addi (myWord c) 18#32, 32#32⟩⌝ ∗ sigSt m ρ K c 18) := by
  rw [k0_part3_eq_skeleton]; unfold k0_part3_skel
  extract_lets
  iterate 6
    refine bind_step (sig_step m ρ K c (by decide) (by refine place_after (by decide) ?_; exact word_after _ (by decide) c)) fun _ => ?_
  exact ret_step (by iintro H; iframe H; ipureintro; rfl)

/-- Signals 18 to 23. -/
theorem part4 (c : Dev nD) (v w : BitVec 32) :
    sigSt m ρ K c 18 ⊢ WP c (k0_part4 (F := F) xM w0 gM w1 uM w2 dM w3 oM w4 pM w5 rM w6 cc0_scratch2 cc0_scratch3 cc0_scratch4 c (myWord c) (SemArray.scalar (sig.barrier 0 rfl)) v w)
      fun r => iprop(⌜r = ⟨Scalar.addi (myWord c) 24#32, 32#32⟩⌝ ∗ sigSt m ρ K c 24) := by
  rw [k0_part4_eq_skeleton]; unfold k0_part4_skel
  extract_lets
  iterate 6
    refine bind_step (sig_step m ρ K c (by decide) (by refine place_after (by decide) ?_; exact word_after _ (by decide) c)) fun _ => ?_
  exact ret_step (by iintro H; iframe H; ipureintro; rfl)

/-- Signals 24 to 29. -/
theorem part5 (c : Dev nD) (v w : BitVec 32) :
    sigSt m ρ K c 24 ⊢ WP c (k0_part5 (F := F) xM w0 gM w1 uM w2 dM w3 oM w4 pM w5 rM w6 cc0_scratch2 cc0_scratch3 cc0_scratch4 c (myWord c) (SemArray.scalar (sig.barrier 0 rfl)) v w)
      fun r => iprop(⌜r = ⟨Scalar.addi (myWord c) 30#32, 32#32⟩⌝ ∗ sigSt m ρ K c 30) := by
  rw [k0_part5_eq_skeleton]; unfold k0_part5_skel
  extract_lets
  iterate 6
    refine bind_step (sig_step m ρ K c (by decide) (by refine place_after (by decide) ?_; exact word_after _ (by decide) c)) fun _ => ?_
  exact ret_step (by iintro H; iframe H; ipureintro; rfl)

/-- The three operands of the first product as staged. -/
def opnds (c : Dev nD) : sProp 𝕄 :=
  iprop((xM.view.loc (c : Thread nD τ) ↦{fullShare} xstg m ρ c) ∗ (gM.view.loc (c : Thread nD τ) ↦{fullShare} gstg m ρ c)
    ∗ (uM.view.loc (c : Thread nD τ) ↦{fullShare} ustg m ρ c))

/-- The last two signals, the first product, the wait for the other devices, and the first quarter of the partial product. -/
theorem part6 (c : Dev nD) (v w : BitVec 32) :
    iprop(sigSt m ρ K c 30 ∗ (cred (tallyAt (barCell c) () 31) ∗ atPos ER (barCell c) 0 ∅ 0) ∗ start m ρ c ∗ opnds m ρ c) ⊢ WP c (k0_part6 (F := F) xM w0 gM w1 uM w2 dM w3 oM w4 pM w5 rM w6 cc0_scratch2 cc0_scratch3 cc0_scratch4 c (myWord c) (SemArray.scalar (sig.barrier 0 rfl)) v w)
      fun r => iprop(⌜r = ⟨act m ρ c, Scalar.cmpi .ne (myWord c) 0#32⟩⌝ ∗ rsSt m ρ K c 0 1 0 0 ∗ rest c ∗ atPos ER (barCell c) 1 ∅ 0 ∗ opnds m ρ c) := by
  rw [k0_part6_eq_skeleton]; unfold k0_part6_skel
  extract_lets
  have hx : ∀ i, xM.view.readAt (Elt F) (Rect.unit (s := S1024x1024) ![0, 0] S1024x1024.size i).toLoadRect (xstg m ρ c) = xstg m ρ c :=
    fun i => Memref.readAt_unit_zero (Elt F) cc0_stg0_0 (by funext a; fin_cases a <;> rfl) i _
  have hg : ∀ i, gM.view.readAt (Elt F) (Rect.unit (s := S1024x2048) ![0, 0] S1024x2048.size i).toLoadRect (gstg m ρ c) = gstg m ρ c :=
    fun i => Memref.readAt_unit_zero (Elt F) cc0_stg1_0 (by funext a; fin_cases a <;> rfl) i _
  have hu : ∀ i, uM.view.readAt (Elt F) (Rect.unit (s := S1024x2048) ![0, 0] S1024x2048.size i).toLoadRect (ustg m ρ c) = ustg m ρ c :=
    fun i => Memref.readAt_unit_zero (Elt F) cc0_stg2_0 (by funext a; fin_cases a <;> rfl) i _
  iterate 2
    refine bind_frame (sig_step m ρ K c (by decide) (by refine place_after (by decide) ?_; exact word_after _ (by decide) c)) fun _ => ?_
  have h : iprop(sigSt m ρ K c 32 ∗ (cred (tallyAt (barCell c) () 31) ∗ atPos ER (barCell c) 0 ∅ 0) ∗ start m ρ c ∗ opnds m ρ c)
      ⊢ iprop((xM.view.loc (c : Thread nD τ) ↦{fullShare} xstg m ρ c) ∗ (gM.view.loc (c : Thread nD τ) ↦{fullShare} gstg m ρ c)
        ∗ (uM.view.loc (c : Thread nD τ) ↦{fullShare} ustg m ρ c) ∗ (sigSt m ρ K c 32 ∗ cred (tallyAt (barCell c) () 31) ∗ atPos ER (barCell c) 0 ∅ 0) ∗ start m ρ c) := by
    unfold opnds; iintro ⟨H1, ⟨H2, H3⟩, H4, H5, H6, H7⟩; iframe
  refine h.trans ?_
  refine load_step c (M := xM) (q := fullShare) (f := xstg m ρ c) ?_
  rw [hx]
  have h1 : ∀ A B : sProp 𝕄, iprop(A ∗ B) ⊢ iprop(B ∗ A) := fun A B => by iintro ⟨H1, H2⟩; iframe
  have h2 : ∀ A B C : sProp 𝕄, iprop(A ∗ B ∗ C) ⊢ iprop(B ∗ A ∗ C) := fun A B C => by iintro ⟨H1, H2, H3⟩; iframe
  refine (h2 _ _ _).trans ?_
  refine load_step c (M := gM) (q := fullShare) (f := gstg m ρ c) ?_
  rw [hg]
  refine (h2 _ _ _).trans ?_
  refine load_step c (M := xM) (q := fullShare) (f := xstg m ρ c) ?_
  rw [hx]
  have h3 : ∀ A B C D : sProp 𝕄, iprop(A ∗ B ∗ C ∗ D) ⊢ iprop(C ∗ A ∗ B ∗ D) := fun A B C D => by iintro ⟨H1, H2, H3, H4⟩; iframe
  have h4 : ∀ A B C D E : sProp 𝕄, iprop(A ∗ B ∗ C ∗ D ∗ E) ⊢ iprop(D ∗ (E ∗ B ∗ C ∗ A)) := fun A B C D E => by
    iintro ⟨H1, H2, H3, H4, H5⟩; iframe
  refine (h3 _ _ _ _).trans ?_
  refine load_step c (M := uM) (q := fullShare) (f := ustg m ρ c) ?_
  rw [hu]
  refine (h4 _ _ _ _ _).trans ?_
  refine bind_frame (bar_step m ρ K c) fun _ => ?_
  have h5 : ∀ A B C : sProp 𝕄, iprop(A ∗ B ∗ C) ⊢ iprop((A ∗ B) ∗ C) := fun A B C => by iintro ⟨H1, H2, H3⟩; iframe
  have h6 : ∀ A B C D : sProp 𝕄, iprop((A ∗ B ∗ C) ∗ D) ⊢ iprop(A ∗ B ∗ C ∗ D) := fun A B C D => by iintro ⟨⟨H1, H2, H3⟩, H4⟩; iframe
  refine (h5 _ _ _).trans ?_
  refine (sep_mono (to_rs m ρ K c) .rfl).trans ?_
  refine (h6 _ _ _ _).trans ?_
  refine three_frame (wave_step m ρ K c (q := 0) (by decide) (by decide) (by rfl) (pay := fun d => k0_pay2 (xstg m ρ c) (gstg m ρ c) (xstg m ρ c) (ustg m ρ c) d)
    (by rfl) (ret_step .rfl)) ?_
  refine ret_step ?_
  unfold opnds
  iintro ⟨H1, H2, H3, H4, H5, H6⟩
  iframe
  ipureintro; rfl

/-- Sends 0 to 4. -/
theorem part7 (c : Dev nD) (v : BitVec 1) :
    rsSt m ρ K c 0 1 0 0 ⊢ WP c (k0_part7 (F := F) xM w0 gM w1 uM w2 dM w3 oM w4 pM w5 rM w6 cc0_scratch2 cc0_scratch3 cc0_scratch4 c (myWord c) v)
      fun r => iprop(⌜r = Scalar.cmpi .ne (myWord c) 5#32⌝ ∗ rsSt m ρ K c 5 1 5 0) := by
  rw [k0_part7_eq_skeleton]; unfold k0_part7_skel
  extract_lets
  iterate 5
    refine jp_step c (rs_send m ρ K c (by decide) (by decide) (by exact cond_ne _ (by decide) c) (by exact fun _ => rfl) (by rfl)
        (by intro _; refine slot_of c ?_; exact off_slot c) (by refine send_sem _ ?_; rfl) (by intro _; refine rs_sem c ?_; exact off_sem c)) fun _ => ?_
    refine jp_step3 c (self_step m ρ K c (by decide) (by decide) (by exact cond_eq _ (by decide) c) (by rfl) (by rfl) (by exact fun _ => rfl)) fun _ => ?_
  exact ret_step (by iintro H; iframe H; ipureintro; rfl)

/-- Sends 5 to 8, and the second quarter before the last of them. -/
theorem part8 (c : Dev nD) (v : BitVec 1) :
    rsSt m ρ K c 5 1 5 0 ⊢ WP c (k0_part8 (F := F) xM w0 gM w1 uM w2 dM w3 oM w4 pM w5 rM w6 cc0_scratch2 cc0_scratch3 cc0_scratch4 c (myWord c) (act m ρ c) v)
      fun _ => iprop(rsSt m ρ K c 9 2 9 0) := by
  rw [k0_part8_eq_skeleton]; unfold k0_part8_skel
  extract_lets
  iterate 3
    refine jp_step c (rs_send m ρ K c (by decide) (by decide) (by exact cond_ne _ (by decide) c) (by exact fun _ => rfl) (by rfl)
        (by intro _; refine slot_of c ?_; exact off_slot c) (by refine send_sem _ ?_; rfl) (by intro _; refine rs_sem c ?_; exact off_sem c)) fun _ => ?_
    refine jp_step3 c (self_step m ρ K c (by decide) (by decide) (by exact cond_eq _ (by decide) c) (by rfl) (by rfl) (by exact fun _ => rfl)) fun _ => ?_
  refine wave_step m ρ K c (by decide) (by decide) (by rfl) (by rfl) ?_
  refine jp_step c (rs_send m ρ K c (by decide) (by decide) (by exact cond_ne _ (by decide) c) (by exact fun _ => rfl) (by rfl)
      (by intro _; refine slot_of c ?_; exact off_slot c) (by refine send_sem _ ?_; rfl) (by intro _; refine rs_sem c ?_; exact off_sem c)) fun _ => ?_
  refine jp_step3 c (self_step m ρ K c (by decide) (by decide) (by exact cond_eq _ (by decide) c) (by rfl) (by rfl) (by exact fun _ => rfl)) fun _ => ?_
  exact ret_step .rfl

/-- Sends 9 to 13. -/
theorem part9 (c : Dev nD) :
    rsSt m ρ K c 9 2 9 0 ⊢ WP c (k0_part9 (F := F) xM w0 gM w1 uM w2 dM w3 oM w4 pM w5 rM w6 cc0_scratch2 cc0_scratch3 cc0_scratch4 c (myWord c))
      fun _ => iprop(rsSt m ρ K c 14 2 14 0) := by
  rw [k0_part9_eq_skeleton]; unfold k0_part9_skel
  extract_lets
  iterate 5
    refine jp_step c (rs_send m ρ K c (by decide) (by decide) (by exact cond_ne _ (by decide) c) (by exact fun _ => rfl) (by rfl)
        (by intro _; refine slot_of c ?_; exact off_slot c) (by refine send_sem _ ?_; rfl) (by intro _; refine rs_sem c ?_; exact off_sem c)) fun _ => ?_
    refine jp_step3 c (self_step m ρ K c (by decide) (by decide) (by exact cond_eq _ (by decide) c) (by rfl) (by rfl) (by exact fun _ => rfl)) fun _ => ?_
  exact ret_step .rfl

/-- Sends 14 to 17 but for the device's own rows 17, and the third quarter. -/
theorem part10 (c : Dev nD) :
    rsSt m ρ K c 14 2 14 0 ⊢ WP c (k0_part10 (F := F) xM w0 gM w1 uM w2 dM w3 oM w4 pM w5 rM w6 cc0_scratch2 cc0_scratch3 cc0_scratch4 c (myWord c) (act m ρ c))
      fun r => iprop(⌜r = ⟨Scalar.extui (Scalar.cmpi .eq (myWord c) 17#32), 0#32⟩⌝ ∗ rsSt m ρ K c 18 3 17 0) := by
  rw [k0_part10_eq_skeleton]; unfold k0_part10_skel
  extract_lets
  iterate 2
    refine jp_step c (rs_send m ρ K c (by decide) (by decide) (by exact cond_ne _ (by decide) c) (by exact fun _ => rfl) (by rfl)
        (by intro _; refine slot_of c ?_; exact off_slot c) (by refine send_sem _ ?_; rfl) (by intro _; refine rs_sem c ?_; exact off_sem c)) fun _ => ?_
    refine jp_step3 c (self_step m ρ K c (by decide) (by decide) (by exact cond_eq _ (by decide) c) (by rfl) (by rfl) (by exact fun _ => rfl)) fun _ => ?_
  refine wave_step m ρ K c (by decide) (by decide) (by rfl) (by rfl) ?_
  refine jp_step c (rs_send m ρ K c (by decide) (by decide) (by exact cond_ne _ (by decide) c) (by exact fun _ => rfl) (by rfl)
      (by intro _; refine slot_of c ?_; exact off_slot c) (by refine send_sem _ ?_; rfl) (by intro _; refine rs_sem c ?_; exact off_sem c)) fun _ => ?_
  refine jp_step3 c (self_step m ρ K c (by decide) (by decide) (by exact cond_eq _ (by decide) c) (by rfl) (by rfl) (by exact fun _ => rfl)) fun _ => ?_
  refine jp_step c (rs_send m ρ K c (by decide) (by decide) (by exact cond_ne _ (by decide) c) (by exact fun _ => rfl) (by rfl)
      (by intro _; refine slot_of c ?_; exact off_slot c) (by refine send_sem _ ?_; rfl) (by intro _; refine rs_sem c ?_; exact off_sem c)) fun _ => ?_
  exact ret_step (by iintro H; iframe H; ipureintro; rfl)

/-- Rows 17, sends 18 to 22 but for the device's own rows 22. -/
theorem part11 (c : Dev nD) :
    rsSt m ρ K c 18 3 17 0 ⊢ WP c (k0_part11 (F := F) xM w0 gM w1 uM w2 dM w3 oM w4 pM w5 rM w6 cc0_scratch2 cc0_scratch3 cc0_scratch4 c (myWord c) (Scalar.extui (Scalar.cmpi .eq (myWord c) 17#32)) 0#32)
      fun r => iprop(⌜r = ⟨Scalar.extui (Scalar.cmpi .eq (myWord c) 22#32), 0#32⟩⌝ ∗ rsSt m ρ K c 23 3 22 0) := by
  rw [k0_part11_eq_skeleton]; unfold k0_part11_skel
  extract_lets
  refine jp_step3 c (self_step m ρ K c (by decide) (by decide) (by exact cond_eq _ (by decide) c) (by rfl) (by rfl) (by exact fun _ => rfl)) fun _ => ?_
  iterate 4
    refine jp_step c (rs_send m ρ K c (by decide) (by decide) (by exact cond_ne _ (by decide) c) (by exact fun _ => rfl) (by rfl)
        (by intro _; refine slot_of c ?_; exact off_slot c) (by refine send_sem _ ?_; rfl) (by intro _; refine rs_sem c ?_; exact off_sem c)) fun _ => ?_
    refine jp_step3 c (self_step m ρ K c (by decide) (by decide) (by exact cond_eq _ (by decide) c) (by rfl) (by rfl) (by exact fun _ => rfl)) fun _ => ?_
  refine jp_step c (rs_send m ρ K c (by decide) (by decide) (by exact cond_ne _ (by decide) c) (by exact fun _ => rfl) (by rfl)
      (by intro _; refine slot_of c ?_; exact off_slot c) (by refine send_sem _ ?_; rfl) (by intro _; refine rs_sem c ?_; exact off_sem c)) fun _ => ?_
  exact ret_step (by iintro H; iframe H; ipureintro; rfl)

/-- Rows 22, sends 23 to 26 but for the device's own rows 26, and the last quarter. -/
theorem part12 (c : Dev nD) :
    rsSt m ρ K c 23 3 22 0 ⊢ WP c (k0_part12 (F := F) xM w0 gM w1 uM w2 dM w3 oM w4 pM w5 rM w6 cc0_scratch2 cc0_scratch3 cc0_scratch4 c (myWord c) (act m ρ c) (Scalar.extui (Scalar.cmpi .eq (myWord c) 22#32)) 0#32)
      fun r => iprop(⌜r = Scalar.cmpi .eq (myWord c) 26#32⌝ ∗ rsSt m ρ K c 27 4 26 0) := by
  rw [k0_part12_eq_skeleton]; unfold k0_part12_skel
  extract_lets
  refine jp_step3 c (self_step m ρ K c (by decide) (by decide) (by exact cond_eq _ (by decide) c) (by rfl) (by rfl) (by exact fun _ => rfl)) fun _ => ?_
  refine jp_step c (rs_send m ρ K c (by decide) (by decide) (by exact cond_ne _ (by decide) c) (by exact fun _ => rfl) (by rfl)
      (by intro _; refine slot_of c ?_; exact off_slot c) (by refine send_sem _ ?_; rfl) (by intro _; refine rs_sem c ?_; exact off_sem c)) fun _ => ?_
  refine jp_step3 c (self_step m ρ K c (by decide) (by decide) (by exact cond_eq _ (by decide) c) (by rfl) (by rfl) (by exact fun _ => rfl)) fun _ => ?_
  refine wave_step m ρ K c (by decide) (by decide) (by rfl) (by rfl) ?_
  iterate 2
    refine jp_step c (rs_send m ρ K c (by decide) (by decide) (by exact cond_ne _ (by decide) c) (by exact fun _ => rfl) (by rfl)
        (by intro _; refine slot_of c ?_; exact off_slot c) (by refine send_sem _ ?_; rfl) (by intro _; refine rs_sem c ?_; exact off_sem c)) fun _ => ?_
    refine jp_step3 c (self_step m ρ K c (by decide) (by decide) (by exact cond_eq _ (by decide) c) (by rfl) (by rfl) (by exact fun _ => rfl)) fun _ => ?_
  refine jp_step c (rs_send m ρ K c (by decide) (by decide) (by exact cond_ne _ (by decide) c) (by exact fun _ => rfl) (by rfl)
      (by intro _; refine slot_of c ?_; exact off_slot c) (by refine send_sem _ ?_; rfl) (by intro _; refine rs_sem c ?_; exact off_sem c)) fun _ => ?_
  exact ret_step (by iintro H; iframe H; ipureintro; rfl)

/-- Rows 26, sends 27 to 31 but for the device's own rows 31. -/
theorem part13 (c : Dev nD) :
    rsSt m ρ K c 27 4 26 0 ⊢ WP c (k0_part13 (F := F) xM w0 gM w1 uM w2 dM w3 oM w4 pM w5 rM w6 cc0_scratch2 cc0_scratch3 cc0_scratch4 c (myWord c) (Scalar.cmpi .eq (myWord c) 26#32))
      fun r => iprop(⌜r = Scalar.cmpi .eq (myWord c) 31#32⌝ ∗ rsSt m ρ K c 32 4 31 0) := by
  rw [k0_part13_eq_skeleton]; unfold k0_part13_skel
  extract_lets
  refine jp_step3 c (self_step m ρ K c (by decide) (by decide) (by exact cond_eq _ (by decide) c) (by rfl) (by rfl) (by exact fun _ => rfl)) fun _ => ?_
  iterate 4
    refine jp_step c (rs_send m ρ K c (by decide) (by decide) (by exact cond_ne _ (by decide) c) (by exact fun _ => rfl) (by rfl)
        (by intro _; refine slot_of c ?_; exact off_slot c) (by refine send_sem _ ?_; rfl) (by intro _; refine rs_sem c ?_; exact off_sem c)) fun _ => ?_
    refine jp_step3 c (self_step m ρ K c (by decide) (by decide) (by exact cond_eq _ (by decide) c) (by rfl) (by rfl) (by exact fun _ => rfl)) fun _ => ?_
  refine jp_step c (rs_send m ρ K c (by decide) (by decide) (by exact cond_ne _ (by decide) c) (by exact fun _ => rfl) (by rfl)
      (by intro _; refine slot_of c ?_; exact off_slot c) (by refine send_sem _ ?_; rfl) (by intro _; refine rs_sem c ?_; exact off_sem c)) fun _ => ?_
  exact ret_step (by iintro H; iframe H; ipureintro; rfl)

/-- Rows 31, and the waits for slots 0 to 8. -/
theorem part14 (c : Dev nD) :
    rsSt m ρ K c 32 4 31 0 ⊢ WP c (k0_part14 (F := F) xM w0 gM w1 uM w2 dM w3 oM w4 pM w5 rM w6 cc0_scratch2 cc0_scratch3 cc0_scratch4 (myWord c) (Scalar.cmpi .eq (myWord c) 31#32))
      fun r => iprop(⌜r = Scalar.cmpi .ne (myWord c) 9#32⌝ ∗ rsSt m ρ K c 32 4 32 9) := by
  rw [k0_part14_eq_skeleton]; unfold k0_part14_skel
  extract_lets
  refine jp_step3 c (self_step m ρ K c (by decide) (by decide) (by exact cond_eq _ (by decide) c) (by rfl) (by rfl) (by exact fun _ => rfl)) fun _ => ?_
  iterate 9
    refine jp_step c (rs_wait m ρ K c (by decide) (by exact cond_ne _ (by decide) c) (by rfl) (by refine rs_sem _ ?_; rfl)) fun _ => ?_
  exact ret_step (by iintro H; iframe H; ipureintro; rfl)

/-- The waits for slots 9 to 18. -/
theorem part15 (c : Dev nD) :
    rsSt m ρ K c 32 4 32 9 ⊢ WP c (k0_part15 (F := F) xM w0 gM w1 uM w2 dM w3 oM w4 pM w5 rM w6 cc0_scratch2 cc0_scratch3 cc0_scratch4 (myWord c) (Scalar.cmpi .ne (myWord c) 9#32))
      fun r => iprop(⌜r = Scalar.cmpi .ne (myWord c) 19#32⌝ ∗ rsSt m ρ K c 32 4 32 19) := by
  rw [k0_part15_eq_skeleton]; unfold k0_part15_skel
  extract_lets
  iterate 10
    refine jp_step c (rs_wait m ρ K c (by decide) (by exact cond_ne _ (by decide) c) (by rfl) (by refine rs_sem _ ?_; rfl)) fun _ => ?_
  exact ret_step (by iintro H; iframe H; ipureintro; rfl)

/-- The waits for slots 19 to 28. -/
theorem part16 (c : Dev nD) :
    rsSt m ρ K c 32 4 32 19 ⊢ WP c (k0_part16 (F := F) xM w0 gM w1 uM w2 dM w3 oM w4 pM w5 rM w6 cc0_scratch2 cc0_scratch3 cc0_scratch4 (myWord c) (Scalar.cmpi .ne (myWord c) 19#32))
      fun r => iprop(⌜r = Scalar.cmpi .ne (myWord c) 29#32⌝ ∗ rsSt m ρ K c 32 4 32 29) := by
  rw [k0_part16_eq_skeleton]; unfold k0_part16_skel
  extract_lets
  iterate 10
    refine jp_step c (rs_wait m ρ K c (by decide) (by exact cond_ne _ (by decide) c) (by rfl) (by refine rs_sem _ ?_; rfl)) fun _ => ?_
  exact ret_step (by iintro H; iframe H; ipureintro; rfl)

end Cert.KernelIdealProof

end
-- ==== Proof.Gather.lean ====
/-
# The body's parts from the sum on

Each part of the body as a passage from one state to the next.
-/
module

public import proofs.«01_k».proof.Proof.Parts

@[expose] public section

set_option maxRecDepth 1000000

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CI → ℕ)

/-! ## The parts -/

variable (w0 : xM.IsWhole) (w1 : gM.IsWhole) (w2 : uM.IsWhole) (w3 : dM.IsWhole) (w4 : oM.IsWhole) (w5 : pM.IsWhole) (w6 : rM.IsWhole)

attribute [local irreducible] Scalar.remsi Scalar.divsi Scalar.cmpi Scalar.extui

/-- The last three waits, the sum, and sends 0 to 4 of the all-gather. -/
theorem part17 (c : Dev nD) :
    iprop(rsSt m ρ K c 32 4 32 29 ∗ rest c) ⊢ WP c (k0_part17 (F := F) xM w0 gM w1 uM w2 dM w3 oM w4 pM w5 rM w6 cc0_scratch2 cc0_scratch3 cc0_scratch4 c (myWord c) (Scalar.cmpi .ne (myWord c) 29#32))
      fun _ => iprop(agSt m ρ K c 5 ∗ keep m ρ c ∗ bigSep (todo c 0) (agWait c)) := by
  rw [k0_part17_eq_skeleton]; unfold k0_part17_skel
  extract_lets
  iterate 3
    refine jp_frame c (rs_wait m ρ K c (by decide) (by exact cond_ne _ (by decide) c) (by rfl) (by refine rs_sem _ ?_; rfl)) fun _ => ?_
  refine sum_step m ρ K c (by exact off_rows c) (by rfl) ?_
  iterate 5
    refine jp_frame2 c (ag_send m ρ K c (by decide) (by exact cond_ne _ (by decide) c) (by refine send_sem _ ?_; rfl) (by exact credit_chunk_of) (by exact fun _ => rfl)
        (by intro _; refine out_of c ?_; exact off_rows c) (by intro _; refine out_of c ?_; exact off_rows c) (by refine send_sem _ ?_; rfl)
        (by intro _; refine ag_sem c ?_; exact off_sem c)) fun _ => ?_
  exact ret_step .rfl

/-- Sends 5 to 14. -/
theorem part18 (c : Dev nD) :
    agSt m ρ K c 5 ⊢ WP c (k0_part18 (F := F) xM w0 gM w1 uM w2 dM w3 oM w4 pM w5 rM w6 cc0_scratch2 cc0_scratch3 cc0_scratch4 c (myWord c))
      fun _ => iprop(agSt m ρ K c 15) := by
  rw [k0_part18_eq_skeleton]; unfold k0_part18_skel
  extract_lets
  iterate 10
    refine jp_step2 c (ag_send m ρ K c (by decide) (by exact cond_ne _ (by decide) c) (by refine send_sem _ ?_; rfl) (by exact credit_chunk_of) (by exact fun _ => rfl)
        (by intro _; refine out_of c ?_; exact off_rows c) (by intro _; refine out_of c ?_; exact off_rows c) (by refine send_sem _ ?_; rfl)
        (by intro _; refine ag_sem c ?_; exact off_sem c)) fun _ => ?_
  exact ret_step .rfl

/-- Sends 15 to 24. -/
theorem part19 (c : Dev nD) :
    agSt m ρ K c 15 ⊢ WP c (k0_part19 (F := F) xM w0 gM w1 uM w2 dM w3 oM w4 pM w5 rM w6 cc0_scratch2 cc0_scratch3 cc0_scratch4 c (myWord c))
      fun _ => iprop(agSt m ρ K c 25) := by
  rw [k0_part19_eq_skeleton]; unfold k0_part19_skel
  extract_lets
  iterate 10
    refine jp_step2 c (ag_send m ρ K c (by decide) (by exact cond_ne _ (by decide) c) (by refine send_sem _ ?_; rfl) (by exact credit_chunk_of) (by exact fun _ => rfl)
        (by intro _; refine out_of c ?_; exact off_rows c) (by intro _; refine out_of c ?_; exact off_rows c) (by refine send_sem _ ?_; rfl)
        (by intro _; refine ag_sem c ?_; exact off_sem c)) fun _ => ?_
  exact ret_step .rfl

/-- Sends 25 to 31, and the waits for rows 0 to 2. -/
theorem part20 (c : Dev nD) :
    iprop(agSt m ρ K c 25 ∗ keep m ρ c ∗ bigSep (todo c 0) (agWait c)) ⊢ WP c (k0_part20 (F := F) xM w0 gM w1 uM w2 dM w3 oM w4 pM w5 rM w6 cc0_scratch2 cc0_scratch3 cc0_scratch4 c (myWord c))
      fun _ => iprop(endSt m ρ K c 3 0 ∗ keep m ρ c) := by
  rw [k0_part20_eq_skeleton]; unfold k0_part20_skel
  extract_lets
  iterate 7
    refine jp_frame2 c (ag_send m ρ K c (by decide) (by exact cond_ne _ (by decide) c) (by refine send_sem _ ?_; rfl) (by exact credit_chunk_of) (by exact fun _ => rfl)
        (by intro _; refine out_of c ?_; exact off_rows c) (by intro _; refine out_of c ?_; exact off_rows c) (by refine send_sem _ ?_; rfl)
        (by intro _; refine ag_sem c ?_; exact off_sem c)) fun _ => ?_
  refine (to_end m ρ K c).trans ?_
  iterate 3
    refine jp_frame c (ag_wait m ρ K c (by decide) (by exact cond_ne _ (by decide) c) (by rfl) (by refine ag_sem _ ?_; rfl)) fun _ => ?_
  exact ret_step .rfl

/-- The waits for rows 3 to 12. -/
theorem part21 (c : Dev nD) :
    endSt m ρ K c 3 0 ⊢ WP c (k0_part21 (F := F) xM w0 gM w1 uM w2 dM w3 oM w4 pM w5 rM w6 cc0_scratch2 cc0_scratch3 cc0_scratch4 (myWord c))
      fun _ => iprop(endSt m ρ K c 13 0) := by
  rw [k0_part21_eq_skeleton]; unfold k0_part21_skel
  extract_lets
  iterate 10
    refine jp_step c (ag_wait m ρ K c (by decide) (by exact cond_ne _ (by decide) c) (by rfl) (by refine ag_sem _ ?_; rfl)) fun _ => ?_
  exact ret_step .rfl

/-- The waits for rows 13 to 22. -/
theorem part22 (c : Dev nD) :
    endSt m ρ K c 13 0 ⊢ WP c (k0_part22 (F := F) xM w0 gM w1 uM w2 dM w3 oM w4 pM w5 rM w6 cc0_scratch2 cc0_scratch3 cc0_scratch4 (myWord c))
      fun _ => iprop(endSt m ρ K c 23 0) := by
  rw [k0_part22_eq_skeleton]; unfold k0_part22_skel
  extract_lets
  iterate 10
    refine jp_step c (ag_wait m ρ K c (by decide) (by exact cond_ne _ (by decide) c) (by rfl) (by refine ag_sem _ ?_; rfl)) fun _ => ?_
  exact ret_step .rfl

/-- The waits for rows 23 to 31, and for the first send. -/
theorem part23 (c : Dev nD) :
    endSt m ρ K c 23 0 ⊢ WP c (k0_part23 (F := F) xM w0 gM w1 uM w2 dM w3 oM w4 pM w5 rM w6 cc0_scratch2 cc0_scratch3 cc0_scratch4 c (myWord c))
      fun _ => iprop(endSt m ρ K c 32 1) := by
  rw [k0_part23_eq_skeleton]; unfold k0_part23_skel
  extract_lets
  iterate 9
    refine jp_step c (ag_wait m ρ K c (by decide) (by exact cond_ne _ (by decide) c) (by rfl) (by refine ag_sem _ ?_; rfl)) fun _ => ?_
  refine jp_step c (fin_wait m ρ K c (by decide) (by exact cond_ne _ (by decide) c) (by exact fun _ => credit_out_of) (by refine send_sem _ ?_; rfl)) fun _ => ?_
  exact ret_step .rfl

/-- The waits for sends 1 to 10. -/
theorem part24 (c : Dev nD) :
    endSt m ρ K c 32 1 ⊢ WP c (k0_part24 (F := F) xM w0 gM w1 uM w2 dM w3 oM w4 pM w5 rM w6 cc0_scratch2 cc0_scratch3 cc0_scratch4 c (myWord c))
      fun _ => iprop(endSt m ρ K c 32 11) := by
  rw [k0_part24_eq_skeleton]; unfold k0_part24_skel
  extract_lets
  iterate 10
    refine jp_step c (fin_wait m ρ K c (by decide) (by exact cond_ne _ (by decide) c) (by exact fun _ => credit_out_of) (by refine send_sem _ ?_; rfl)) fun _ => ?_
  exact ret_step .rfl

/-- The waits for sends 11 to 20. -/
theorem part25 (c : Dev nD) :
    endSt m ρ K c 32 11 ⊢ WP c (k0_part25 (F := F) xM w0 gM w1 uM w2 dM w3 oM w4 pM w5 rM w6 cc0_scratch2 cc0_scratch3 cc0_scratch4 c (myWord c))
      fun _ => iprop(endSt m ρ K c 32 21) := by
  rw [k0_part25_eq_skeleton]; unfold k0_part25_skel
  extract_lets
  iterate 10
    refine jp_step c (fin_wait m ρ K c (by decide) (by exact cond_ne _ (by decide) c) (by exact fun _ => credit_out_of) (by refine send_sem _ ?_; rfl)) fun _ => ?_
  exact ret_step .rfl

/-- The waits for sends 21 to 30. -/
theorem part26 (c : Dev nD) :
    endSt m ρ K c 32 21 ⊢ WP c (k0_part26 (F := F) xM w0 gM w1 uM w2 dM w3 oM w4 pM w5 rM w6 cc0_scratch2 cc0_scratch3 cc0_scratch4 c (myWord c))
      fun _ => iprop(endSt m ρ K c 32 31) := by
  rw [k0_part26_eq_skeleton]; unfold k0_part26_skel
  extract_lets
  iterate 10
    refine jp_step c (fin_wait m ρ K c (by decide) (by exact cond_ne _ (by decide) c) (by exact fun _ => credit_out_of) (by refine send_sem _ ?_; rfl)) fun _ => ?_
  exact ret_step .rfl

end Cert.KernelIdealProof

end
-- ==== Proof.Body.lean ====
/-
# The body

The parts in sequence: from the state before the first signal to the one a device ends in.
-/
module

public import proofs.«01_k».proof.Proof.Gather

@[expose] public section

set_option maxRecDepth 1000000

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CI → ℕ)

variable (w0 : xM.IsWhole) (w1 : gM.IsWhole) (w2 : uM.IsWhole) (w3 : dM.IsWhole) (w4 : oM.IsWhole) (w5 : pM.IsWhole) (w6 : rM.IsWhole)

attribute [local irreducible] Scalar.remsi Scalar.divsi Scalar.cmpi Scalar.extui

/-- What a device holds before its body's first signal, the operands included. -/
def before (c : Dev nD) : sProp 𝕄 :=
  iprop(sigSt m ρ K c 1 ∗ (cred (tallyAt (barCell c) () 31) ∗ atPos ER (barCell c) 0 ∅ 0) ∗ start m ρ c ∗ opnds m ρ c)

/-- What it holds once its body is over. -/
def after (c : Dev nD) : sProp 𝕄 := iprop(finish m ρ K c ∗ atPos ER (barCell c) 1 ∅ 0 ∗ opnds m ρ c)

/-- What stands first in a nested separating conjunction may be taken together with its neighbour. -/
theorem regroup (P R A : sProp 𝕄) {α : Type} {c : Dev nD} {p : Prog (TpuEff nD τ sig (Elt F) Λ₀ .tc) α} {Q : α → sProp 𝕄}
    (h : iprop((P ∗ R) ∗ A) ⊢ WP c p Q) : iprop(P ∗ R ∗ A) ⊢ WP c p Q := by
  rw [sep_nest]; exact h
/-- The same with the middle part already grouped. -/
theorem regroup' (P R S A : sProp 𝕄) {α : Type} {c : Dev nD} {p : Prog (TpuEff nD τ sig (Elt F) Λ₀ .tc) α} {Q : α → sProp 𝕄}
    (h : iprop(P ∗ (R ∗ S) ∗ A) ⊢ WP c p Q) : iprop((P ∗ R ∗ S) ∗ A) ⊢ WP c p Q := by
  rw [← sep_nest]; exact h

/-- The body, from the first signal to the last wait. -/
theorem body (c : Dev nD) :
    before m ρ K c ⊢ WP c (cc0_body (F := F) xM w0 gM w1 uM w2 dM w3 oM w4 pM w5 rM w6 cc0_scratch2 cc0_scratch3 cc0_scratch4)
      fun _ => after m ρ K c := by
  rw [cc0_body_eq_skeleton]; unfold cc0_body_skel before after
  refine bind_eq_frame (part1 m ρ K w0 w1 w2 w3 w4 w5 w6 c) ?_
  refine bind_eq_frame (part2 m ρ K w0 w1 w2 w3 w4 w5 w6 c _ _) ?_
  refine bind_eq_frame (part3 m ρ K w0 w1 w2 w3 w4 w5 w6 c _ _) ?_
  refine bind_eq_frame (part4 m ρ K w0 w1 w2 w3 w4 w5 w6 c _ _) ?_
  refine bind_eq_frame (part5 m ρ K w0 w1 w2 w3 w4 w5 w6 c _ _) ?_
  refine bind_eq (part6 m ρ K w0 w1 w2 w3 w4 w5 w6 c _ _) ?_
  refine bind_eq_frame (part7 m ρ K w0 w1 w2 w3 w4 w5 w6 c _) ?_
  refine bind_frame (part8 m ρ K w0 w1 w2 w3 w4 w5 w6 c _) fun _ => ?_
  refine bind_frame (part9 m ρ K w0 w1 w2 w3 w4 w5 w6 c) fun _ => ?_
  refine bind_eq_frame (part10 m ρ K w0 w1 w2 w3 w4 w5 w6 c) ?_
  refine bind_eq_frame (part11 m ρ K w0 w1 w2 w3 w4 w5 w6 c) ?_
  refine bind_eq_frame (part12 m ρ K w0 w1 w2 w3 w4 w5 w6 c) ?_
  refine bind_eq_frame (part13 m ρ K w0 w1 w2 w3 w4 w5 w6 c) ?_
  refine bind_eq_frame (part14 m ρ K w0 w1 w2 w3 w4 w5 w6 c) ?_
  refine bind_eq_frame (part15 m ρ K w0 w1 w2 w3 w4 w5 w6 c) ?_
  refine bind_eq_frame (part16 m ρ K w0 w1 w2 w3 w4 w5 w6 c) ?_
  refine regroup _ _ _ ?_
  refine bind_frame (part17 m ρ K w0 w1 w2 w3 w4 w5 w6 c) fun _ => ?_
  refine regroup' _ _ _ _ ?_
  refine bind_frame (part18 m ρ K w0 w1 w2 w3 w4 w5 w6 c) fun _ => ?_
  refine bind_frame (part19 m ρ K w0 w1 w2 w3 w4 w5 w6 c) fun _ => ?_
  refine regroup _ _ _ ?_
  refine bind_frame (part20 m ρ K w0 w1 w2 w3 w4 w5 w6 c) fun _ => ?_
  rw [← sep_nest]
  refine bind_frame (part21 m ρ K w0 w1 w2 w3 w4 w5 w6 c) fun _ => ?_
  refine bind_frame (part22 m ρ K w0 w1 w2 w3 w4 w5 w6 c) fun _ => ?_
  refine bind_frame (part23 m ρ K w0 w1 w2 w3 w4 w5 w6 c) fun _ => ?_
  refine bind_frame (part24 m ρ K w0 w1 w2 w3 w4 w5 w6 c) fun _ => ?_
  refine bind_frame (part25 m ρ K w0 w1 w2 w3 w4 w5 w6 c) fun _ => ?_
  refine bind_frame (part26 m ρ K w0 w1 w2 w3 w4 w5 w6 c) fun _ => ?_
  refine jp_frame c (fin_wait m ρ K c (f := 31) (by decide) (by exact cond_ne _ (by decide) c) (by exact fun _ => credit_out_of) (by refine send_sem _ ?_; rfl)) fun _ => ?_
  rw [sep_nest]
  exact ret_step (sep_mono (to_finish m ρ K c) .rfl)

end Cert.KernelIdealProof

end
-- ==== Proof.Ends.lean ====
/-
# A device's way in and out

From what the launch gives a device to the state before its body; from the state after its body to the counters at zero.
-/
module

public import proofs.«01_k».proof.Proof.Body

@[expose] public section

set_option maxRecDepth 1000000

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CI → ℕ)

/-! ## One device's cells, listed -/

/-- A separating conjunction over an option type: the part at `none`, and the rest. -/
theorem bs_option {I : Type} [Fintype I] [DecidableEq I] (Φ : Option I → sProp 𝕄) :
    bigSep Finset.univ Φ = iprop(Φ none ∗ bigSep Finset.univ fun i => Φ (some i)) := by
  have e : (Finset.univ : Finset (Option I)).erase none = (Finset.univ : Finset I).map Function.Embedding.some := by
    ext o; cases o <;> simp
  rw [bs_erase (Finset.mem_univ none), e, BI.bigSep_map]
  rfl

/-- A separating conjunction over three places, written out. -/
theorem bs_three (Φ : Fin 3 → sProp 𝕄) : bigSep Finset.univ Φ = iprop(Φ 0 ∗ Φ 1 ∗ Φ 2) :=
  bigSep_univ_eq_bigSepL [0, 1, 2] (by decide) (by decide) Φ

/-- A device's cells: its barrier's, its own place in each array, the other places. -/
theorem bs_cells (c : Dev nD) (Φ : CI → sProp 𝕄) :
    bigSep Finset.univ Φ = iprop(Φ none
      ∗ (Φ (some (0, c)) ∗ bigSep (Finset.univ.erase c) fun j => Φ (some (0, j)))
      ∗ (Φ (some (1, c)) ∗ bigSep (Finset.univ.erase c) fun j => Φ (some (1, j)))
      ∗ (Φ (some (2, c)) ∗ bigSep (Finset.univ.erase c) fun j => Φ (some (2, j)))) := by
  rw [bs_option, BI.bigSep_univ_prod, bs_three, bs_erase (Finset.mem_univ c) fun j => Φ (some (0, j)),
    bs_erase (Finset.mem_univ c) fun j => Φ (some (1, j)), bs_erase (Finset.mem_univ c) fun j => Φ (some (2, j))]

/-! ## Closing the cells -/

/-- A cell whose rounds are all over gives its counter back, at zero. -/
theorem close_one (x : Dev nD × CI) {R : ℕ} (hR : ∀ r, R ≤ r → (Rd (F := F) m ρ).duties (kcell x) r = ∅) :
    iprop(ctx m ρ K ∗ atPos ER (kcell x) R ∅ 0) ⊢ |={Set.univ}=> semVal (kcell x) 0 := by
  iintro ⟨#Hctx, Hat⟩
  iapply (Rounds.cell_close ER (Rd m ρ) (Set.mem_univ (K x)) (fun h => h) (R := R) hR)
  isplitr; · iapply (ctx_inv m ρ K x); iexact Hctx
  iexact Hat

/-- A fact that may be used any number of times is used at every member of a separating conjunction. -/
theorem bs_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (BI.sep_mono (BI.bigSep_of_persistent S R) (BI.Entails.refl _)).trans ((Entails.of_eq (bs_sep S _ _).symm).trans (BI.bigSep_mono h))

/-- The other places' cells of one array, all their rounds over. -/
theorem close_many (c : Dev nD) (a : Fin 3) {R : ℕ} (hR : rounds a = R) :
    iprop(ctx m ρ K ∗ bigSep (Finset.univ.erase c) fun j => atPos ER (dcell a c j) R ∅ 0)
      ⊢ |={Set.univ}=> bigSep (Finset.univ.erase c) fun j => semVal (dcell a c j) 0 :=
  (bs_with fun j _ => close_one m ρ K (c, some (a, j)) fun r hr => duties_dma_later m ρ c r (hR ▸ hr)).trans (BI.bigSep_fupd _ _)

/-- The positions of a device's cells that no transfer uses. -/
def idle (c : Dev nD) : sProp 𝕄 :=
  iprop(atPos ER (dcell 0 c c) 0 ∅ 0 ∗ atPos ER (dcell 1 c c) 0 ∅ 0 ∗ atPos ER (dcell 2 c c) 0 ∅ 0)

/-- What a device holds at the very end: its two buffers and its counters at zero. -/
def Φ₁ (c : Dev nD) : sProp 𝕄 :=
  iprop((((c : Thread nD τ).loc cc0_scratch0) ↦{fullShare} partAll m ρ c) ∗ (((c : Thread nD τ).loc cc0_scratch1) ↦{fullShare} rsAll m ρ c)
    ∗ bigSep Finset.univ fun k : CI => semVal (kcell (c, k)) 0)

/-- At the end of the body a device closes all its cells and has every counter at zero. -/
theorem leave (c : Dev nD) :
    iprop(after m ρ K c ∗ idle c) ⊢ |={Set.univ}=> iprop(Φ₁ m ρ c ∗ (owed c ∅ ∅ ∅
      ∗ opnds m ρ c ∗ dPts m ρ c ∗ (((c : Thread nD τ).loc cc0_stg4_0) ↦{fullShare} outAll m ρ))) := by
  unfold after finish idle Φ₁
  rw [bs_cells c]
  iintro ⟨⟨⟨#Hctx, HO, H0, H1, H2, Hp, Hr, Ho, Hd⟩, HB, Hop⟩, Hi0, Hi1, Hi2⟩
  imod (close_one m ρ K (c, none) (R := 1) (fun r hr => duties_bar_later m ρ c r hr)) $$ [HB] with HB
  · iframe Hctx; iexact HB
  imod (close_one m ρ K (c, some (0, c)) (R := 0) (fun r _ => duties_dma_self m ρ c r)) $$ [Hi0] with Hi0
  · iframe Hctx; iexact Hi0
  imod (close_one m ρ K (c, some (1, c)) (R := 0) (fun r _ => duties_dma_self m ρ c r)) $$ [Hi1] with Hi1
  · iframe Hctx; iexact Hi1
  imod (close_one m ρ K (c, some (2, c)) (R := 0) (fun r _ => duties_dma_self m ρ c r)) $$ [Hi2] with Hi2
  · iframe Hctx; iexact Hi2
  imod (close_many m ρ K c 0 rfl) $$ [H0] with H0
  · iframe Hctx; iexact H0
  imod (close_many m ρ K c 1 rfl) $$ [H1] with H1
  · iframe Hctx; iexact H1
  imod (close_many m ρ K c 2 rfl) $$ [H2] with H2
  · iframe Hctx; iexact H2
  imodintro
  iframe

/-! ## The way in -/

/-- The tokens device `c` pays with, by the other device `j`. -/
def payToks (c : Dev nD) : sProp 𝕄 :=
  iprop((bigSep Finset.univ fun j : Dev nD => dutyTok ER (barCell j) 0 c)
    ∗ (bigSep Finset.univ fun j : Dev nD => dutyTok ER (dcell 0 c j) 0 j)
    ∗ (bigSep Finset.univ fun j : Dev nD => dutyTok ER (dcell 0 c j) 1 j)
    ∗ (bigSep Finset.univ fun j : Dev nD => dutyTok ER (dcell 1 j c) 0 c)
    ∗ (bigSep Finset.univ fun j : Dev nD => dutyTok ER (dcell 2 j c) 0 c))

/-- A device's positions and the tokens it pays with. -/
def linear (c : Dev nD) : sProp 𝕄 := iprop((bigSep Finset.univ fun k : CI => atPos ER (kcell (c, k)) 0 ∅ 0) ∗ payToks (F := F) c)

/-- The credit of a device's own cells. -/
def creds (c : Dev nD) : sProp 𝕄 :=
  iprop(cred (tallyAt (barCell c) () 31) ∗ (bigSep (Finset.univ.erase c) fun k => cred (tallyAt (dcell 1 c k) () N))
    ∗ (bigSep (Finset.univ.erase c) fun k => cred (tallyAt (dcell 2 c k) () N)))

/-- The rights to the reduce-scatter's sends, by kind. -/
theorem start_eq (c : Dev nD) : bigSep (Finset.univ.erase c) (rsTok (F := F) c)
    = (iprop((bigSep (Finset.univ.erase c) fun j => dutyTok ER (dcell 0 c j) 0 j) ∗ (bigSep (Finset.univ.erase c) fun j => dutyTok ER (dcell 1 j c) 0 c)) : sProp 𝕄) :=
  bs_sep _ _ _
/-- The rights to the all-gather's sends, by kind. -/
theorem agTok_eq (c : Dev nD) : bigSep (Finset.univ.erase c) (agTok (F := F) c)
    = (iprop((bigSep (Finset.univ.erase c) fun j => atPos ER (dcell 0 c j) 0 ∅ 0) ∗ (bigSep (Finset.univ.erase c) fun j => dutyTok ER (dcell 0 c j) 1 j)
      ∗ (bigSep (Finset.univ.erase c) fun j => dutyTok ER (dcell 2 j c) 0 c)) : sProp 𝕄) := by
  rw [← bs_sep, ← bs_sep]; exact BI.bigSep_congr fun _ _ => rfl
/-- The rights to the reduce-scatter's waits, by kind. -/
theorem rsWait_eq (c : Dev nD) : bigSep (Finset.univ.erase c) (rsWait (F := F) c)
    = (iprop((bigSep (Finset.univ.erase c) fun k => cred (tallyAt (dcell 1 c k) () N)) ∗ (bigSep (Finset.univ.erase c) fun k => atPos ER (dcell 1 c k) 0 ∅ 0)) : sProp 𝕄) :=
  bs_sep _ _ _
/-- The rights to the all-gather's waits, by kind. -/
theorem agWait_eq (c : Dev nD) : bigSep (Finset.univ.erase c) (agWait (F := F) c)
    = (iprop((bigSep (Finset.univ.erase c) fun k => cred (tallyAt (dcell 2 c k) () N)) ∗ (bigSep (Finset.univ.erase c) fun k => atPos ER (dcell 2 c k) 0 ∅ 0)) : sProp 𝕄) :=
  bs_sep _ _ _
/-- What the barrier's signals need, by kind. -/
theorem sigIn_eq (c : Dev nD) : bigSep (Finset.univ.erase c) (sigIn (F := F) c)
    = (iprop((bigSep (Finset.univ.erase c) fun i => dutyTok ER (barCell i) 0 c) ∗ (bigSep (Finset.univ.erase c) fun i => ownsAny (F := F) c (slotM i))
      ∗ (bigSep (Finset.univ.erase c) fun i => ownsAny (F := F) c (outM i))) : sProp 𝕄) := by
  rw [← bs_sep, ← bs_sep]; exact BI.bigSep_congr fun _ _ => rfl

/-- A device uses the tokens for the other devices only. -/
theorem payToks_elim (c : Dev nD) : payToks (F := F) c ⊢ iprop((bigSep (Finset.univ.erase c) fun j : Dev nD => dutyTok ER (barCell j) 0 c)
    ∗ (bigSep (Finset.univ.erase c) fun j : Dev nD => dutyTok ER (dcell 0 c j) 0 j)
    ∗ (bigSep (Finset.univ.erase c) fun j : Dev nD => dutyTok ER (dcell 0 c j) 1 j)
    ∗ (bigSep (Finset.univ.erase c) fun j : Dev nD => dutyTok ER (dcell 1 j c) 0 c)
    ∗ (bigSep (Finset.univ.erase c) fun j : Dev nD => dutyTok ER (dcell 2 j c) 0 c)) := by
  unfold payToks
  have h (Φ : Dev nD → sProp 𝕄) : bigSep Finset.univ Φ ⊢ bigSep (Finset.univ.erase c) Φ := BI.bigSep_subset (Finset.erase_subset _ _)
  exact BI.sep_mono (h _) (BI.sep_mono (h _) (BI.sep_mono (h _) (BI.sep_mono (h _) (h _))))

/-- What the launch hands a device, with its two scratch buffers and its output at any contents, is what its body starts from. -/
theorem enter (c : Dev nD) (f0 : (cc0_scratch0 : Ref sig .tc).ty.Contents (Elt F)) (f1 : (cc0_scratch1 : Ref sig .tc).ty.Contents (Elt F))
    (f4 : (cc0_stg4_0 : Ref sig .tc).ty.Contents (Elt F)) :
    iprop(ctx m ρ K ∗ linear (F := F) c ∗ creds (F := F) c ∗ (((c : Thread nD τ).loc cc0_scratch0) ↦{fullShare} f0) ∗ (((c : Thread nD τ).loc cc0_scratch1) ↦{fullShare} f1)
        ∗ owed c (Finset.univ.erase c) (Finset.univ.erase c) (Finset.univ.erase c) ∗ opnds m ρ c ∗ dPts m ρ c ∗ (((c : Thread nD τ).loc cc0_stg4_0) ↦{fullShare} f4))
      ⊢ iprop(before m ρ K c ∗ idle (F := F) c) := by
  unfold linear creds before sigSt start idle
  rw [ahead_one, todo_zero, start_eq, agTok_eq, rsWait_eq, agWait_eq, sigIn_eq, bs_cells c]
  iintro ⟨#Hctx, ⟨⟨HaB, ⟨Hi0, H0⟩, ⟨Hi1, H1⟩, ⟨Hi2, H2⟩⟩, Htok⟩, ⟨Hc, Hc1, Hc2⟩, Hs0, Hs1, HO, Hop, Hd, Hs4⟩
  ihave Htok' := (payToks_elim (F := F) c) $$ Htok
  icases Htok' with ⟨Ht0, Ht1, Ht2, Ht3, Ht4⟩
  ihave Hq := (split_quarters (F := F) c f0) $$ Hs0
  ihave Hsl := ((split_slots (F := F) c f1).trans (Entails.of_eq (bs_erase (Finset.mem_univ c) _))) $$ Hs1
  icases Hsl with ⟨Hsc, Hsl⟩
  ihave Hou := ((split_outs (F := F) c f4).trans (Entails.of_eq (bs_erase (Finset.mem_univ c) _))) $$ Hs4
  icases Hou with ⟨Hoc, Hou⟩
  iframe
  iframe Hctx

end Cert.KernelIdealProof

end
-- ==== Proof.Launch.lean ====
/-
# The launch

The pipeline's data, the body's obligation, the ghost state the launch deals out, and the run of the whole program.
-/
module

public import proofs.«01_k».proof.Proof.Ends
public import Idealize.ShloMosaic.Lib.Pipeline.CollectiveSegs

@[expose] public section

set_option maxRecDepth 1000000

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ShareLeaves (leaf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CI → ℕ)

/-! ## The pipeline's data -/

/-- The kernel has one grid step. -/
theorem cfg0_N : cfg0.N = 1 := by decide
def t₀ : Fin cfg0.N := ⟨0, by rw [cfg0_N]; decide⟩
/-- Every grid step is the one there is. -/
theorem fin_N (t : Fin cfg0.N) : t = t₀ := by
  obtain ⟨t, ht⟩ := t; have := cfg0_N; exact Fin.ext (by simp only [t₀]; omega)

/-- What device `c` owes at launch: a signal and two blocks to each other device. -/
def O₀ (c : Dev nD) : CellTallies nD τ sig Unit := Ow c (Finset.univ.erase c) (Finset.univ.erase c) (Finset.univ.erase c)

/-- The cells' invariants, and that every cell has reached round 0. -/
def records : sProp 𝕄 :=
  iprop((bigSep Finset.univ fun x : Dev nD × CI => cellInv ER (Rd m ρ) (K x) (kcell x)) ∗ bigSep Finset.univ fun x : Dev nD × CI => reached ER (kcell x) 0)

instance records_persistent : BI.Persistent (records (F := F) m ρ K) := by unfold records; infer_instance

/-- What the launch leaves device `c` with. -/
def dealt (c : Dev nD) : sProp 𝕄 := iprop(∃ K, records m ρ K ∗ linear (F := F) c)

/-- What device `c` starts from. -/
def begin (c : Dev nD) : sProp 𝕄 := iprop(dealt m ρ c ∗ creds (F := F) c ∗ levAts L lv)

def Φ₀ (c : Dev nD) : sProp 𝕄 :=
  iprop(begin m ρ c ∗ (∃ f : Buf (Elt F) ((c : Thread nD τ).loc cc0_scratch0), ((c : Thread nD τ).loc cc0_scratch0) ↦{fullShare} f)
    ∗ ∃ f : Buf (Elt F) ((c : Thread nD τ).loc cc0_scratch1), ((c : Thread nD τ).loc cc0_scratch1) ↦{fullShare} f)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => gstg m ρ c
    | ⟨2, _⟩ => ustg m ρ c
    | ⟨3, _⟩ => dstg m ρ c
    | ⟨4, _⟩ => outAll m ρ
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

/-- The first operand is fetched. -/
theorem fetch_0 (t : Fin cfg0.N) : (cfg0.win (0 : Fin 5)).fetch t = true := by rw [fin_N t]; rfl
/-- The second operand is fetched. -/
theorem fetch_1 (t : Fin cfg0.N) : (cfg0.win (1 : Fin 5)).fetch t = true := by rw [fin_N t]; rfl
/-- The third operand is fetched. -/
theorem fetch_2 (t : Fin cfg0.N) : (cfg0.win (2 : Fin 5)).fetch t = true := by rw [fin_N t]; rfl
/-- The fourth operand is fetched. -/
theorem fetch_3 (t : Fin cfg0.N) : (cfg0.win (3 : Fin 5)).fetch t = true := by rw [fin_N t]; rfl

/-- To hold a whole buffer at contents `X` is to hold its cells at contents equal to `X`. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body's obligation -/

/-- A staging buffer of device `c` at given contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t₀.castSucc
    ∗ (∃ d, stg c cc0_stg0_0 ((dats m ρ 0 c).before (0 : Fin 5) t₀ d))
    ∗ (∃ d, stg c cc0_stg1_0 ((dats m ρ 0 c).before (1 : Fin 5) t₀ d))
    ∗ (∃ d, stg c cc0_stg2_0 ((dats m ρ 0 c).before (2 : Fin 5) t₀ d))
    ∗ (∃ d, stg c cc0_stg3_0 ((dats m ρ 0 c).before (3 : Fin 5) t₀ d))
    ∗ (∃ d, stg c cc0_stg4_0 ((dats m ρ 0 c).before (4 : Fin 5) t₀ d)))

def bodyPost (c : Dev nD) : sProp 𝕄 :=
  iprop(Φ₁ m ρ c ∗ (dats m ρ 0 c).owesAt () t₀.succ ∗ stg c cc0_stg0_0 (xstg m ρ c) ∗ stg c cc0_stg1_0 (gstg m ρ c)
    ∗ stg c cc0_stg2_0 (ustg m ρ c) ∗ stg c cc0_stg3_0 (dstg m ρ c) ∗ stg c cc0_stg4_0 (outAll m ρ))

/-- What the launch asks of the body's start is what the body starts from. -/
theorem pre_enter (c : Dev nD) : bodyPre m ρ c ⊢ iprop(∃ K, before m ρ K c ∗ idle (F := F) c) := by
  unfold bodyPre Φ₀ begin dealt records
  iintro ⟨⟨⟨⟨%K, ⟨#HI, #HR⟩, Hlin⟩, Hcr, #Hlev⟩, ⟨%f0, Hs0⟩, ⟨%f1, Hs1⟩⟩, Ho, ⟨%d0, %g0, %hg0, Hx⟩, ⟨%d1, %g1, %hg1, Hg⟩, ⟨%d2, %g2, %hg2, Hu⟩, ⟨%d3, %g3, %hg3, Hd⟩, ⟨%d4, %g4, %hg4, Hs4⟩⟩
  have h0 : g0 = xstg m ρ c := by rw [hg0]; unfold Dat.before; rw [if_pos (fetch_0 t₀)]; rfl
  have h1 : g1 = gstg m ρ c := by rw [hg1]; unfold Dat.before; rw [if_pos (fetch_1 t₀)]; rfl
  have h2 : g2 = ustg m ρ c := by rw [hg2]; unfold Dat.before; rw [if_pos (fetch_2 t₀)]; rfl
  have h3 : g3 = dstg m ρ c := by rw [hg3]; unfold Dat.before; rw [if_pos (fetch_3 t₀)]; rfl
  subst h0 h1 h2 h3
  unfold Dat.owesAt Pipeline.owesWithin
  icases Ho with ⟨%W, %hW, HO⟩
  rw [show (dats m ρ 0 c).owed t₀.castSucc = O₀ c from rfl]
  iexists K
  iapply (enter m ρ K c f0 f1 g4)
  isplitr
  · unfold ctx
    isplitr; · iexact HI
    isplitr; · iexact HR
    iexact Hlev
  isplitl [Hlin]; · iexact Hlin
  isplitl [Hcr]; · iexact Hcr
  isplitl [Hs0]; · iexact Hs0
  isplitl [Hs1]; · iexact Hs1
  isplitl [HO]; · unfold owed; iexists W; iexact HO
  isplitl [Hx Hg Hu]
  · unfold opnds
    isplitl [Hx]; · iexact Hx
    isplitl [Hg]; · iexact Hg
    iexact Hu
  isplitl [Hd]; · unfold dPts; iexact Hd
  iexact Hs4

/-- What the body ends with is what the launch asks of its end. -/
theorem leave_post (c : Dev nD) : iprop(after m ρ K c ∗ idle (F := F) c) ⊢ |={Set.univ}=> bodyPost m ρ c := by
  iintro H
  imod (leave m ρ K c) $$ H with ⟨HΦ, HO, Hop, Hd, Ho⟩
  imodintro
  unfold bodyPost Dat.owesAt Pipeline.owesWithin owed opnds dPts
  rw [show (dats m ρ 0 c).owed t₀.succ = 0 from rfl, Ow_empty]
  icases HO with ⟨%W, HO⟩
  icases Hop with ⟨Hx, Hg, Hu⟩
  isplitl [HΦ]; · iexact HΦ
  isplitl [HO]
  · iexists W
    isplitr; · ipureintro; exact fun _ _ => Or.inl trivial
    iexact HO
  isplitl [Hx]
  · iexists _; isplitr; · (ipureintro; rfl)
    iexact Hx
  isplitl [Hg]
  · iexists _; isplitr; · (ipureintro; rfl)
    iexact Hg
  isplitl [Hu]
  · iexists _; isplitr; · (ipureintro; rfl)
    iexact Hu
  isplitl [Hd]
  · iexists _; isplitr; · (ipureintro; rfl)
    iexact Hd
  iexists _; isplitr; · (ipureintro; rfl)
  iexact Ho

/-- The body, between what the launch gives and what it asks. -/
theorem sound_body (c : Dev nD) : bodyPre m ρ c ⊢ WP c (cc0_body (F := F) xM (Memref.isWhole_whole _) gM (Memref.isWhole_whole _) uM (Memref.isWhole_whole _)
    dM (Memref.isWhole_whole _) oM (Memref.isWhole_whole _) pM (Memref.isWhole_whole _) rM (Memref.isWhole_whole _) cc0_scratch2 cc0_scratch3 cc0_scratch4)
      fun _ => bodyPost m ρ c := by
  refine (pre_enter m ρ c).trans ?_
  iintro ⟨%K, H⟩
  iapply (show iprop(before m ρ K c ∗ idle (F := F) c) ⊢ _ from
    (frame_wp (idle (F := F) c) (body m ρ K _ _ _ _ _ _ _ c)).trans ((wp_mono _ _ _ fun _ => leave_post m ρ K c).trans (wp_fupd _ _ _ _ _)))
  iexact H

/-- The body meets the launch's obligation. -/
theorem body_obligation (c : Dev nD) : BodyObligation (dats (F := F) m ρ 0 c) (defs₀ (F := F)) 𝒱₀ () Set.univ := fun t => by
  rw [fin_N t]
  rw [show (bigSep Finset.univ : (Fin cfg0.W → sProp 𝕄) → sProp 𝕄) = _ from funext bigSep_W0]
  simp only [owns_whole_eq]
  exact sound_body m ρ c

/-! ## The launch's ghost state -/

/-- A device's transfer semaphores. -/
abbrev osem (x : Fin 3 × Dev nD) : SemLoc sig := .dma (dsem x.1 x.2)

/-- The transfer semaphores are different. -/
theorem osem_inj : Function.Injective osem := fun x y h => Option.some.inj (csem_inj (a₁ := some x) (a₂ := some y) h)

/-- The transfer semaphores are scoped to the kernel and are not staging ones. -/
theorem ownSemFacts : Pipeline.OwnSemFacts cfg0.spec osem where
  isScoped := by decide
  inj := osem_inj
  disj x w s h := by
    have h1 : dsem x.1 x.2 = (cfg0.spec w).sem s := SemLoc.dma.inj h
    have h2 : ∀ (w : Fin 5) (s : Fin (cfg0.spec w).nbuf), ((cfg0.spec w).sem s).val < 5 := by decide
    have h3 := h2 w s
    rw [← h1] at h3
    exact absurd (dsem_ge x.1 x.2) (by omega)

/-- Every window is held with the full share. -/
theorem share_eq (c : Dev nD) (w : Fin cfg0.W) : (dats m ρ 0 c).share w = fullShare := by unfold Dat.share; split <;> rfl

/-- The cells of all devices are different. -/
theorem kcell_injective : Function.Injective (kcell : Dev nD × CI → GSem nD τ sig) := by
  rintro ⟨c, k⟩ ⟨c', k'⟩ h
  have h1 : c = c' := congrArg (fun g : GSem nD τ sig => g.1.1) h
  have h2 : csem k = csem k' := congrArg Prod.snd h
  rw [h1, csem_inj h2]
def cells : Finset (GSem nD τ sig) := Finset.univ.map ⟨kcell, kcell_injective⟩

/-- The tokens of device `c`'s cells, by the other device and the use: its barrier's, its two sends', its two arrivals'. -/
abbrev tokOf (x : Dev nD × Dev nD × Fin 5) : GSem nD τ sig × ℕ × Dev nD := match x.2.2 with
  | 0 => (barCell x.1, 0, x.2.1) | 1 => (dcell 0 x.1 x.2.1, 0, x.2.1) | 2 => (dcell 0 x.1 x.2.1, 1, x.2.1)
  | 3 => (dcell 1 x.1 x.2.1, 0, x.2.1) | 4 => (dcell 2 x.1 x.2.1, 0, x.2.1)

/-- The use, read off the token. -/
def useOf (t : GSem nD τ sig × ℕ × Dev nD) : ℕ := match t.1.2 with
  | .reg _ => 0
  | .dma v => 1 + 2 * (kindOf v).val + t.2.1

/-- The tokens are different. -/
theorem tokOf_injective : Function.Injective (tokOf : Dev nD × Dev nD × Fin 5 → GSem nD τ sig × ℕ × Dev nD) := by
  rintro ⟨c, j, t⟩ ⟨c', j', t'⟩ h
  have h1 : c = c' := by
    have := congrArg (fun x : GSem nD τ sig × ℕ × Dev nD => x.1.1.1) h
    fin_cases t <;> fin_cases t' <;> exact this
  have h2 : j = j' := by
    have := congrArg (fun x : GSem nD τ sig × ℕ × Dev nD => x.2.2) h
    fin_cases t <;> fin_cases t' <;> exact this
  have h3 := congrArg useOf h
  have e : ∀ (c j : Dev nD) (t : Fin 5), useOf (tokOf (c, j, t)) = if t.val < 3 then t.val else 2 * t.val - 3 := by
    intro c j t
    fin_cases t <;> simp [useOf, kindOf_dsem]
  rw [e, e] at h3
  have h4 : t = t' := by
    clear h
    revert h3; revert t t'; decide
  rw [h1, h2, h4]
def tokens : Finset (GSem nD τ sig × ℕ × Dev nD) := Finset.univ.map ⟨tokOf, tokOf_injective⟩

def u₀ : UU := (initOf (Pipeline.cells cfgs cellOf_inj) (Pipeline.launchToks cfgs cellOf_inj), initOf cells tokens)

/-- The tokens of device `c`'s own cells. -/
def toks (c : Dev nD) : sProp 𝕄 :=
  iprop((bigSep Finset.univ fun j : Dev nD => dutyTok ER (barCell c) 0 j)
    ∗ (bigSep Finset.univ fun j : Dev nD => dutyTok ER (dcell 0 c j) 0 j)
    ∗ (bigSep Finset.univ fun j : Dev nD => dutyTok ER (dcell 0 c j) 1 j)
    ∗ (bigSep Finset.univ fun j : Dev nD => dutyTok ER (dcell 1 c j) 0 j)
    ∗ (bigSep Finset.univ fun j : Dev nD => dutyTok ER (dcell 2 c j) 0 j))

/-- What the launch deals device `c`. -/
def G (c : Dev nD) : sProp 𝕄 :=
  iprop((bigSep Finset.univ fun k : CI => roundState ER (Rd m ρ) (kcell (c, k)) 0)
    ∗ ((bigSep Finset.univ fun k : CI => atPos ER (kcell (c, k)) 0 ∅ 0) ∗ (bigSep Finset.univ fun k : CI => reached ER (kcell (c, k)) 0)) ∗ toks (F := F) c)

/-- A separating conjunction over five places, written out. -/
theorem bs_five (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

/-- All tokens, by the device whose cells they are of. -/
theorem toks_eq : bigSep tokens (fun x => (dutyTok ER x.1 x.2.1 x.2.2 : sProp 𝕄)) = bigSep Finset.univ fun c : Dev nD => toks c := by
  unfold tokens; rw [BI.bigSep_map, BI.bigSep_univ_prod]
  refine BI.bigSep_congr fun c _ => ?_
  rw [BI.bigSep_univ_prod]
  unfold toks
  rw [← bs_sep, ← bs_sep, ← bs_sep, ← bs_sep]
  refine BI.bigSep_congr fun j _ => ?_
  rw [bs_five]; rfl

/-- The protocol's initial element is what the launch deals the devices. -/
theorem fund : BI.own (ER (initOf cells tokens)) ⊢ (|==> bigSep Finset.univ (G m ρ) : sProp 𝕄) := by
  have hX (Φ : GSem nD τ sig → sProp 𝕄) : bigSep cells Φ = bigSep Finset.univ fun c : Dev nD => bigSep Finset.univ fun k : CI => Φ (kcell (c, k)) := by
    unfold cells; rw [BI.bigSep_map, BI.bigSep_univ_prod]; rfl
  have hG : bigSep Finset.univ (G (F := F) m ρ) = iprop((bigSep Finset.univ fun c : Dev nD => bigSep Finset.univ fun k : CI => roundState ER (Rd m ρ) (kcell (c, k)) 0)
    ∗ ((bigSep Finset.univ fun c : Dev nD => bigSep Finset.univ fun k : CI => atPos ER (kcell (c, k)) 0 ∅ 0)
      ∗ (bigSep Finset.univ fun c : Dev nD => bigSep Finset.univ fun k : CI => reached ER (kcell (c, k)) 0)) ∗ bigSep Finset.univ fun c : Dev nD => toks (F := F) c) := by
    rw [← bs_sep, ← bs_sep, ← bs_sep]; exact BI.bigSep_congr fun _ _ => rfl
  iintro HX
  imod (Rounds.fund ER (Rd m ρ) cells tokens) $$ HX with ⟨Hst, Hr, Hat, Htok⟩
  imodintro
  rw [hG, ← hX fun g => roundState ER (Rd m ρ) g 0, ← hX fun g => atPos ER g 0 ∅ 0, ← hX fun g => reached ER g 0, ← toks_eq]
  iframe

/-- The scoped semaphores are the transfer cells. -/
theorem ownSems0_eq (c : Dev nD) : (Pipeline.ownSems0 (Ix := Unit) (Name := ℕ) (U := UU) (Lvl := ℕ) (Val := Elt F) (τ := τ) osem c : sProp 𝕄)
    = bigSep Finset.univ fun x : Fin 3 × Dev nD => semVal (kcell (c, some x)) 0 := rfl
/-- The unscoped semaphore is the barrier cell. -/
theorem unscopedSems0_eq (c : Dev nD) : (unscopedSems0 c : sProp 𝕄) = semVal (barCell c) 0 := by
  unfold unscopedSems0; rw [bigSep_eq_bigSepL_of_eq [SemLoc.reg barS] (by decide) (by decide)]; rfl
/-- A device's semaphores: its barrier's and its transfers'. -/
theorem sems0_eq (c : Dev nD) : (bigSep Finset.univ fun k : CI => semVal (kcell (c, k)) 0 : sProp 𝕄)
    = iprop(unscopedSems0 c ∗ Pipeline.ownSems0 (Ix := Unit) (Name := ℕ) (U := UU) (Lvl := ℕ) (Val := Elt F) (τ := τ) osem c) := by
  rw [bs_option, ownSems0_eq, unscopedSems0_eq]

/-- A device's counters, at zero, become its cells' invariants. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : CI => iprop(∃ κ : ℕ, cellInv ER (Rd m ρ) κ (kcell (c, k))))
          ∗ ((bigSep Finset.univ fun k : CI => atPos ER (kcell (c, k)) 0 ∅ 0) ∗ (bigSep Finset.univ fun k : CI => reached ER (kcell (c, k)) 0)) ∗ toks (F := F) c) := by
  unfold G
  iintro ⟨Hos, Hus, Hst, Hat, Htok⟩
  ihave Hv := (Entails.of_eq (sems0_eq (F := F) c).symm) $$ [Hos Hus]
  · isplitl [Hus] <;> iassumption
  imod (show iprop((bigSep Finset.univ fun k : CI => semVal (kcell (c, k)) 0) ∗ bigSep Finset.univ fun k : CI => roundState ER (Rd m ρ) (kcell (c, k)) 0)
      ⊢ (|={Set.univ}=> bigSep Finset.univ fun k : CI => iprop(∃ κ : ℕ, cellInv ER (Rd m ρ) κ (kcell (c, k))) : sProp 𝕄) from by
        rw [← bs_sep]
        exact (BI.bigSep_mono fun k _ => (Rounds.body_intro ER (Rd m ρ) (kcell (c, k))).trans inv_alloc).trans (BI.bigSep_fupd _ _)) $$ [Hv Hst] with Hinv
  · isplitl [Hv] <;> iassumption
  imodintro
  isplitl [Hinv]; · iexact Hinv
  isplitl [Hat]; · iexact Hat
  iexact Htok

/-- The tokens dealt out: each to the device that pays with it. -/
theorem toks_around : (bigSep Finset.univ fun c : Dev nD => (toks c : sProp 𝕄)) = bigSep Finset.univ fun c : Dev nD => payToks c := by
  unfold toks payToks
  rw [bs_sep, bs_sep, bs_sep, bs_sep, bs_sep, bs_sep, bs_sep, bs_sep,
    BI.bigSep_univ_comm fun c j : Dev nD => (dutyTok ER (barCell c) 0 j : sProp 𝕄),
    BI.bigSep_univ_comm fun c j : Dev nD => (dutyTok ER (dcell 1 c j) 0 j : sProp 𝕄),
    BI.bigSep_univ_comm fun c j : Dev nD => (dutyTok ER (dcell 2 c j) 0 j : sProp 𝕄)]

/-- Shared records and a device's own part are what the device is dealt. -/
theorem dealt_intro (c : Dev nD) : iprop(records m ρ K ∗ linear (F := F) c) ⊢ dealt m ρ c := by
  unfold dealt
  iintro H; iexists K; iexact H

/-- Every device learns of all cells and receives the tokens it pays with. -/
theorem share_out :
    (bigSep Finset.univ fun c : Dev nD => iprop((bigSep Finset.univ fun k : CI => iprop(∃ κ : ℕ, cellInv ER (Rd m ρ) κ (kcell (c, k))))
          ∗ ((bigSep Finset.univ fun k : CI => atPos ER (kcell (c, k)) 0 ∅ 0) ∗ (bigSep Finset.univ fun k : CI => reached ER (kcell (c, k)) 0)) ∗ toks (F := F) c) : sProp 𝕄)
      ⊢ bigSep Finset.univ (dealt m ρ) := by
  rw [bs_sep, bs_sep, bs_sep, ← BI.bigSep_univ_prod (fun x : Dev nD × CI => iprop(∃ κ : ℕ, cellInv ER (Rd m ρ) κ (kcell x))),
    ← BI.bigSep_univ_prod (fun x : Dev nD × CI => (reached ER (kcell x) 0 : sProp 𝕄)), toks_around]
  iintro ⟨HI, ⟨Hat, #HR⟩, Htok⟩
  ihave HK := (BI.bigSep_exists_pi Finset.univ (fun (x : Dev nD × CI) (κ : ℕ) => (cellInv ER (Rd m ρ) κ (kcell x) : sProp 𝕄))) $$ HI
  icases HK with ⟨%K, #HI⟩
  iapply (bs_with (R := records m ρ K) fun c _ => dealt_intro m ρ K c)
  isplitr
  · unfold records; isplitl; · iexact HI
    iexact HR
  · iapply (Entails.of_eq (bs_sep Finset.univ (fun c : Dev nD => bigSep Finset.univ fun k : CI => (atPos ER (kcell (c, k)) 0 ∅ 0 : sProp 𝕄)) payToks).symm)
    isplitl [Hat]; · iexact Hat
    iexact Htok

/-- The launch: from counters at zero to what each device is dealt. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (dealt m ρ) :=
  ((BI.bigSep_mono fun c _ => core_alloc m ρ c).trans (BI.bigSep_fupd _ _)).trans (BI.fupd_mono (share_out m ρ))

/-! ## The launch's credit -/

/-- A barrier cell is no transfer cell. -/
theorem bar_ne_dma (c d j : Dev nD) (a : Fin 3) : barCell c ≠ dcell a d j := fun h => by cases congrArg Prod.snd h
/-- Equal cells are on one device. -/
theorem cell_dev {c d : Dev nD} {s t : SemLoc sig} (h : ((c : Thread nD τ), s) = ((d : Thread nD τ), t)) : c = d :=
  congrArg (fun g : GSem nD τ sig => g.1.1) h
/-- Equal transfer cells have the same array, device and place. -/
theorem dcell_inj {a b : Fin 3} {c d j k : Dev nD} (h : dcell a c j = dcell b d k) : a = b ∧ c = d ∧ j = k := by
  have h1 := kcell_injective (a₁ := (c, some (a, j))) (a₂ := (d, some (b, k))) h
  simp only [Prod.mk.injEq, Option.some.injEq] at h1
  exact ⟨h1.2.1, h1.1, h1.2.2⟩

/-- A sum of debts at a cell counts those that are owed at it. -/
theorem sum_tally {S : Finset (Dev nD)} {f : Dev nD → GSem nD τ sig} {n : ℕ} (g : GSem nD τ sig) :
    (∑ i ∈ S, tallyAt (f i) () n : CellTallies nD τ sig Unit) g () = ∑ i ∈ S, if g = f i then n else 0 := by
  rw [Finset.sum_apply, Finsupp.finset_sum_apply]
  refine Finset.sum_congr rfl fun i _ => ?_
  rw [tallyAt_apply]; simp only [and_true]

/-- A sum of debts owed elsewhere is zero at a cell. -/
theorem sum_none {S : Finset (Dev nD)} {f : Dev nD → GSem nD τ sig} {n : ℕ} {g : GSem nD τ sig} (h : ∀ i, g ≠ f i) :
    (∑ i ∈ S, tallyAt (f i) () n : CellTallies nD τ sig Unit) g () = 0 := by
  rw [sum_tally]; exact Finset.sum_eq_zero fun i _ => if_neg (h i)

/-- A sum of debts, one of which is owed at the cell, is that one. -/
theorem sum_dev {S : Finset (Dev nD)} {f : Dev nD → GSem nD τ sig} {n : ℕ} {g : GSem nD τ sig} {c : Dev nD} (h : ∀ i, g = f i ↔ c = i) :
    (∑ i ∈ S, tallyAt (f i) () n : CellTallies nD τ sig Unit) g () = if c ∈ S then n else 0 := by
  rw [sum_tally]; simp only [h]; exact Finset.sum_ite_eq S c fun _ => n

/-- What a device owes at a barrier cell. -/
theorem Ow_at_bar (d c : Dev nD) (S A B : Finset (Dev nD)) : Ow d S A B (barCell c) () = if c ∈ S then 1 else 0 := by
  unfold Ow
  rw [Pi.add_apply, Finsupp.add_apply, Pi.add_apply, Finsupp.add_apply, sum_none fun i => bar_ne_dma _ _ _ _, sum_none fun i => bar_ne_dma _ _ _ _,
    sum_dev (c := c) fun i => ⟨cell_dev, fun h => by rw [h]⟩, Nat.zero_add]
/-- What a device owes at a reduce-scatter cell. -/
theorem Ow_at_rs (d c k : Dev nD) (S A B : Finset (Dev nD)) : Ow d S A B (dcell 1 c k) () = if d = k ∧ c ∈ A then N else 0 := by
  unfold Ow
  rw [Pi.add_apply, Finsupp.add_apply, Pi.add_apply, Finsupp.add_apply, sum_none fun i h => absurd (dcell_inj h).1 (by decide),
    sum_none (f := fun i => barCell i) fun i h => bar_ne_dma _ _ _ _ h.symm, Nat.zero_add, Nat.add_zero]
  by_cases h : d = k
  · subst h
    rw [sum_dev (c := c) fun i => ⟨cell_dev, fun h => by rw [h]⟩]
    exact if_congr (by simp) rfl rfl
  · rw [sum_none fun i h' => h (dcell_inj h').2.2.symm, if_neg fun h' => h h'.1]
/-- What a device owes at an all-gather cell. -/
theorem Ow_at_ag (d c k : Dev nD) (S A B : Finset (Dev nD)) : Ow d S A B (dcell 2 c k) () = if d = k ∧ c ∈ B then N else 0 := by
  unfold Ow
  rw [Pi.add_apply, Finsupp.add_apply, Pi.add_apply, Finsupp.add_apply, sum_none (f := fun i => dcell 1 i d) fun i h => absurd (dcell_inj h).1 (by decide),
    sum_none (f := fun i => barCell i) fun i h => bar_ne_dma _ _ _ _ h.symm, Nat.add_zero]
  by_cases h : d = k
  · subst h
    rw [sum_dev (c := c) fun i => ⟨cell_dev, fun h => by rw [h]⟩]
    exact if_congr (by simp) rfl rfl
  · rw [sum_none fun i h' => h (dcell_inj h').2.2.symm, if_neg fun h' => h h'.1]

/-- At launch the devices together owe a barrier cell 31 units. -/
theorem launch_bar (c : Dev nD) :
    tallyOn (barCell c) (launchCredit (Pipeline.owing O₀) 0 (barCell c)) = (tallyAt (barCell c) () 31 : CellTallies nD τ sig Unit) := by
  unfold tallyAt; refine congrArg _ (Finsupp.ext fun u => ?_); cases u
  rw [Pipeline.launchCredit_owing, Finsupp.single_eq_same]
  unfold O₀
  rw [Finset.sum_congr rfl fun d _ => Ow_at_bar d c _ _ _]
  revert c; decide
/-- Of a sum over all devices only device `k` counts. -/
theorem sum_single_dev (c k : Dev nD) (h : k ≠ c) (n : ℕ) : (∑ d : Dev nD, if d = k ∧ c ∈ Finset.univ.erase d then n else 0) = n := by
  rw [Finset.sum_eq_single k (fun d _ hd => if_neg fun h' => hd h'.1) (fun h' => absurd (Finset.mem_univ k) h')]
  exact if_pos ⟨rfl, Finset.mem_erase.mpr ⟨h.symm, Finset.mem_univ _⟩⟩
/-- At launch the devices together owe a reduce-scatter cell one block. -/
theorem launch_rs (c k : Dev nD) (h : k ≠ c) :
    tallyOn (dcell 1 c k) (launchCredit (Pipeline.owing O₀) 0 (dcell 1 c k)) = (tallyAt (dcell 1 c k) () N : CellTallies nD τ sig Unit) := by
  unfold tallyAt; refine congrArg _ (Finsupp.ext fun u => ?_); cases u
  rw [Pipeline.launchCredit_owing, Finsupp.single_eq_same]
  unfold O₀
  rw [Finset.sum_congr rfl fun d _ => Ow_at_rs d c k _ _ _]
  exact sum_single_dev c k h N
/-- At launch the devices together owe an all-gather cell one block. -/
theorem launch_ag (c k : Dev nD) (h : k ≠ c) :
    tallyOn (dcell 2 c k) (launchCredit (Pipeline.owing O₀) 0 (dcell 2 c k)) = (tallyAt (dcell 2 c k) () N : CellTallies nD τ sig Unit) := by
  unfold tallyAt; refine congrArg _ (Finsupp.ext fun u => ?_); cases u
  rw [Pipeline.launchCredit_owing, Finsupp.single_eq_same]
  unfold O₀
  rw [Finset.sum_congr rfl fun d _ => Ow_at_ag d c k _ _ _]
  exact sum_single_dev c k h N

/-- The launch's credit is the credit of the device's own cells. -/
theorem creds_intro (c : Dev nD) : (Pipeline.launchCred O₀ c : sProp 𝕄) ⊢ creds c := by
  unfold Pipeline.launchCred creds
  have h : (bigSep Finset.univ fun sm : SemLoc sig => (cred (tallyOn ((c : Thread nD τ), sm) (launchCredit (Pipeline.owing O₀) 0 ((c : Thread nD τ), sm))) : sProp 𝕄))
      ⊢ bigSep Finset.univ fun k : CI => cred (tallyOn (kcell (c, k)) (launchCredit (Pipeline.owing O₀) 0 (kcell (c, k)))) := by
    refine (BI.bigSep_subset (t := Finset.univ.map ⟨csem, csem_inj⟩) (Finset.subset_univ _)).trans ?_
    rw [BI.bigSep_map]; exact BI.Entails.refl _
  refine h.trans ?_
  have h1 : (bigSep (Finset.univ.erase c) fun k => (cred (tallyAt (dcell 1 c k) () N) : sProp 𝕄))
      = bigSep (Finset.univ.erase c) fun k => cred (tallyOn (dcell 1 c k) (launchCredit (Pipeline.owing O₀) 0 (dcell 1 c k))) :=
    BI.bigSep_congr fun k hk => by rw [launch_rs c k (Finset.ne_of_mem_erase hk)]
  have h2 : (bigSep (Finset.univ.erase c) fun k => (cred (tallyAt (dcell 2 c k) () N) : sProp 𝕄))
      = bigSep (Finset.univ.erase c) fun k => cred (tallyOn (dcell 2 c k) (launchCredit (Pipeline.owing O₀) 0 (dcell 2 c k))) :=
    BI.bigSep_congr fun k hk => by rw [launch_ag c k (Finset.ne_of_mem_erase hk)]
  rw [bs_cells c, h1, h2, ← launch_bar]
  iintro ⟨H0, -, ⟨-, H1⟩, -, H2⟩
  isplitl [H0]; · iexact H0
  isplitl [H1]; · iexact H1
  iexact H2

/-! ## The run -/

/-- What the launch gives a thread is what the kernel call begins with. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ dealt m ρ c)
      ⊢ |={Set.univ}=> iprop(begin m ρ c ∗ emp) := by
  iintro ⟨-, Hlev, Hcr, -, HG⟩
  ihave Hc := (creds_intro (F := F) c) $$ Hcr
  imodintro
  unfold begin
  isplitl
  · isplitl [HG]; · iexact HG
    isplitl [Hc]; · iexact Hc
    iexact Hlev
  · iempintro

/-- What the kernel call begins with, and its scratch buffers, is the first step's invariant. -/
theorem phi0_intro (c : Dev nD) :
    iprop(begin m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs]; · iexact Hs
  iexact Hr

/-- The last invariant gives back the counters, at zero, and the scratch buffers. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m ρ c from rfl, scopedRest0_eq]
  unfold Φ₁
  rw [sems0_eq]
  iintro ⟨Hp, Hr, Hu, Hs⟩
  isplitl [Hu]; · iexact Hu
  isplitl [Hs]; · iexact Hs
  isplitl [Hp]; · iexists (partAll m ρ c); iexact Hp
  iexists (rsAll m ρ c); iexact Hr

/-- The staging semaphores are at level 0. -/
theorem lv_stage (c : Dev nD) : ∀ (w : Fin 5) (s : Fin (cfg0.spec w).nbuf), lv ((c : Thread nD τ), .dma ((cfg0.spec w).sem s)) () ≤ 0 := by
  intro w s
  have h2 : ∀ (w : Fin 5) (s : Fin (cfg0.spec w).nbuf), ((cfg0.spec w).sem s).val < 5 := by decide
  dsimp only [lv]; rw [if_pos (h2 w s)]

/-- The waits of the staging transfers are allowed. -/
theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_of c _ 0 _ _ _ (lv_stage c w s) (.inl (by decide)) (.inl (by decide)) (.inl (by decide))
    · have h := mayWait_of (F := F) c (.dma ((cfg0.spec w).sem s)) 0 ∅ ∅ ∅ (lv_stage c w s) (.inl (by decide)) (.inl (by decide)) (.inl (by decide))
      rw [Ow_empty] at h
      exact h

/-- What a window's array holds after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- For any float values and any memory: every weakly fair execution of the 32 devices terminates, each window's array
    ends at the computed contents and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := dealt m ρ) (u₀ := u₀)
    (hu₀ := by
      unfold u₀
      iintro Hu
      ihave H := (ownU_pair _ _) $$ Hu
      icases H with ⟨HP, HX⟩
      imod (fund m ρ) $$ HX with HG
      imodintro
      isplitl [HP] <;> iassumption)
    (hglob := glob m ρ)
    (hA := fun _ _ => rfl) (hpf := fun _ k => k.elim0)
    (X := begin m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdealProof

end
-- ==== Proof.Outcome.lean ====
/-
# What the run leaves

Every argument array as it was, and every device's result array at the 32 partial products summed.
-/
module

public import proofs.«01_k».proof.Proof.Launch

@[expose] public section

set_option maxRecDepth 1000000

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf)

variable {F : FTy → Type} [FloatOps F]

local notation "𝕄" => MT nD τ sig Unit (Elt F) ℕ UU ℕ

variable (m : (ℓ : Loc nD τ sig) → Buf (Elt F) ℓ) (ρ : Dev nD → PrngReg)

/-! ## The windows' blocks are whole arrays -/

/-- The first operand's window is the whole array. -/
theorem read_x (f : (main_arg0 : Ref sig .tc).ty.Contents (Elt F)) : (win0_0.blk (0 : Fin 1)).view.read (Elt F) f = f :=
  Memref.read_access_unit_zero (Elt F) main_arg0 (funext fun a => by fin_cases a <;> rfl) (fun a => by fin_cases a <;> decide) f
/-- The second operand's window is the whole array. -/
theorem read_g (f : (main_arg1 : Ref sig .tc).ty.Contents (Elt F)) : (win0_1.blk (0 : Fin 1)).view.read (Elt F) f = f :=
  Memref.read_access_unit_zero (Elt F) main_arg1 (funext fun a => by fin_cases a <;> rfl) (fun a => by fin_cases a <;> decide) f
/-- The third operand's window is the whole array. -/
theorem read_u (f : (main_arg2 : Ref sig .tc).ty.Contents (Elt F)) : (win0_2.blk (0 : Fin 1)).view.read (Elt F) f = f :=
  Memref.read_access_unit_zero (Elt F) main_arg2 (funext fun a => by fin_cases a <;> rfl) (fun a => by fin_cases a <;> decide) f
/-- The fourth operand's window is the whole array. -/
theorem read_d (f : (main_arg3 : Ref sig .tc).ty.Contents (Elt F)) : (win0_3.blk (0 : Fin 1)).view.read (Elt F) f = f :=
  Memref.read_access_unit_zero (Elt F) main_arg3 (funext fun a => by fin_cases a <;> rfl) (fun a => by fin_cases a <;> decide) f
/-- The result's window is the whole array. -/
theorem read_o (f : (main_v1 : Ref sig .tc).ty.Contents (Elt F)) : (win0_4.blk (0 : Fin 1)).view.read (Elt F) f = f :=
  Memref.read_access_unit_zero (Elt F) main_v1 (funext fun a => by fin_cases a <;> rfl) (fun a => by fin_cases a <;> decide) f

/-- The first operand as staged is the argument. -/
theorem xstg_eq (c : Dev nD) : xstg m ρ c = m ((c : Thread nD τ).loc main_arg0) := read_x _
/-- The second operand as staged is the argument. -/
theorem gstg_eq (c : Dev nD) : gstg m ρ c = m ((c : Thread nD τ).loc main_arg1) := read_g _
/-- The third operand as staged is the argument. -/
theorem ustg_eq (c : Dev nD) : ustg m ρ c = m ((c : Thread nD τ).loc main_arg2) := read_u _
/-- The fourth operand as staged is the argument. -/
theorem dstg_eq (c : Dev nD) : dstg m ρ c = m ((c : Thread nD τ).loc main_arg3) := read_d _

/-! ## The arrays after the run -/

/-- The first argument ends as it was. -/
theorem final_x (c : Dev nD) : finalA m ρ c (0 : Fin 5) = m ((c : Thread nD τ).loc main_arg0) := (dats (F := F) m ρ 0 c).arrAt_in (0 : Fin 5) rfl _
/-- The second argument ends as it was. -/
theorem final_g (c : Dev nD) : finalA m ρ c (1 : Fin 5) = m ((c : Thread nD τ).loc main_arg1) := (dats (F := F) m ρ 0 c).arrAt_in (1 : Fin 5) rfl _
/-- The third argument ends as it was. -/
theorem final_u (c : Dev nD) : finalA m ρ c (2 : Fin 5) = m ((c : Thread nD τ).loc main_arg2) := (dats (F := F) m ρ 0 c).arrAt_in (2 : Fin 5) rfl _
/-- The fourth argument ends as it was. -/
theorem final_d (c : Dev nD) : finalA m ρ c (3 : Fin 5) = m ((c : Thread nD τ).loc main_arg3) := (dats (F := F) m ρ 0 c).arrAt_in (3 : Fin 5) rfl _

/-- The result ends as the whole result. -/
theorem final_o (c : Dev nD) : finalA m ρ c (4 : Fin 5) = outAll m ρ := by
  have h : (win0_4.blk (0 : Fin 1)).view.read (Elt F) (finalA m ρ c (4 : Fin 5)) = outAll m ρ := by
    unfold finalA
    rw [show cfg0.N = ((0 : Fin 1) : Fin cfg0.N).val + 1 from rfl, (dats m ρ 0 c).arrAt_succ (4 : Fin 5) (0 : Fin 1)]
    rw [show (cfg0.win (4 : Fin 5)).flush (0 : Fin 1) = true from by decide, if_pos rfl]
    exact View.read_write_univ _ _
  exact (read_o _).symm.trans h

/-- For any float values, from any memory with zero counters: every weakly fair execution of the 32 devices terminates
    with each device's result the 32 partial products summed, its arguments as they were and every counter at zero. -/
theorem run_ends : θ_run defs (onTc (τ := τ) (main (F := F))) ⟨m, fun _ => 0, ρ⟩ (fun r => (∀ c : Dev nD,
      r.2.mem ((c.tc : Thread nD τ).loc main_v1) = outAll m ρ
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(h.1 c (4 : Fin 5)).trans (final_o m ρ c), (h.1 c (0 : Fin 5)).trans (final_x m ρ c),
    (h.1 c (1 : Fin 5)).trans (final_g m ρ c), (h.1 c (2 : Fin 5)).trans (final_u m ρ c), (h.1 c (3 : Fin 5)).trans (final_d m ρ c)⟩, h.2⟩) (run_main m ρ)

end Cert.KernelIdealProof

end
-- ==== Proof.Reference.lean ====
/-
# The reference's value at the ideal values

The hidden activation by entries, the reference's result as a sum over all 65536 hidden columns, and how it splits into
the 32 devices' blocks of 2048 columns.
-/
module

public import proofs.«01_k».proof.Proof.Gen.ReferenceIdeal
public import Idealize.ShloMosaic.Lib.StackMember
public import Idealize.ShloMosaic.Lib.IdealHost
public import Idealize.ShloMosaic.Lib.Layout

@[expose] public section

set_option maxRecDepth 4000

noncomputable section

namespace Cert.ReferenceIdealProof

open Cert.ReferenceIdeal Cert.ReferenceIdeal.Gen

open Idealize.ShloMosaic
open scoped BigOperators

/-! ## The hidden activation -/

/-- An entry of the product of a 1024 × 1024 matrix with one of `n` columns. -/
def entry {n : ℕ} (A : FVec Ideal ⟨2, ![1024, 1024]⟩ .bf16) (B : FVec Ideal ⟨2, ![1024, n]⟩ .bf16) (r : Fin 1024) (h : Fin n) : EReal :=
  ∑ k : Fin 1024, A (ValueIdx.ix2 r k) * B (ValueIdx.ix2 k h)

/-- An entry of the hidden activation: the gate times the up-projection `u` through `u / (1 + exp (-u))`. -/
def hidden {n : ℕ} (A : FVec Ideal ⟨2, ![1024, 1024]⟩ .bf16) (G U : FVec Ideal ⟨2, ![1024, n]⟩ .bf16) (r : Fin 1024) (h : Fin n) : EReal :=
  entry A G r h * Ideal.div (entry A U r h) (1 + Ideal.exp (-(entry A U r h)))

/-- The exponential is nowhere negative. -/
theorem exp_nonneg (x : EReal) : 0 ≤ Ideal.exp x := by
  induction x with
  | bot => exact le_of_eq Ideal.exp_bot.symm
  | top => exact le_top
  | coe r => rw [Ideal.exp_coe]; exact EReal.coe_nonneg.mpr (Real.exp_pos r).le

/-- One plus an exponential is never zero. -/
theorem one_add_exp_ne (x : EReal) : 1 + Ideal.exp x ≠ 0 := by
  have h := Ideal.one_add_sum_ne_zero (Finset.univ : Finset (Fin 1)) (fun _ => Ideal.exp x) fun _ _ => exp_nonneg x
  simpa using h

/-- A value times its logistic is the value over one plus the exponential of its negative. -/
theorem mul_logistic (x : EReal) : x * Ideal.logistic x = Ideal.div x (1 + Ideal.exp (-x)) :=
  Ideal.mul_one_div (one_add_exp_ne (-x))

/-! ## The reference's value -/

/-- What the reference computes of its four arrays. -/
def refOut (X : FVec Ideal S1024x1024 .bf16) (G U : FVec Ideal S1024x65536 .bf16)
    (D : FVec Ideal S65536x1024 .bf16) : FVec Ideal S1024x1024 .bf16 :=
  truncf .bf16 (Host.dotGeneral dot_S1024x65536_S65536x1024_S1024x1024_1_0_0_1_n_n none
    (mulf (truncf .bf16 (Host.dotGeneral dot_S1024x1024_S1024x65536_S1024x65536_1_0_0_1_n_n none X G) bitsLt_bf16_f32)
      (Host.divf (truncf .bf16 (Host.dotGeneral dot_S1024x1024_S1024x65536_S1024x65536_1_0_0_1_n_n none X U) bitsLt_bf16_f32)
        (addf (broadcastInDim S1024x65536 ![] bcast_S_S1024x65536 (constant S_ .bf16 0x3F80#16))
          (Host.exp (Host.negf (truncf .bf16 (Host.dotGeneral dot_S1024x1024_S1024x65536_S1024x65536_1_0_0_1_n_n none X U) bitsLt_bf16_f32)))))) D) bitsLt_bf16_f32

/-- An entry of the reference's first products. -/
theorem ref_product (A : FVec Ideal S1024x1024 .bf16) (B : FVec Ideal S1024x65536 .bf16) (r : Fin 1024) (h : Fin 65536) :
    Host.dotGeneral dot_S1024x1024_S1024x65536_S1024x65536_1_0_0_1_n_n none A B (ValueIdx.ix2 r h) = entry A B r h :=
  StackMember.dotGeneral_plain_apply none A B r h

/-- An entry of the reference's result: the sum over all hidden columns. -/
theorem refOut_apply (X : FVec Ideal S1024x1024 .bf16) (G U : FVec Ideal S1024x65536 .bf16)
    (D : FVec Ideal S65536x1024 .bf16) (r l : Fin 1024) :
    refOut X G U D (ValueIdx.ix2 r l) = ∑ h : Fin 65536, hidden X G U r h * D (ValueIdx.ix2 h l) := by
  unfold refOut
  refine (StackMember.dotGeneral_plain_apply none _ D r l).trans ?_
  refine Finset.sum_congr rfl fun h _ => congrArg (· * D (ValueIdx.ix2 h l)) ?_
  refine Eq.trans (b := Host.dotGeneral dot_S1024x1024_S1024x65536_S1024x65536_1_0_0_1_n_n none X G (ValueIdx.ix2 r h)
    * Ideal.div (Host.dotGeneral dot_S1024x1024_S1024x65536_S1024x65536_1_0_0_1_n_n none X U (ValueIdx.ix2 r h))
      (Ideal.ofBits .bf16 0x3F80#16 + Ideal.exp (-(Host.dotGeneral dot_S1024x1024_S1024x65536_S1024x65536_1_0_0_1_n_n none X U (ValueIdx.ix2 r h))))) rfl ?_
  rw [ref_product, ref_product, Ideal.ofBits_one_bf16]
  rfl

/-! ## The devices' blocks -/

/-- A sum over 65536 columns is one over 32 blocks of 2048. -/
theorem sum_blocks (f : Fin 65536 → EReal) :
    ∑ h, f h = ∑ k : Fin 32, ∑ h : Fin 2048, f ⟨k.val * 2048 + h.val, by have := k.isLt; have := h.isLt; omega⟩ := by
  rw [← Equiv.sum_comp (finProdFinEquiv : Fin 32 × Fin 2048 ≃ Fin 65536), Fintype.sum_prod_type]
  refine Finset.sum_congr rfl fun k _ => Finset.sum_congr rfl fun h _ => congrArg f (Fin.ext ?_)
  show h.val + 2048 * k.val = k.val * 2048 + h.val
  omega

/-- An entry of device `c`'s block of columns. -/
theorem block_col (B : FVec Ideal ⟨2, ![1024, 65536]⟩ .bf16) (c : Fin 32) (k : Fin 1024) (h : Fin 2048) :
    Layout.block ⟨2, ![1024, 2048]⟩ ⟨2, ![1024, 65536]⟩ 1 32 c B (by decide) (ValueIdx.ix2 k h)
      = B (ValueIdx.ix2 k ⟨c.val * 2048 + h.val, by have := c.isLt; have := h.isLt; omega⟩) := by
  rw [Layout.block_apply]
  refine congrArg B (funext fun a => ?_)
  fin_cases a <;> rfl

/-- An entry of device `c`'s block of rows. -/
theorem block_row (B : FVec Ideal ⟨2, ![65536, 1024]⟩ .bf16) (c : Fin 32) (h : Fin 2048) (l : Fin 1024) :
    Layout.block ⟨2, ![2048, 1024]⟩ ⟨2, ![65536, 1024]⟩ 0 32 c B (by decide) (ValueIdx.ix2 h l)
      = B (ValueIdx.ix2 ⟨c.val * 2048 + h.val, by have := c.isLt; have := h.isLt; omega⟩ l) := by
  rw [Layout.block_apply]
  refine congrArg B (funext fun a => ?_)
  fin_cases a <;> rfl

/-- An entry of a product with device `c`'s block of columns is one of the product with the whole array. -/
theorem entry_block (A : FVec Ideal ⟨2, ![1024, 1024]⟩ .bf16) (B : FVec Ideal ⟨2, ![1024, 65536]⟩ .bf16) (c : Fin 32) (r : Fin 1024) (h : Fin 2048) :
    entry A (Layout.block ⟨2, ![1024, 2048]⟩ ⟨2, ![1024, 65536]⟩ 1 32 c B (by decide)) r h
      = entry A B r ⟨c.val * 2048 + h.val, by have := c.isLt; have := h.isLt; omega⟩ := by
  unfold entry
  exact Finset.sum_congr rfl fun k _ => by rw [block_col]

/-- The hidden activation of device `c`'s columns is the whole one's at these columns. -/
theorem hidden_block (A : FVec Ideal ⟨2, ![1024, 1024]⟩ .bf16) (G U : FVec Ideal ⟨2, ![1024, 65536]⟩ .bf16) (c : Fin 32) (r : Fin 1024) (h : Fin 2048) :
    hidden A (Layout.block ⟨2, ![1024, 2048]⟩ ⟨2, ![1024, 65536]⟩ 1 32 c G (by decide)) (Layout.block ⟨2, ![1024, 2048]⟩ ⟨2, ![1024, 65536]⟩ 1 32 c U (by decide)) r h
      = hidden A G U r ⟨c.val * 2048 + h.val, by have := c.isLt; have := h.isLt; omega⟩ := by
  unfold hidden
  rw [entry_block, entry_block]

end Cert.ReferenceIdealProof

end
-- ==== Proof.Values.lean ====
/-
# The result at the ideal values

Each device's partial product, their sum, and the reference's product over all 65536 hidden columns: the same sum.
-/
module

public import proofs.«01_k».proof.Proof.Outcome
public import proofs.«01_k».proof.Proof.Reference
public import Idealize.ShloMosaic.Lib.MatmulPlain
public import Idealize.ShloMosaic.Lib.Pipeline.Value

@[expose] public section

set_option maxRecDepth 4000

noncomputable section

namespace Cert.KernelIdealProof

open Cert.KernelIdeal Cert.KernelIdeal.Gen
open Cert.ReferenceIdealProof

open Idealize.ShloMosaic
open Idealize.ShloMosaic.TcCoe
open scoped BigOperators

variable (m : (ℓ : Loc nD τ sig) → Buf (Elt Ideal) ℓ) (ρ : Dev nD → PrngReg)

/-- An index of two coordinates, as the protocol spells it and as the products do. -/
theorem ix2_eq {n0 n1 : ℕ} (a : Fin n0) (b : Fin n1) : Idealize.ShloMosaic.ix2 a b = ValueIdx.ix2 a b := by
  funext i; fin_cases i <;> rfl

/-! ## The hidden activation -/

/-- An entry of the kernel's first products. -/
theorem product_apply (A : FVec Ideal S1024x1024 .bf16) (B : FVec Ideal S1024x2048 .bf16) (r : Fin 1024) (h : Fin 2048) :
    matmul dot_S1024x1024_S1024x2048_S1024x2048_1_0_0_1_n_n none A B (constant S1024x2048 .f32 0x00000000#32) (ValueIdx.ix2 r h) = entry A B r h := by
  refine (Ideal.matmul_plain_apply none A B _ r h).trans ?_
  rw [show (constant S1024x2048 .f32 0x00000000#32 : FVec Ideal S1024x2048 .f32) (ValueIdx.ix2 r h) = 0 from by simp [constant, Ideal.ofBits, Ideal.ieee], zero_add]
  rfl

/-- An entry of device `c`'s activation: the hidden activation of its columns. -/
theorem act_apply (c : Dev nD) (r : Fin 1024) (h : Fin 2048) :
    act m ρ c (ValueIdx.ix2 r h) = hidden (xstg m ρ c) (gstg m ρ c) (ustg m ρ c) r h := by
  unfold act k0_pay1
  simp only [shapeCast_self]
  refine Eq.trans (b := matmul dot_S1024x1024_S1024x2048_S1024x2048_1_0_0_1_n_n none (xstg m ρ c) (gstg m ρ c) (constant S1024x2048 .f32 0x00000000#32) (ValueIdx.ix2 r h)
    * (matmul dot_S1024x1024_S1024x2048_S1024x2048_1_0_0_1_n_n none (xstg m ρ c) (ustg m ρ c) (constant S1024x2048 .f32 0x00000000#32) (ValueIdx.ix2 r h)
      * Ideal.logistic (matmul dot_S1024x1024_S1024x2048_S1024x2048_1_0_0_1_n_n none (xstg m ρ c) (ustg m ρ c) (constant S1024x2048 .f32 0x00000000#32) (ValueIdx.ix2 r h)))) rfl ?_
  rw [product_apply, product_apply, mul_logistic]
  rfl

/-! ## The partial products -/

/-- 256 rows of the activation, from row `o` on, times the down-projection. -/
theorem rows_product (o : ℕ) (ho : o + 256 ≤ 1024) (hs : S1024x2048.Slices ![o, 0] S256x2048) (A : FVec Ideal S1024x2048 .bf16) (B : FVec Ideal S2048x1024 .bf16)
    (i : Fin 256) (l : Fin 1024) :
    (truncf .bf16 (matmul dot_S256x2048_S2048x1024_S256x1024_1_0_0_1_n_n none (extractStridedSlice S256x2048 ![o, 0] A hs) B
      (constant S256x1024 .f32 0x00000000#32)) bitsLt_bf16_f32 : FVec Ideal S256x1024 .bf16) (ValueIdx.ix2 i l)
      = ∑ h : Fin 2048, A (ValueIdx.ix2 ⟨o + i.val, by have := i.isLt; omega⟩ h) * B (ValueIdx.ix2 h l) := by
  refine (Ideal.matmul_plain_apply none (extractStridedSlice S256x2048 ![o, 0] A hs) B _ i l).trans ?_
  rw [show (constant S256x1024 .f32 0x00000000#32 : FVec Ideal S256x1024 .f32) (ValueIdx.ix2 i l) = 0 from by simp [constant, Ideal.ofBits, Ideal.ieee], zero_add]
  refine Finset.sum_congr rfl fun h _ => ?_
  rw [extractStridedSlice_apply ![o, 0] A hs (ValueIdx.ix2 i h) (ValueIdx.ix2 ⟨o + i.val, by have := i.isLt; omega⟩ h) fun a => by fin_cases a <;> simp <;> rfl]

/-- An entry of a quarter of device `c`'s partial product. -/
theorem wave_apply (c : Dev nD) (q : Fin 4) (i : Fin 256) (l : Fin 1024) :
    wave m ρ c q (ValueIdx.ix2 i l) = ∑ h : Fin 2048, act m ρ c (ValueIdx.ix2 ⟨256 * q.val + i.val, by have := i.isLt; have := q.isLt; omega⟩ h) * dstg m ρ c (ValueIdx.ix2 h l) := by
  fin_cases q
  · refine Eq.trans (b := k0_pay2 (xstg m ρ c) (gstg m ρ c) (xstg m ρ c) (ustg m ρ c) (dstg m ρ c) (ValueIdx.ix2 i l)) rfl ?_
    unfold k0_pay2; simp only [shapeCast_self]
    exact rows_product 0 (by decide) _ (act m ρ c) _ i l
  · refine Eq.trans (b := k0_pay11 (act m ρ c) (dstg m ρ c) (ValueIdx.ix2 i l)) rfl ?_
    unfold k0_pay11; simp only [shapeCast_self]
    exact rows_product 256 (by decide) _ (act m ρ c) _ i l
  · refine Eq.trans (b := k0_pay20 (act m ρ c) (dstg m ρ c) (ValueIdx.ix2 i l)) rfl ?_
    unfold k0_pay20; simp only [shapeCast_self]
    exact rows_product 512 (by decide) _ (act m ρ c) _ i l
  · refine Eq.trans (b := k0_pay29 (act m ρ c) (dstg m ρ c) (ValueIdx.ix2 i l)) rfl ?_
    unfold k0_pay29; simp only [shapeCast_self]
    exact rows_product 768 (by decide) _ (act m ρ c) _ i l

/-- A row of block `j` is a row of the matrix. -/
theorem row_lt (j : Dev nD) (i : Fin 32) : 32 * j.val + i.val < 1024 := by
  have := i.isLt; have : j.val < 32 := j.isLt; omega

/-- An entry of block `j` of device `c`'s partial product: the sum over the device's hidden columns. -/
theorem partC_apply (c j : Dev nD) (i : Fin 32) (l : Fin 1024) :
    partC m ρ c j (ValueIdx.ix2 i l) = ∑ h : Fin 2048, act m ρ c (ValueIdx.ix2 ⟨32 * j.val + i.val, row_lt j i⟩ h) * dstg m ρ c (ValueIdx.ix2 h l) := by
  refine (wave_apply m ρ c (quarter j) ⟨32 * (j.val % 8) + i.val, by have := i.isLt; omega⟩ l).trans ?_
  refine Finset.sum_congr rfl fun h _ => ?_
  have e : (⟨256 * (quarter j).val + (32 * (j.val % 8) + i.val), by have := i.isLt; have := (quarter j).isLt; omega⟩ : Fin 1024)
      = ⟨32 * j.val + i.val, row_lt j i⟩ := Fin.ext (by show 256 * (j.val / 8) + (32 * (j.val % 8) + i.val) = 32 * j.val + i.val; omega)
  exact congrArg (fun r : Fin 1024 => act m ρ c (ValueIdx.ix2 r h) * dstg m ρ c (ValueIdx.ix2 h l)) e

/-- An entry of device `c`'s rows of the result: the sum over all devices' partial products. -/
theorem total_apply (c : Dev nD) (i : Fin 32) (l : Fin 1024) : total m ρ c (ValueIdx.ix2 i l) = ∑ k : Dev nD, partC m ρ k c (ValueIdx.ix2 i l) := by
  unfold total k0_pay38
  refine (Ideal.multiReduction_add_single (s := S32x32x1024) (t := S32x1024) (a := 0) (extf .f32 (rsAll m ρ c) bitsLt_bf16_f32) 0x00000000#32
    reduces_S32x32x1024_S32x1024 (.inl rfl) rfl (ValueIdx.ix2 i l)).trans ?_
  refine Finset.sum_congr rfl fun k _ => ?_
  have e : (fun a : Fin 2 => (Shape.Reduces.lift (s := S32x32x1024) (t := S32x1024) (a := 0) reduces_S32x32x1024_S32x1024 (ValueIdx.ix2 i l) k) a.succ) = ValueIdx.ix2 i l := by
    funext a; fin_cases a <;> rfl
  exact congrArg (partC m ρ k c) e

/-- An entry of the result: the sum over devices and their hidden columns. -/
theorem outAll_apply (r l : Fin 1024) :
    outAll m ρ (ValueIdx.ix2 r l) = ∑ k : Dev nD, ∑ h : Fin 2048, hidden (xstg m ρ k) (gstg m ρ k) (ustg m ρ k) r h * dstg m ρ k (ValueIdx.ix2 h l) := by
  refine (total_apply m ρ ⟨r.val / 32, by have := r.isLt; show _ < 32; omega⟩ ⟨r.val % 32, Nat.mod_lt _ (by decide)⟩ l).trans ?_
  refine Finset.sum_congr rfl fun k _ => ?_
  rw [partC_apply]
  refine Finset.sum_congr rfl fun h _ => ?_
  rw [act_apply]
  have e : (⟨32 * (r.val / 32) + r.val % 32, by have := r.isLt; omega⟩ : Fin 1024) = r := Fin.ext (by show 32 * (r.val / 32) + r.val % 32 = r.val; omega)
  exact congrArg (fun r : Fin 1024 => hidden (xstg m ρ k) (gstg m ρ k) (ustg m ρ k) r h * dstg m ρ k (ValueIdx.ix2 h l)) e

/-! ## The two agree -/

/-- When the devices hold their blocks of the reference's arrays, the kernel's result is the reference's. -/
theorem outAll_eq (X : FVec Ideal ⟨2, ![1024, 1024]⟩ .bf16) (G U : FVec Ideal ⟨2, ![1024, 65536]⟩ .bf16) (D : FVec Ideal ⟨2, ![65536, 1024]⟩ .bf16)
    (hX : ∀ c : Dev nD, m ((c.tc : Thread nD τ).loc main_arg0) = X)
    (hG : ∀ c : Dev nD, m ((c.tc : Thread nD τ).loc main_arg1) = Layout.block ⟨2, ![1024, 2048]⟩ ⟨2, ![1024, 65536]⟩ 1 32 c G (by decide))
    (hU : ∀ c : Dev nD, m ((c.tc : Thread nD τ).loc main_arg2) = Layout.block ⟨2, ![1024, 2048]⟩ ⟨2, ![1024, 65536]⟩ 1 32 c U (by decide))
    (hD : ∀ c : Dev nD, m ((c.tc : Thread nD τ).loc main_arg3) = Layout.block ⟨2, ![2048, 1024]⟩ ⟨2, ![65536, 1024]⟩ 0 32 c D (by decide)) :
    outAll m ρ = refOut X G U D := by
  funext i
  obtain ⟨r, l, rfl⟩ : ∃ (r l : Fin 1024), i = ValueIdx.ix2 r l := ⟨i 0, i 1, by funext a; fin_cases a <;> rfl⟩
  rw [outAll_apply, refOut_apply, sum_blocks]
  refine Finset.sum_congr rfl fun k _ => Finset.sum_congr rfl fun h _ => ?_
  rw [xstg_eq, gstg_eq, ustg_eq, dstg_eq, hX, hG, hU, hD]
  exact congrArg₂ (· * ·) (hidden_block X G U k r h) (block_row D k h l)

end Cert.KernelIdealProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Outcome
public import proofs.«01_k».proof.Proof.Values
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel as compiled runs, leaves its arguments as they were and every counter at zero. -/
theorem frame_kernel : Cert.quiescent_Kernel (hKernel := Cert.Kernel.Gen.facts) := fun m g _ =>
  (θ_run Cert.Kernel.defs _ _).mono (fun _ h => ⟨fun c => (h.1 c).2, h.2⟩) (Cert.KernelProof.run_ends (F := Bits) m g)

/-- The ideal kernel runs, leaves its arguments as they were and every counter at zero. -/
theorem frame_ideal : Cert.quiescent_KernelIdeal (hKernelIdeal := Cert.KernelIdeal.Gen.facts) := fun m g _ =>
  (θ_run Cert.KernelIdeal.defs _ _).mono (fun _ h => ⟨fun c => (h.1 c).2, h.2⟩) (Cert.KernelIdealProof.run_ends (F := Ideal) m g)

/-- The reference runs and leaves its arguments as they were; it has no semaphores, so no counter is off zero. -/
theorem frame_reference : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

/-- At exact values every device of the kernel ends with the reference's result. -/
theorem same_value : Cert.algebraic_KernelIdeal_ReferenceIdeal (hKernelIdeal := Cert.KernelIdeal.Gen.facts)
    (hReferenceIdeal := Cert.ReferenceIdeal.Gen.facts) := by
  intro m g m' g' _ hagree
  refine ⟨Cert.ReferenceIdealProof.refOut
    (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3)), ?_, ?_⟩
  rotate_left
  · exact (θ_run Cert.ReferenceIdeal.defs _ _).mono (fun _ h => h 0) (Cert.ReferenceIdeal.Value.run (F := Ideal) m' g')
  · exact (θ_run Cert.KernelIdeal.defs _ _).mono
      (fun _ h c => ⟨(h.1 c).1.trans (Cert.KernelIdealProof.outAll_eq m g _ _ _ _ (fun d => (hagree d).1) (fun d => (hagree d).2.1)
        (fun d => (hagree d).2.2.1) (fun d => (hagree d).2.2.2)), (h.1 c).2⟩)
      (Cert.KernelIdealProof.run_ends (F := Ideal) m g)

/-- All five claims. -/
theorem claim : Cert.Claim := ⟨Cert.Kernel.Gen.facts, Cert.KernelIdeal.Gen.facts, Cert.ReferenceIdeal.Gen.facts,
  frame_kernel, frame_ideal, frame_reference, trivial, same_value⟩

end Cert.Proof

end
